-- ==== Defs.lean ====
def Pre_Kernel [hPre_nodes_in_range : Cert.Pre_nodes_in_range.Facts] (m : (ℓ : Loc Cert.Kernel.nD Cert.Kernel.τ Cert.Kernel.sig) → Buf (Elt Bits) ℓ) : Prop :=
  ∀ c : Dev Cert.Kernel.nD,
    (Cert.Pre_nodes_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_nodes_in_range : Cert.Pre_nodes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_nodes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_KernelIdeal_nodes_in_range_and_finite [hPre_nodes_in_range_and_finite : Cert.Pre_nodes_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_nodes_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).1 = (fun _ => 1#1)
    ∧ (Cert.Pre_nodes_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.1 = (fun _ => 1#1)
    ∧ (Cert.Pre_nodes_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.1 = (fun _ => 1#1)
    ∧ (Cert.Pre_nodes_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.1 = (fun _ => 1#1)
    ∧ (Cert.Pre_nodes_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.1 = (fun _ => 1#1)
    ∧ (Cert.Pre_nodes_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.1 = (fun _ => 1#1)
    ∧ (Cert.Pre_nodes_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.1 = (fun _ => 1#1)
    ∧ (Cert.Pre_nodes_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.1 = (fun _ => 1#1)
    ∧ (Cert.Pre_nodes_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nodes_in_range_and_finite [hPre_nodes_in_range_and_finite : Cert.Pre_nodes_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nodes_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).1 = (fun _ => 1#1)
    ∧ (Cert.Pre_nodes_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.1 = (fun _ => 1#1)
    ∧ (Cert.Pre_nodes_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.1 = (fun _ => 1#1)
    ∧ (Cert.Pre_nodes_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.1 = (fun _ => 1#1)
    ∧ (Cert.Pre_nodes_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.1 = (fun _ => 1#1)
    ∧ (Cert.Pre_nodes_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.1 = (fun _ => 1#1)
    ∧ (Cert.Pre_nodes_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.1 = (fun _ => 1#1)
    ∧ (Cert.Pre_nodes_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.1 = (fun _ => 1#1)
    ∧ (Cert.Pre_nodes_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2 = (fun _ => 1#1)

def quiescent_Kernel [hKernel : Cert.Kernel.Facts] [hPre_nodes_in_range : Cert.Pre_nodes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] [hPre_nodes_in_range : Cert.Pre_nodes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_nodes_in_range_and_finite [hKernelIdeal : Cert.KernelIdeal.Facts] [hPre_nodes_in_range_and_finite : Cert.Pre_nodes_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nodes_in_range_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_nodes_in_range_and_finite [hReferenceIdeal : Cert.ReferenceIdeal.Facts] [hPre_nodes_in_range_and_finite : Cert.Pre_nodes_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nodes_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  IdealRules.named_const.Statement Cert.KernelIdeal.κ "inv_n" .f32 0x38D1B717#32 ((1 / 10000 : ℝ) : EReal)

def algebraic_KernelIdeal_ReferenceIdeal_pre_nodes_in_range_and_finite [hKernelIdeal : Cert.KernelIdeal.Facts] [hReferenceIdeal : Cert.ReferenceIdeal.Facts] [hPre_nodes_in_range_and_finite : Cert.Pre_nodes_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nodes_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_nodes_in_range : Cert.Pre_nodes_in_range.Facts) (hPre_nodes_in_range_and_finite : Cert.Pre_nodes_in_range_and_finite.Facts),
    quiescent_Kernel (hKernel := hKernel) (hPre_nodes_in_range := hPre_nodes_in_range)
    ∧ quiescent_KernelIdeal (hKernelIdeal := hKernelIdeal) (hPre_nodes_in_range := hPre_nodes_in_range)
    ∧ quiescent_KernelIdeal_pre_nodes_in_range_and_finite (hKernelIdeal := hKernelIdeal) (hPre_nodes_in_range_and_finite := hPre_nodes_in_range_and_finite)
    ∧ quiescent_ReferenceIdeal (hReferenceIdeal := hReferenceIdeal)
    ∧ quiescent_ReferenceIdeal_pre_nodes_in_range_and_finite (hReferenceIdeal := hReferenceIdeal) (hPre_nodes_in_range_and_finite := hPre_nodes_in_range_and_finite)
    ∧ preserves_Kernel_KernelIdeal
    ∧ algebraic_KernelIdeal_ReferenceIdeal_pre_nodes_in_range_and_finite (hKernelIdeal := hKernelIdeal) (hReferenceIdeal := hReferenceIdeal) (hPre_nodes_in_range_and_finite := hPre_nodes_in_range_and_finite)
-- ==== Pre_nodes_in_range.lean ====
abbrev S202 : Shape := ⟨1, ![202]⟩
abbrev S2x160000 : Shape := ⟨2, ![2, 160000]⟩
abbrev S160000x11 : Shape := ⟨2, ![160000, 11]⟩
abbrev S10000x5 : Shape := ⟨2, ![10000, 5]⟩
abbrev S5x5 : Shape := ⟨2, ![5, 5]⟩
abbrev S5 : Shape := ⟨1, ![5]⟩
abbrev S11x11 : Shape := ⟨2, ![11, 11]⟩
abbrev S11 : Shape := ⟨1, ![11]⟩
abbrev S5x21 : Shape := ⟨2, ![5, 21]⟩
abbrev S32x10 : Shape := ⟨2, ![32, 10]⟩
abbrev S32 : Shape := ⟨1, ![32]⟩
abbrev S128x234 : Shape := ⟨2, ![128, 234]⟩
abbrev S128 : Shape := ⟨1, ![128]⟩
abbrev S32x128 : Shape := ⟨2, ![32, 128]⟩
abbrev S1x32 : Shape := ⟨2, ![1, 32]⟩
abbrev S1 : Shape := ⟨1, ![1]⟩
abbrev S_ : Shape := ⟨0, ![]⟩

class Facts : Prop where
  bcast_S_S2x160000 : S_.BroadcastsInDim S2x160000 (![] : Fin 0 → Fin S2x160000.rank)

variable [Facts]

def fn {F : FTy → Type} [FloatOps F] (main_arg0 : FVec F S202 .f32) (main_arg1 : IVec S2x160000 32) (main_arg2 : FVec F S160000x11 .f32) (main_arg3 : FVec F S10000x5 .f32) (main_arg4 : FVec F S10000x5 .f32) (main_arg5 : FVec F S5x5 .f32) (main_arg6 : FVec F S5 .f32) (main_arg7 : FVec F S11x11 .f32) (main_arg8 : FVec F S11 .f32) (main_arg9 : FVec F S5x21 .f32) (main_arg10 : FVec F S5 .f32) (main_arg11 : FVec F S5x5 .f32) (main_arg12 : FVec F S5 .f32) (main_arg13 : FVec F S11x11 .f32) (main_arg14 : FVec F S11 .f32) (main_arg15 : FVec F S5x21 .f32) (main_arg16 : FVec F S5 .f32) (main_arg17 : FVec F S32x10 .f32) (main_arg18 : FVec F S32 .f32) (main_arg19 : FVec F S128x234 .f32) (main_arg20 : FVec F S128 .f32) (main_arg21 : FVec F S32x128 .f32) (main_arg22 : FVec F S32 .f32) (main_arg23 : FVec F S1x32 .f32) (main_arg24 : FVec F S1 .f32) : IVec S2x160000 1 :=
  let main_c : IVec S_ 32 := constantI S_ 32 0#32
  let main_v0 : IVec S2x160000 32 := broadcastInDim S2x160000 ![] bcast_S_S2x160000 main_c
  let main_v1 : IVec S2x160000 1 := cmpi .sge main_arg1 main_v0
  let main_c_0 : IVec S_ 32 := constantI S_ 32 10000#32
  let main_v2 : IVec S2x160000 32 := broadcastInDim S2x160000 ![] bcast_S_S2x160000 main_c_0
  let main_v3 : IVec S2x160000 1 := cmpi .slt main_arg1 main_v2
  let main_v4 : IVec S2x160000 1 := andi main_v1 main_v3
  main_v4
-- ==== Pre_nodes_in_range_and_finite.lean ====
abbrev S202 : Shape := ⟨1, ![202]⟩
abbrev S2x160000 : Shape := ⟨2, ![2, 160000]⟩
abbrev S160000x11 : Shape := ⟨2, ![160000, 11]⟩
abbrev S10000x5 : Shape := ⟨2, ![10000, 5]⟩
abbrev S5x5 : Shape := ⟨2, ![5, 5]⟩
abbrev S5 : Shape := ⟨1, ![5]⟩
abbrev S11x11 : Shape := ⟨2, ![11, 11]⟩
abbrev S11 : Shape := ⟨1, ![11]⟩
abbrev S5x21 : Shape := ⟨2, ![5, 21]⟩
abbrev S32x10 : Shape := ⟨2, ![32, 10]⟩
abbrev S32 : Shape := ⟨1, ![32]⟩
abbrev S128x234 : Shape := ⟨2, ![128, 234]⟩
abbrev S128 : Shape := ⟨1, ![128]⟩
abbrev S32x128 : Shape := ⟨2, ![32, 128]⟩
abbrev S1x32 : Shape := ⟨2, ![1, 32]⟩
abbrev S1 : Shape := ⟨1, ![1]⟩
abbrev S_ : Shape := ⟨0, ![]⟩

class Facts : Prop where
  bcast_S_S2x160000 : S_.BroadcastsInDim S2x160000 (![] : Fin 0 → Fin S2x160000.rank)
  bcast_S_S160000x11 : S_.BroadcastsInDim S160000x11 (![] : Fin 0 → Fin S160000x11.rank)
  bcast_S_S10000x5 : S_.BroadcastsInDim S10000x5 (![] : Fin 0 → Fin S10000x5.rank)
  bcast_S_S5x5 : S_.BroadcastsInDim S5x5 (![] : Fin 0 → Fin S5x5.rank)
  bcast_S_S11x11 : S_.BroadcastsInDim S11x11 (![] : Fin 0 → Fin S11x11.rank)
  bcast_S_S11 : S_.BroadcastsInDim S11 (![] : Fin 0 → Fin S11.rank)
  bcast_S_S5x21 : S_.BroadcastsInDim S5x21 (![] : Fin 0 → Fin S5x21.rank)
  bcast_S_S5 : S_.BroadcastsInDim S5 (![] : Fin 0 → Fin S5.rank)
  bcast_S_S32x10 : S_.BroadcastsInDim S32x10 (![] : Fin 0 → Fin S32x10.rank)

variable [Facts]

def fn_part3 {F : FTy → Type} [FloatOps F] (main_arg17 : FVec F S32x10 .f32) (main_v4 : IVec S2x160000 1) (main_v7 : IVec S160000x11 1) (main_v14 : IVec S10000x5 1) (main_v21 : IVec S5x5 1) (main_v28 : IVec S11x11 1) (main_v35 : IVec S11 1) (main_v42 : IVec S5x21 1) (main_v49 : IVec S5 1) (main_v52 : IVec S5 1) (main_v53 : FVec F S5 .f32) (main_v54 : FVec F S5 .f32) : IVec S2x160000 1 × IVec S160000x11 1 × IVec S10000x5 1 × IVec S5x5 1 × IVec S11x11 1 × IVec S11 1 × IVec S5x21 1 × IVec S5 1 × IVec S32x10 1 :=
  let main_v55 : IVec S5 1 := cmpf .olt main_v53 main_v54
  let main_v56 : IVec S5 1 := andi main_v52 main_v55
  let main_v57 : IVec S5 1 := andi main_v49 main_v56
  let main_v58 : FVec F S32x10 .f32 := Host.absf main_arg17
  let main_cst_15 : FVec F S_ .f32 := constant S_ .f32 0x7F800000#32
  let main_v59 : FVec F S32x10 .f32 := broadcastInDim S32x10 ![] bcast_S_S32x10 main_cst_15
  let main_v60 : IVec S32x10 1 := cmpf .olt main_v58 main_v59
  (main_v4, main_v7, main_v14, main_v21, main_v28, main_v35, main_v42, main_v57, main_v60)

def fn_part2 {F : FTy → Type} [FloatOps F] (main_arg6 : FVec F S5 .f32) (main_arg10 : FVec F S5 .f32) (main_arg12 : FVec F S5 .f32) (main_arg15 : FVec F S5x21 .f32) (main_arg16 : FVec F S5 .f32) (main_arg17 : FVec F S32x10 .f32) (main_v4 : IVec S2x160000 1) (main_v7 : IVec S160000x11 1) (main_v14 : IVec S10000x5 1) (main_v21 : IVec S5x5 1) (main_v28 : IVec S11x11 1) (main_v35 : IVec S11 1) (main_v36 : FVec F S5x21 .f32) : IVec S2x160000 1 × IVec S160000x11 1 × IVec S10000x5 1 × IVec S5x5 1 × IVec S11x11 1 × IVec S11 1 × IVec S5x21 1 × IVec S5 1 × IVec S32x10 1 :=
  let main_cst_9 : FVec F S_ .f32 := constant S_ .f32 0x7F800000#32
  let main_v37 : FVec F S5x21 .f32 := broadcastInDim S5x21 ![] bcast_S_S5x21 main_cst_9
  let main_v38 : IVec S5x21 1 := cmpf .olt main_v36 main_v37
  let main_v39 : FVec F S5x21 .f32 := Host.absf main_arg15
  let main_cst_10 : FVec F S_ .f32 := constant S_ .f32 0x7F800000#32
  let main_v40 : FVec F S5x21 .f32 := broadcastInDim S5x21 ![] bcast_S_S5x21 main_cst_10
  let main_v41 : IVec S5x21 1 := cmpf .olt main_v39 main_v40
  let main_v42 : IVec S5x21 1 := andi main_v38 main_v41
  let main_v43 : FVec F S5 .f32 := Host.absf main_arg6
  let main_cst_11 : FVec F S_ .f32 := constant S_ .f32 0x7F800000#32
  let main_v44 : FVec F S5 .f32 := broadcastInDim S5 ![] bcast_S_S5 main_cst_11
  let main_v45 : IVec S5 1 := cmpf .olt main_v43 main_v44
  let main_v46 : FVec F S5 .f32 := Host.absf main_arg12
  let main_cst_12 : FVec F S_ .f32 := constant S_ .f32 0x7F800000#32
  let main_v47 : FVec F S5 .f32 := broadcastInDim S5 ![] bcast_S_S5 main_cst_12
  let main_v48 : IVec S5 1 := cmpf .olt main_v46 main_v47
  let main_v49 : IVec S5 1 := andi main_v45 main_v48
  let main_v50 : FVec F S5 .f32 := Host.absf main_arg10
  let main_cst_13 : FVec F S_ .f32 := constant S_ .f32 0x7F800000#32
  let main_v51 : FVec F S5 .f32 := broadcastInDim S5 ![] bcast_S_S5 main_cst_13
  let main_v52 : IVec S5 1 := cmpf .olt main_v50 main_v51
  let main_v53 : FVec F S5 .f32 := Host.absf main_arg16
  let main_cst_14 : FVec F S_ .f32 := constant S_ .f32 0x7F800000#32
  let main_v54 : FVec F S5 .f32 := broadcastInDim S5 ![] bcast_S_S5 main_cst_14
  fn_part3 (F := F) main_arg17 main_v4 main_v7 main_v14 main_v21 main_v28 main_v35 main_v42 main_v49 main_v52 main_v53 main_v54

def fn_part1 {F : FTy → Type} [FloatOps F] (main_arg6 : FVec F S5 .f32) (main_arg7 : FVec F S11x11 .f32) (main_arg8 : FVec F S11 .f32) (main_arg9 : FVec F S5x21 .f32) (main_arg10 : FVec F S5 .f32) (main_arg11 : FVec F S5x5 .f32) (main_arg12 : FVec F S5 .f32) (main_arg13 : FVec F S11x11 .f32) (main_arg14 : FVec F S11 .f32) (main_arg15 : FVec F S5x21 .f32) (main_arg16 : FVec F S5 .f32) (main_arg17 : FVec F S32x10 .f32) (main_v4 : IVec S2x160000 1) (main_v7 : IVec S160000x11 1) (main_v14 : IVec S10000x5 1) (main_v17 : IVec S5x5 1) : IVec S2x160000 1 × IVec S160000x11 1 × IVec S10000x5 1 × IVec S5x5 1 × IVec S11x11 1 × IVec S11 1 × IVec S5x21 1 × IVec S5 1 × IVec S32x10 1 :=
  let main_v18 : FVec F S5x5 .f32 := Host.absf main_arg11
  let main_cst_4 : FVec F S_ .f32 := constant S_ .f32 0x7F800000#32
  let main_v19 : FVec F S5x5 .f32 := broadcastInDim S5x5 ![] bcast_S_S5x5 main_cst_4
  let main_v20 : IVec S5x5 1 := cmpf .olt main_v18 main_v19
  let main_v21 : IVec S5x5 1 := andi main_v17 main_v20
  let main_v22 : FVec F S11x11 .f32 := Host.absf main_arg7
  let main_cst_5 : FVec F S_ .f32 := constant S_ .f32 0x7F800000#32
  let main_v23 : FVec F S11x11 .f32 := broadcastInDim S11x11 ![] bcast_S_S11x11 main_cst_5
  let main_v24 : IVec S11x11 1 := cmpf .olt main_v22 main_v23
  let main_v25 : FVec F S11x11 .f32 := Host.absf main_arg13
  let main_cst_6 : FVec F S_ .f32 := constant S_ .f32 0x7F800000#32
  let main_v26 : FVec F S11x11 .f32 := broadcastInDim S11x11 ![] bcast_S_S11x11 main_cst_6
  let main_v27 : IVec S11x11 1 := cmpf .olt main_v25 main_v26
  let main_v28 : IVec S11x11 1 := andi main_v24 main_v27
  let main_v29 : FVec F S11 .f32 := Host.absf main_arg8
  let main_cst_7 : FVec F S_ .f32 := constant S_ .f32 0x7F800000#32
  let main_v30 : FVec F S11 .f32 := broadcastInDim S11 ![] bcast_S_S11 main_cst_7
  let main_v31 : IVec S11 1 := cmpf .olt main_v29 main_v30
  let main_v32 : FVec F S11 .f32 := Host.absf main_arg14
  let main_cst_8 : FVec F S_ .f32 := constant S_ .f32 0x7F800000#32
  let main_v33 : FVec F S11 .f32 := broadcastInDim S11 ![] bcast_S_S11 main_cst_8
  let main_v34 : IVec S11 1 := cmpf .olt main_v32 main_v33
  let main_v35 : IVec S11 1 := andi main_v31 main_v34
  let main_v36 : FVec F S5x21 .f32 := Host.absf main_arg9
  fn_part2 (F := F) main_arg6 main_arg10 main_arg12 main_arg15 main_arg16 main_arg17 main_v4 main_v7 main_v14 main_v21 main_v28 main_v35 main_v36

def fn {F : FTy → Type} [FloatOps F] (main_arg0 : FVec F S202 .f32) (main_arg1 : IVec S2x160000 32) (main_arg2 : FVec F S160000x11 .f32) (main_arg3 : FVec F S10000x5 .f32) (main_arg4 : FVec F S10000x5 .f32) (main_arg5 : FVec F S5x5 .f32) (main_arg6 : FVec F S5 .f32) (main_arg7 : FVec F S11x11 .f32) (main_arg8 : FVec F S11 .f32) (main_arg9 : FVec F S5x21 .f32) (main_arg10 : FVec F S5 .f32) (main_arg11 : FVec F S5x5 .f32) (main_arg12 : FVec F S5 .f32) (main_arg13 : FVec F S11x11 .f32) (main_arg14 : FVec F S11 .f32) (main_arg15 : FVec F S5x21 .f32) (main_arg16 : FVec F S5 .f32) (main_arg17 : FVec F S32x10 .f32) (main_arg18 : FVec F S32 .f32) (main_arg19 : FVec F S128x234 .f32) (main_arg20 : FVec F S128 .f32) (main_arg21 : FVec F S32x128 .f32) (main_arg22 : FVec F S32 .f32) (main_arg23 : FVec F S1x32 .f32) (main_arg24 : FVec F S1 .f32) : IVec S2x160000 1 × IVec S160000x11 1 × IVec S10000x5 1 × IVec S5x5 1 × IVec S11x11 1 × IVec S11 1 × IVec S5x21 1 × IVec S5 1 × IVec S32x10 1 :=
  let main_c : IVec S_ 32 := constantI S_ 32 0#32
  let main_v0 : IVec S2x160000 32 := broadcastInDim S2x160000 ![] bcast_S_S2x160000 main_c
  let main_v1 : IVec S2x160000 1 := cmpi .sge main_arg1 main_v0
  let main_c_0 : IVec S_ 32 := constantI S_ 32 10000#32
  let main_v2 : IVec S2x160000 32 := broadcastInDim S2x160000 ![] bcast_S_S2x160000 main_c_0
  let main_v3 : IVec S2x160000 1 := cmpi .slt main_arg1 main_v2
  let main_v4 : IVec S2x160000 1 := andi main_v1 main_v3
  let main_v5 : FVec F S160000x11 .f32 := Host.absf main_arg2
  let main_cst : FVec F S_ .f32 := constant S_ .f32 0x7F800000#32
  let main_v6 : FVec F S160000x11 .f32 := broadcastInDim S160000x11 ![] bcast_S_S160000x11 main_cst
  let main_v7 : IVec S160000x11 1 := cmpf .olt main_v5 main_v6
  let main_v8 : FVec F S10000x5 .f32 := Host.absf main_arg3
  let main_cst_1 : FVec F S_ .f32 := constant S_ .f32 0x7F800000#32
  let main_v9 : FVec F S10000x5 .f32 := broadcastInDim S10000x5 ![] bcast_S_S10000x5 main_cst_1
  let main_v10 : IVec S10000x5 1 := cmpf .olt main_v8 main_v9
  let main_v11 : FVec F S10000x5 .f32 := Host.absf main_arg4
  let main_cst_2 : FVec F S_ .f32 := constant S_ .f32 0x7F800000#32
  let main_v12 : FVec F S10000x5 .f32 := broadcastInDim S10000x5 ![] bcast_S_S10000x5 main_cst_2
  let main_v13 : IVec S10000x5 1 := cmpf .olt main_v11 main_v12
  let main_v14 : IVec S10000x5 1 := andi main_v10 main_v13
  let main_v15 : FVec F S5x5 .f32 := Host.absf main_arg5
  let main_cst_3 : FVec F S_ .f32 := constant S_ .f32 0x7F800000#32
  let main_v16 : FVec F S5x5 .f32 := broadcastInDim S5x5 ![] bcast_S_S5x5 main_cst_3
  let main_v17 : IVec S5x5 1 := cmpf .olt main_v15 main_v16
  fn_part1 (F := F) main_arg6 main_arg7 main_arg8 main_arg9 main_arg10 main_arg11 main_arg12 main_arg13 main_arg14 main_arg15 main_arg16 main_arg17 main_v4 main_v7 main_v14 main_v17
-- ==== Kernel.lean ====
abbrev S202 : Shape := ⟨1, ![202]⟩
abbrev S2x160000 : Shape := ⟨2, ![2, 160000]⟩
abbrev S160000x11 : Shape := ⟨2, ![160000, 11]⟩
abbrev S10000x5 : Shape := ⟨2, ![10000, 5]⟩
abbrev S5x5 : Shape := ⟨2, ![5, 5]⟩
abbrev S5 : Shape := ⟨1, ![5]⟩
abbrev S11x11 : Shape := ⟨2, ![11, 11]⟩
abbrev S11 : Shape := ⟨1, ![11]⟩
abbrev S5x21 : Shape := ⟨2, ![5, 21]⟩
abbrev S32x10 : Shape := ⟨2, ![32, 10]⟩
abbrev S32 : Shape := ⟨1, ![32]⟩
abbrev S128x234 : Shape := ⟨2, ![128, 234]⟩
abbrev S128 : Shape := ⟨1, ![128]⟩
abbrev S32x128 : Shape := ⟨2, ![32, 128]⟩
abbrev S1x32 : Shape := ⟨2, ![1, 32]⟩
abbrev S1 : Shape := ⟨1, ![1]⟩
abbrev S1x160000 : Shape := ⟨2, ![1, 160000]⟩
abbrev S160000 : Shape := ⟨1, ![160000]⟩
abbrev S5x11 : Shape := ⟨2, ![5, 11]⟩
abbrev S10x5 : Shape := ⟨2, ![10, 5]⟩
abbrev S11x5 : Shape := ⟨2, ![11, 5]⟩
abbrev S1x5 : Shape := ⟨2, ![1, 5]⟩
abbrev S1x10x5 : Shape := ⟨3, ![1, 10, 5]⟩
abbrev S2x10x5 : Shape := ⟨3, ![2, 10, 5]⟩
abbrev S1x11x5 : Shape := ⟨3, ![1, 11, 5]⟩
abbrev S2x11x5 : Shape := ⟨3, ![2, 11, 5]⟩
abbrev S1x1x5 : Shape := ⟨3, ![1, 1, 5]⟩
abbrev S2x1x5 : Shape := ⟨3, ![2, 1, 5]⟩
abbrev S80x1x2000 : Shape := ⟨3, ![80, 1, 2000]⟩
abbrev S80x2000x11 : Shape := ⟨3, ![80, 2000, 11]⟩
abbrev S1x202 : Shape := ⟨2, ![1, 202]⟩
abbrev S10x32 : Shape := ⟨2, ![10, 32]⟩
abbrev S5x32 : Shape := ⟨2, ![5, 32]⟩
abbrev S234x128 : Shape := ⟨2, ![234, 128]⟩
abbrev S1x128 : Shape := ⟨2, ![1, 128]⟩
abbrev S128x32 : Shape := ⟨2, ![128, 32]⟩
abbrev S32x1 : Shape := ⟨2, ![32, 1]⟩
abbrev S1x1 : Shape := ⟨2, ![1, 1]⟩
abbrev S1x1x2000 : Shape := ⟨3, ![1, 1, 2000]⟩
abbrev S1x2000x11 : Shape := ⟨3, ![1, 2000, 11]⟩
abbrev S2000x5 : Shape := ⟨2, ![2000, 5]⟩
abbrev S2000x11 : Shape := ⟨2, ![2000, 11]⟩
abbrev S1x1x1 : Shape := ⟨3, ![1, 1, 1]⟩
abbrev S1x234 : Shape := ⟨2, ![1, 234]⟩

abbrev nBuf : Space → Nat
  | .hbm => 81
  | .vmem => 23
  | .smem => 4
  | _ => 0

abbrev bufTy : (tb : Table) → Fin (tcTables nBuf tb) → BufTy
  | .hbm, ⟨0, _⟩ => ⟨S202, .f32⟩
  | .hbm, ⟨1, _⟩ => ⟨S2x160000, .i32⟩
  | .hbm, ⟨2, _⟩ => ⟨S160000x11, .f32⟩
  | .hbm, ⟨3, _⟩ => ⟨S10000x5, .f32⟩
  | .hbm, ⟨4, _⟩ => ⟨S10000x5, .f32⟩
  | .hbm, ⟨5, _⟩ => ⟨S5x5, .f32⟩
  | .hbm, ⟨6, _⟩ => ⟨S5, .f32⟩
  | .hbm, ⟨7, _⟩ => ⟨S11x11, .f32⟩
  | .hbm, ⟨8, _⟩ => ⟨S11, .f32⟩
  | .hbm, ⟨9, _⟩ => ⟨S5x21, .f32⟩
  | .hbm, ⟨10, _⟩ => ⟨S5, .f32⟩
  | .hbm, ⟨11, _⟩ => ⟨S5x5, .f32⟩
  | .hbm, ⟨12, _⟩ => ⟨S5, .f32⟩
  | .hbm, ⟨13, _⟩ => ⟨S11x11, .f32⟩
  | .hbm, ⟨14, _⟩ => ⟨S11, .f32⟩
  | .hbm, ⟨15, _⟩ => ⟨S5x21, .f32⟩
  | .hbm, ⟨16, _⟩ => ⟨S5, .f32⟩
  | .hbm, ⟨17, _⟩ => ⟨S32x10, .f32⟩
  | .hbm, ⟨18, _⟩ => ⟨S32, .f32⟩
  | .hbm, ⟨19, _⟩ => ⟨S128x234, .f32⟩
  | .hbm, ⟨20, _⟩ => ⟨S128, .f32⟩
  | .hbm, ⟨21, _⟩ => ⟨S32x128, .f32⟩
  | .hbm, ⟨22, _⟩ => ⟨S32, .f32⟩
  | .hbm, ⟨23, _⟩ => ⟨S1x32, .f32⟩
  | .hbm, ⟨24, _⟩ => ⟨S1, .f32⟩
  | .hbm, ⟨25, _⟩ => ⟨S1x160000, .i32⟩
  | .hbm, ⟨26, _⟩ => ⟨S160000, .i32⟩
  | .hbm, ⟨27, _⟩ => ⟨S1x160000, .i32⟩
  | .hbm, ⟨28, _⟩ => ⟨S160000, .i32⟩
  | .hbm, ⟨29, _⟩ => ⟨S5x5, .f32⟩
  | .hbm, ⟨30, _⟩ => ⟨S5x5, .f32⟩
  | .hbm, ⟨31, _⟩ => ⟨S5x11, .f32⟩
  | .hbm, ⟨32, _⟩ => ⟨S5x5, .f32⟩
  | .hbm, ⟨33, _⟩ => ⟨S5x5, .f32⟩
  | .hbm, ⟨34, _⟩ => ⟨S5x5, .f32⟩
  | .hbm, ⟨35, _⟩ => ⟨S10x5, .f32⟩
  | .hbm, ⟨36, _⟩ => ⟨S5x11, .f32⟩
  | .hbm, ⟨37, _⟩ => ⟨S11x5, .f32⟩
  | .hbm, ⟨38, _⟩ => ⟨S5, .f32⟩
  | .hbm, ⟨39, _⟩ => ⟨S5, .f32⟩
  | .hbm, ⟨40, _⟩ => ⟨S5, .f32⟩
  | .hbm, ⟨41, _⟩ => ⟨S5, .f32⟩
  | .hbm, ⟨42, _⟩ => ⟨S1x5, .f32⟩
  | .hbm, ⟨43, _⟩ => ⟨S5x5, .f32⟩
  | .hbm, ⟨44, _⟩ => ⟨S5x5, .f32⟩
  | .hbm, ⟨45, _⟩ => ⟨S5x11, .f32⟩
  | .hbm, ⟨46, _⟩ => ⟨S5x5, .f32⟩
  | .hbm, ⟨47, _⟩ => ⟨S5x5, .f32⟩
  | .hbm, ⟨48, _⟩ => ⟨S5x5, .f32⟩
  | .hbm, ⟨49, _⟩ => ⟨S10x5, .f32⟩
  | .hbm, ⟨50, _⟩ => ⟨S5x11, .f32⟩
  | .hbm, ⟨51, _⟩ => ⟨S11x5, .f32⟩
  | .hbm, ⟨52, _⟩ => ⟨S5, .f32⟩
  | .hbm, ⟨53, _⟩ => ⟨S5, .f32⟩
  | .hbm, ⟨54, _⟩ => ⟨S5, .f32⟩
  | .hbm, ⟨55, _⟩ => ⟨S5, .f32⟩
  | .hbm, ⟨56, _⟩ => ⟨S1x5, .f32⟩
  | .hbm, ⟨57, _⟩ => ⟨S1x10x5, .f32⟩
  | .hbm, ⟨58, _⟩ => ⟨S1x10x5, .f32⟩
  | .hbm, ⟨59, _⟩ => ⟨S2x10x5, .f32⟩
  | .hbm, ⟨60, _⟩ => ⟨S1x11x5, .f32⟩
  | .hbm, ⟨61, _⟩ => ⟨S1x11x5, .f32⟩
  | .hbm, ⟨62, _⟩ => ⟨S2x11x5, .f32⟩
  | .hbm, ⟨63, _⟩ => ⟨S1x1x5, .f32⟩
  | .hbm, ⟨64, _⟩ => ⟨S1x1x5, .f32⟩
  | .hbm, ⟨65, _⟩ => ⟨S2x1x5, .f32⟩
  | .hbm, ⟨66, _⟩ => ⟨S80x1x2000, .i32⟩
  | .hbm, ⟨67, _⟩ => ⟨S80x1x2000, .i32⟩
  | .hbm, ⟨68, _⟩ => ⟨S80x2000x11, .f32⟩
  | .hbm, ⟨69, _⟩ => ⟨S1x202, .f32⟩
  | .hbm, ⟨70, _⟩ => ⟨S10x32, .f32⟩
  | .hbm, ⟨71, _⟩ => ⟨S5x32, .f32⟩
  | .hbm, ⟨72, _⟩ => ⟨S5x32, .f32⟩
  | .hbm, ⟨73, _⟩ => ⟨S1x32, .f32⟩
  | .hbm, ⟨74, _⟩ => ⟨S234x128, .f32⟩
  | .hbm, ⟨75, _⟩ => ⟨S1x128, .f32⟩
  | .hbm, ⟨76, _⟩ => ⟨S128x32, .f32⟩
  | .hbm, ⟨77, _⟩ => ⟨S1x32, .f32⟩
  | .hbm, ⟨78, _⟩ => ⟨S32x1, .f32⟩
  | .hbm, ⟨79, _⟩ => ⟨S1x1, .f32⟩
  | .hbm, ⟨80, _⟩ => ⟨S1x1, .f32⟩
  | .local _ .vmem, ⟨0, _⟩ => ⟨S1x2000x11, .f32⟩
  | .local _ .vmem, ⟨1, _⟩ => ⟨S1x2000x11, .f32⟩
  | .local _ .vmem, ⟨2, _⟩ => ⟨S10000x5, .f32⟩
  | .local _ .vmem, ⟨3, _⟩ => ⟨S10000x5, .f32⟩
  | .local _ .vmem, ⟨4, _⟩ => ⟨S1x202, .f32⟩
  | .local _ .vmem, ⟨5, _⟩ => ⟨S1x10x5, .f32⟩
  | .local _ .vmem, ⟨6, _⟩ => ⟨S1x10x5, .f32⟩
  | .local _ .vmem, ⟨7, _⟩ => ⟨S1x11x5, .f32⟩
  | .local _ .vmem, ⟨8, _⟩ => ⟨S1x11x5, .f32⟩
  | .local _ .vmem, ⟨9, _⟩ => ⟨S1x1x5, .f32⟩
  | .local _ .vmem, ⟨10, _⟩ => ⟨S1x1x5, .f32⟩
  | .local _ .vmem, ⟨11, _⟩ => ⟨S5x32, .f32⟩
  | .local _ .vmem, ⟨12, _⟩ => ⟨S5x32, .f32⟩
  | .local _ .vmem, ⟨13, _⟩ => ⟨S1x32, .f32⟩
  | .local _ .vmem, ⟨14, _⟩ => ⟨S234x128, .f32⟩
  | .local _ .vmem, ⟨15, _⟩ => ⟨S1x128, .f32⟩
  | .local _ .vmem, ⟨16, _⟩ => ⟨S128x32, .f32⟩
  | .local _ .vmem, ⟨17, _⟩ => ⟨S1x32, .f32⟩
  | .local _ .vmem, ⟨18, _⟩ => ⟨S32x1, .f32⟩
  | .local _ .vmem, ⟨19, _⟩ => ⟨S1x1, .f32⟩
  | .local _ .vmem, ⟨20, _⟩ => ⟨S1x1, .f32⟩
  | .local _ .vmem, ⟨21, _⟩ => ⟨S10000x5, .f32⟩
  | .local _ .vmem, ⟨22, _⟩ => ⟨S2000x5, .f32⟩
  | .local _ .smem, ⟨0, _⟩ => ⟨S1x1x2000, .i32⟩
  | .local _ .smem, ⟨1, _⟩ => ⟨S1x1x2000, .i32⟩
  | .local _ .smem, ⟨2, _⟩ => ⟨S1x1x2000, .i32⟩
  | .local _ .smem, ⟨3, _⟩ => ⟨S1x1x2000, .i32⟩
  | _, _ => ⟨S202, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_scratch0 : Ref sig .tc := ⟨.vmem, 21, rfl⟩
abbrev cc0_scratch1 : Ref sig .tc := ⟨.vmem, 22, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24

abbrev nD : Nat := 1
abbrev τ : Topo := Topo.v7x

variable {F : FTy → Type} [FloatOps F]

abbrev grid0 : Pipeline.Grid := ⟨1, ![160], ![false]⟩

def k0_off1 (arg22 : BitVec 32) : Fin 3 → Nat :=
  let c0_16 : Index := 0#32
  let c0_17 : Index := 0#32
  let v21 : Index := Scalar.indexCast arg22
  ![0, 0, v21.toNat]

def k0_chk1 (arg22 : BitVec 32) : Prop :=
  (∀ a, (k0_off1 arg22) a + S1x1x1.size a ≤ S1x1x2000.size a)
theorem k0_off1_inb : ∀ (arg22 : BitVec 32) (k0_hw1 : k0_chk1 arg22), ∀ a, (k0_off1 arg22) a + S1x1x1.size a ≤ S1x1x2000.size a := fun arg22 k0_hw1 => k0_hw1

def k0_off2 (v22 : BitVec 32) : Fin 2 → Nat :=
  let v23 : Index := Scalar.indexCast v22
  let c0_18 : Index := 0#32
  ![v23.toNat, 0]

def k0_chk2 (v22 : BitVec 32) : Prop :=
  (∀ a, (k0_off2 v22) a + S1x5.size a ≤ S10000x5.size a)
theorem k0_off2_inb : ∀ (v22 : BitVec 32) (k0_hw2 : k0_chk2 v22), ∀ a, (k0_off2 v22) a + S1x5.size a ≤ S10000x5.size a := fun v22 k0_hw2 => k0_hw2

def k0_off3 (arg23 : BitVec 32) : Fin 3 → Nat :=
  let c0_20 : Index := 0#32
  let c0_21 : Index := 0#32
  let c1999_i32 : BitVec 32 := 1999#32
  let v30 : BitVec 32 := Scalar.minsi arg23 c1999_i32
  let v32 : Index := Scalar.indexCast v30
  ![0, 0, v32.toNat]

def k0_chk3 (arg23 : BitVec 32) : Prop :=
  (∀ a, (k0_off3 arg23) a + S1x1x1.size a ≤ S1x1x2000.size a)
theorem k0_off3_inb : ∀ (arg23 : BitVec 32) (k0_hw3 : k0_chk3 arg23), ∀ a, (k0_off3 arg23) a + S1x1x1.size a ≤ S1x1x2000.size a := fun arg23 k0_hw3 => k0_hw3

def k0_off4 (arg23 : BitVec 32) : Fin 3 → Nat :=
  let c0_20 : Index := 0#32
  let c0_21 : Index := 0#32
  let v30 : Index := Scalar.indexCast arg23
  ![0, 0, v30.toNat]

def k0_off5 (v31 : BitVec 32) : Fin 2 → Nat :=
  let v32 : Index := Scalar.indexCast v31
  let c0_22 : Index := 0#32
  ![v32.toNat, 0]

def k0_chk5 (v31 : BitVec 32) : Prop :=
  (∀ a, (k0_off5 v31) a + S1x5.size a ≤ S10000x5.size a)
theorem k0_off5_inb : ∀ (v31 : BitVec 32) (k0_hw5 : k0_chk5 v31), ∀ a, (k0_off5 v31) a + S1x5.size a ≤ S10000x5.size a := fun v31 k0_hw5 => k0_hw5

def k0_off6 (arg23 : BitVec 32) : Fin 2 → Nat :=
  let v36 : Index := Scalar.indexCast arg23
  let c0_23 : Index := 0#32
  ![v36.toNat, 0]

def k0_chk4 (arg23 : BitVec 32) : Prop :=
  (∀ a, (k0_off4 arg23) a + S1x1x1.size a ≤ S1x1x2000.size a) ∧
  (∀ a, (k0_off6 arg23) a + S1x5.size a ≤ S2000x5.size a)
theorem k0_off4_inb : ∀ (arg23 : BitVec 32) (k0_hw4 : k0_chk4 arg23), ∀ a, (k0_off4 arg23) a + S1x1x1.size a ≤ S1x1x2000.size a := fun arg23 k0_hw4 => k0_hw4.1
theorem k0_off6_inb : ∀ (arg23 : BitVec 32) (k0_hw4 : k0_chk4 arg23), ∀ a, (k0_off6 arg23) a + S1x5.size a ≤ S2000x5.size a := fun arg23 k0_hw4 => k0_hw4.2

def k0_cond2 (i : grid0.Coords) : BitVec 1 :=
  let arg0 : BitVec 32 := BitVec.ofNat 32 (i 0).val
  let c159_i32 : BitVec 32 := 159#32
  let v18 : BitVec 1 := Scalar.cmpi .eq arg0 c159_i32
  let v19 : BitVec 32 := Scalar.extui v18
  let c0_i32_15 : BitVec 32 := 0#32
  let v20 : BitVec 1 := Scalar.cmpi .ne v19 c0_i32_15
  v20

def cc0_transform_0 (i : grid0.Coords) : Fin 3 → Nat :=
  let arg0 : BitVec 32 := BitVec.ofNat 32 (i 0).val
  let c80_i32 : BitVec 32 := 80#32
  let c0_i32 : BitVec 32 := 0#32
  let v0 : BitVec 1 := Scalar.cmpi .eq c80_i32 c0_i32
  let c1_i32 : BitVec 32 := 1#32
  let v1 : BitVec 32 := Scalar.select v0 c1_i32 c80_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_1 (i : grid0.Coords) : Fin 3 → Nat :=
  let arg0 : BitVec 32 := BitVec.ofNat 32 (i 0).val
  let c80_i32 : BitVec 32 := 80#32
  let c0_i32 : BitVec 32 := 0#32
  let v0 : BitVec 1 := Scalar.cmpi .eq c80_i32 c0_i32
  let c1_i32 : BitVec 32 := 1#32
  let v1 : BitVec 32 := Scalar.select v0 c1_i32 c80_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_2 (i : grid0.Coords) : Fin 3 → Nat :=
  let arg0 : BitVec 32 := BitVec.ofNat 32 (i 0).val
  let c80_i32 : BitVec 32 := 80#32
  let c0_i32 : BitVec 32 := 0#32
  let v0 : BitVec 1 := Scalar.cmpi .eq c80_i32 c0_i32
  let c1_i32 : BitVec 32 := 1#32
  let v1 : BitVec 32 := Scalar.select v0 c1_i32 c80_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c80_i32 : BitVec 32 := 80#32
  let v0 : BitVec 32 := Scalar.divsi arg0 c80_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c80_i32 c0_i32_1
  let v7 : BitVec 32 := Scalar.extui v6
  let c0_i32_2 : BitVec 32 := 0#32
  let v8 : BitVec 1 := Scalar.cmpi .slt c80_i32 c0_i32_2
  let v9 : BitVec 32 := Scalar.extui v8
  let v10 : BitVec 32 := Scalar.subi v7 v9
  let v11 : BitVec 1 := Scalar.cmpi .ne v5 v10
  let v12 : BitVec 32 := Scalar.remsi arg0 c80_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c80_i32 : BitVec 32 := 80#32
  let v0 : BitVec 32 := Scalar.divsi arg0 c80_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c80_i32 c0_i32_1
  let v7 : BitVec 32 := Scalar.extui v6
  let c0_i32_2 : BitVec 32 := 0#32
  let v8 : BitVec 1 := Scalar.cmpi .slt c80_i32 c0_i32_2
  let v9 : BitVec 32 := Scalar.extui v8
  let v10 : BitVec 32 := Scalar.subi v7 v9
  let v11 : BitVec 1 := Scalar.cmpi .ne v5 v10
  let v12 : BitVec 32 := Scalar.remsi arg0 c80_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c80_i32 : BitVec 32 := 80#32
  let v0 : BitVec 32 := Scalar.divsi arg0 c80_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c80_i32 c0_i32_1
  let v7 : BitVec 32 := Scalar.extui v6
  let c0_i32_2 : BitVec 32 := 0#32
  let v8 : BitVec 1 := Scalar.cmpi .slt c80_i32 c0_i32_2
  let v9 : BitVec 32 := Scalar.extui v8
  let v10 : BitVec 32 := Scalar.subi v7 v9
  let v11 : BitVec 1 := Scalar.cmpi .ne v5 v10
  let v12 : BitVec 32 := Scalar.remsi arg0 c80_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .smem S1x1x2000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x2000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2000x11 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10000x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10000x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x202 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x10x5 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x11x5 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x5 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S5x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S234x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== KernelIdeal.lean ====
variable {F : FTy → Type} [FloatOps F] [Named F]
def κ : String → Option EReal := fun
  | "inv_n" => some ((1 / 10000 : ℝ) : EReal)
  | _ => none
-- ==== ReferenceIdeal.lean ====
abbrev S202 : Shape := ⟨1, ![202]⟩
abbrev S2x160000 : Shape := ⟨2, ![2, 160000]⟩
abbrev S160000x11 : Shape := ⟨2, ![160000, 11]⟩
abbrev S10000x5 : Shape := ⟨2, ![10000, 5]⟩
abbrev S5x5 : Shape := ⟨2, ![5, 5]⟩
abbrev S5 : Shape := ⟨1, ![5]⟩
abbrev S11x11 : Shape := ⟨2, ![11, 11]⟩
abbrev S11 : Shape := ⟨1, ![11]⟩
abbrev S5x21 : Shape := ⟨2, ![5, 21]⟩
abbrev S32x10 : Shape := ⟨2, ![32, 10]⟩
abbrev S32 : Shape := ⟨1, ![32]⟩
abbrev S128x234 : Shape := ⟨2, ![128, 234]⟩
abbrev S128 : Shape := ⟨1, ![128]⟩
abbrev S32x128 : Shape := ⟨2, ![32, 128]⟩
abbrev S1x32 : Shape := ⟨2, ![1, 32]⟩
abbrev S1 : Shape := ⟨1, ![1]⟩
abbrev S1x160000 : Shape := ⟨2, ![1, 160000]⟩
abbrev S160000 : Shape := ⟨1, ![160000]⟩
abbrev S_ : Shape := ⟨0, ![]⟩
abbrev S1x11 : Shape := ⟨2, ![1, 11]⟩
abbrev S1x5 : Shape := ⟨2, ![1, 5]⟩
abbrev S21 : Shape := ⟨1, ![21]⟩
abbrev S21x5 : Shape := ⟨2, ![21, 5]⟩
abbrev S10000x10 : Shape := ⟨2, ![10000, 10]⟩
abbrev S10x32 : Shape := ⟨2, ![10, 32]⟩
abbrev S10000x32 : Shape := ⟨2, ![10000, 32]⟩
abbrev S234 : Shape := ⟨1, ![234]⟩
abbrev S234x128 : Shape := ⟨2, ![234, 128]⟩
abbrev S128x32 : Shape := ⟨2, ![128, 32]⟩
abbrev S32x1 : Shape := ⟨2, ![32, 1]⟩
abbrev S1x1 : Shape := ⟨2, ![1, 1]⟩

abbrev nBuf : Space → Nat
  | .hbm => 200
  | .vmem => 0
  | .smem => 0
  | _ => 0

abbrev hbmTy0_0 (i : Nat) : BufTy := match i % 128 with
  | 0 => ⟨S202, .f32⟩
  | 1 => ⟨S2x160000, .i32⟩
  | 2 => ⟨S160000x11, .f32⟩
  | 3 => ⟨S10000x5, .f32⟩
  | 4 => ⟨S10000x5, .f32⟩
  | 5 => ⟨S5x5, .f32⟩
  | 6 => ⟨S5, .f32⟩
  | 7 => ⟨S11x11, .f32⟩
  | 8 => ⟨S11, .f32⟩
  | 9 => ⟨S5x21, .f32⟩
  | 10 => ⟨S5, .f32⟩
  | 11 => ⟨S5x5, .f32⟩
  | 12 => ⟨S5, .f32⟩
  | 13 => ⟨S11x11, .f32⟩
  | 14 => ⟨S11, .f32⟩
  | 15 => ⟨S5x21, .f32⟩
  | 16 => ⟨S5, .f32⟩
  | 17 => ⟨S32x10, .f32⟩
  | 18 => ⟨S32, .f32⟩
  | 19 => ⟨S128x234, .f32⟩
  | 20 => ⟨S128, .f32⟩
  | 21 => ⟨S32x128, .f32⟩
  | 22 => ⟨S32, .f32⟩
  | 23 => ⟨S1x32, .f32⟩
  | 24 => ⟨S1, .f32⟩
  | 25 => ⟨S1x160000, .i32⟩
  | 26 => ⟨S160000, .i32⟩
  | 27 => ⟨S1x160000, .i32⟩
  | 28 => ⟨S160000, .i32⟩
  | 29 => ⟨S_, .i32⟩
  | 30 => ⟨S160000, .i32⟩
  | 31 => ⟨S160000, .i32⟩
  | 32 => ⟨S160000x11, .f32⟩
  | 33 => ⟨S5x5, .f32⟩
  | 34 => ⟨S5, .f32⟩
  | 35 => ⟨S11x11, .f32⟩
  | 36 => ⟨S11, .f32⟩
  | 37 => ⟨S5x21, .f32⟩
  | 38 => ⟨S5, .f32⟩
  | 39 => ⟨S_, .i32⟩
  | 40 => ⟨S10000x5, .f32⟩
  | 41 => ⟨S_, .i32⟩
  | 42 => ⟨S_, .i1⟩
  | 43 => ⟨S1, .i32⟩
  | 44 => ⟨S_, .i32⟩
  | 45 => ⟨S1, .i32⟩
  | 46 => ⟨S_, .i32⟩
  | 47 => ⟨S_, .i32⟩
  | 48 => ⟨S1x11, .f32⟩
  | 49 => ⟨S11, .f32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S1x5, .f32⟩
  | 64 => ⟨S5, .f32⟩
  | 65 => ⟨S5x5, .f32⟩
  | 66 => ⟨S5, .f32⟩
  | 67 => ⟨S5, .f32⟩
  | 68 => ⟨S11x11, .f32⟩
  | 69 => ⟨S11, .f32⟩
  | 70 => ⟨S11, .f32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i32⟩
  | 84 => ⟨S1x5, .f32⟩
  | 85 => ⟨S5, .f32⟩
  | 86 => ⟨S21, .f32⟩
  | 87 => ⟨S21x5, .f32⟩
  | 88 => ⟨S5, .f32⟩
  | 89 => ⟨S5, .f32⟩
  | 90 => ⟨S_, .i32⟩
  | 91 => ⟨S_, .i1⟩
  | 92 => ⟨S_, .i32⟩
  | 93 => ⟨S_, .i32⟩
  | 94 => ⟨S_, .i32⟩
  | 95 => ⟨S1, .i32⟩
  | 96 => ⟨S10000x5, .f32⟩
  | 97 => ⟨S_, .i32⟩
  | 98 => ⟨S_, .i32⟩
  | 99 => ⟨S_, .i32⟩
  | 100 => ⟨S160000, .i32⟩
  | 101 => ⟨S160000, .i32⟩
  | 102 => ⟨S160000x11, .f32⟩
  | 103 => ⟨S5x5, .f32⟩
  | 104 => ⟨S5, .f32⟩
  | 105 => ⟨S11x11, .f32⟩
  | 106 => ⟨S11, .f32⟩
  | 107 => ⟨S5x21, .f32⟩
  | 108 => ⟨S5, .f32⟩
  | 109 => ⟨S_, .i32⟩
  | 110 => ⟨S10000x5, .f32⟩
  | 111 => ⟨S_, .i32⟩
  | 112 => ⟨S_, .i1⟩
  | 113 => ⟨S1, .i32⟩
  | 114 => ⟨S_, .i32⟩
  | 115 => ⟨S1, .i32⟩
  | 116 => ⟨S_, .i32⟩
  | 117 => ⟨S_, .i32⟩
  | 118 => ⟨S1x11, .f32⟩
  | 119 => ⟨S11, .f32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i32⟩
  | 127 => ⟨S_, .i1⟩
  | _ => ⟨S202, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S1x5, .f32⟩
  | 6 => ⟨S5, .f32⟩
  | 7 => ⟨S5x5, .f32⟩
  | 8 => ⟨S5, .f32⟩
  | 9 => ⟨S5, .f32⟩
  | 10 => ⟨S11x11, .f32⟩
  | 11 => ⟨S11, .f32⟩
  | 12 => ⟨S11, .f32⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S1x5, .f32⟩
  | 27 => ⟨S5, .f32⟩
  | 28 => ⟨S21, .f32⟩
  | 29 => ⟨S21x5, .f32⟩
  | 30 => ⟨S5, .f32⟩
  | 31 => ⟨S5, .f32⟩
  | 32 => ⟨S_, .i32⟩
  | 33 => ⟨S_, .i1⟩
  | 34 => ⟨S_, .i32⟩
  | 35 => ⟨S_, .i32⟩
  | 36 => ⟨S_, .i32⟩
  | 37 => ⟨S1, .i32⟩
  | 38 => ⟨S10000x5, .f32⟩
  | 39 => ⟨S_, .i32⟩
  | 40 => ⟨S_, .i32⟩
  | 41 => ⟨S10000x10, .f32⟩
  | 42 => ⟨S10x32, .f32⟩
  | 43 => ⟨S10000x32, .f32⟩
  | 44 => ⟨S1x32, .f32⟩
  | 45 => ⟨S10000x32, .f32⟩
  | 46 => ⟨S10000x32, .f32⟩
  | 47 => ⟨S_, .f32⟩
  | 48 => ⟨S32, .f32⟩
  | 49 => ⟨S_, .f32⟩
  | 50 => ⟨S32, .f32⟩
  | 51 => ⟨S32, .f32⟩
  | 52 => ⟨S234, .f32⟩
  | 53 => ⟨S_, .f32⟩
  | 54 => ⟨S234, .f32⟩
  | 55 => ⟨S234, .f32⟩
  | 56 => ⟨S234x128, .f32⟩
  | 57 => ⟨S128, .f32⟩
  | 58 => ⟨S128, .f32⟩
  | 59 => ⟨S_, .f32⟩
  | 60 => ⟨S128, .f32⟩
  | 61 => ⟨S128, .f32⟩
  | 62 => ⟨S128x32, .f32⟩
  | 63 => ⟨S32, .f32⟩
  | 64 => ⟨S32, .f32⟩
  | 65 => ⟨S_, .f32⟩
  | 66 => ⟨S32, .f32⟩
  | 67 => ⟨S32, .f32⟩
  | 68 => ⟨S32x1, .f32⟩
  | 69 => ⟨S1, .f32⟩
  | 70 => ⟨S1, .f32⟩
  | 71 => ⟨S1x1, .f32⟩
  | _ => ⟨S202, .f32⟩

abbrev hbmTy (i : Nat) : BufTy := match i / 128 with
  | 0 => hbmTy0_0 i
  | 1 => hbmTy0_1 i
  | _ => ⟨S202, .f32⟩

abbrev bufTy : (tb : Table) → Fin (tcTables nBuf tb) → BufTy
  | .hbm, ⟨i, _⟩ => hbmTy i
  | _, _ => ⟨S202, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4_0 : Ref sig .tc := ⟨.hbm, 30, rfl⟩
abbrev main_v4_1 : Ref sig .tc := ⟨.hbm, 31, rfl⟩
abbrev main_v4_2 : Ref sig .tc := ⟨.hbm, 32, rfl⟩
abbrev main_v4_3 : Ref sig .tc := ⟨.hbm, 33, rfl⟩
abbrev main_v4_4 : Ref sig .tc := ⟨.hbm, 34, rfl⟩
abbrev main_v4_5 : Ref sig .tc := ⟨.hbm, 35, rfl⟩
abbrev main_v4_6 : Ref sig .tc := ⟨.hbm, 36, rfl⟩
abbrev main_v4_7 : Ref sig .tc := ⟨.hbm, 37, rfl⟩
abbrev main_v4_8 : Ref sig .tc := ⟨.hbm, 38, rfl⟩
abbrev main_v4_9 : Ref sig .tc := ⟨.hbm, 39, rfl⟩
abbrev main_v4_10 : Ref sig .tc := ⟨.hbm, 40, rfl⟩
abbrev main_while0c_c_12 : Ref sig .tc := ⟨.hbm, 41, rfl⟩
abbrev main_while0c_v29 : Ref sig .tc := ⟨.hbm, 42, rfl⟩
abbrev main_while0b_call0_v0 : Ref sig .tc := ⟨.hbm, 43, rfl⟩
abbrev main_while0b_v29 : Ref sig .tc := ⟨.hbm, 44, rfl⟩
abbrev main_while0b_call1_v0 : Ref sig .tc := ⟨.hbm, 45, rfl⟩
abbrev main_while0b_v30 : Ref sig .tc := ⟨.hbm, 46, rfl⟩
abbrev main_while0b_call2_c : Ref sig .tc := ⟨.hbm, 47, rfl⟩
abbrev main_while0b_call2_v0 : Ref sig .tc := ⟨.hbm, 48, rfl⟩
abbrev main_while0b_v31 : Ref sig .tc := ⟨.hbm, 49, rfl⟩
abbrev main_while0b_c_12 : Ref sig .tc := ⟨.hbm, 50, rfl⟩
abbrev main_while0b_v32 : Ref sig .tc := ⟨.hbm, 51, rfl⟩
abbrev main_while0b_c_13 : Ref sig .tc := ⟨.hbm, 52, rfl⟩
abbrev main_while0b_v33 : Ref sig .tc := ⟨.hbm, 53, rfl⟩
abbrev main_while0b_v34 : Ref sig .tc := ⟨.hbm, 54, rfl⟩
abbrev main_while0b_c_14 : Ref sig .tc := ⟨.hbm, 55, rfl⟩
abbrev main_while0b_c_15 : Ref sig .tc := ⟨.hbm, 56, rfl⟩
abbrev main_while0b_v35 : Ref sig .tc := ⟨.hbm, 57, rfl⟩
abbrev main_while0b_c_16 : Ref sig .tc := ⟨.hbm, 58, rfl⟩
abbrev main_while0b_c_17 : Ref sig .tc := ⟨.hbm, 59, rfl⟩
abbrev main_while0b_v36 : Ref sig .tc := ⟨.hbm, 60, rfl⟩
abbrev main_while0b_c_18 : Ref sig .tc := ⟨.hbm, 61, rfl⟩
abbrev main_while0b_v37 : Ref sig .tc := ⟨.hbm, 62, rfl⟩
abbrev main_while0b_v38 : Ref sig .tc := ⟨.hbm, 63, rfl⟩
abbrev main_while0b_v39 : Ref sig .tc := ⟨.hbm, 64, rfl⟩
abbrev main_while0b_v40 : Ref sig .tc := ⟨.hbm, 65, rfl⟩
abbrev main_while0b_v41 : Ref sig .tc := ⟨.hbm, 66, rfl⟩
abbrev main_while0b_v42 : Ref sig .tc := ⟨.hbm, 67, rfl⟩
abbrev main_while0b_v43 : Ref sig .tc := ⟨.hbm, 68, rfl⟩
abbrev main_while0b_v44 : Ref sig .tc := ⟨.hbm, 69, rfl⟩
abbrev main_while0b_v45 : Ref sig .tc := ⟨.hbm, 70, rfl⟩
abbrev main_while0b_c_19 : Ref sig .tc := ⟨.hbm, 71, rfl⟩
abbrev main_while0b_v46 : Ref sig .tc := ⟨.hbm, 72, rfl⟩
abbrev main_while0b_c_20 : Ref sig .tc := ⟨.hbm, 73, rfl⟩
abbrev main_while0b_v47 : Ref sig .tc := ⟨.hbm, 74, rfl⟩
abbrev main_while0b_v48 : Ref sig .tc := ⟨.hbm, 75, rfl⟩
abbrev main_while0b_c_21 : Ref sig .tc := ⟨.hbm, 76, rfl⟩
abbrev main_while0b_c_22 : Ref sig .tc := ⟨.hbm, 77, rfl⟩
abbrev main_while0b_v49 : Ref sig .tc := ⟨.hbm, 78, rfl⟩
abbrev main_while0b_c_23 : Ref sig .tc := ⟨.hbm, 79, rfl⟩
abbrev main_while0b_c_24 : Ref sig .tc := ⟨.hbm, 80, rfl⟩
abbrev main_while0b_v50 : Ref sig .tc := ⟨.hbm, 81, rfl⟩
abbrev main_while0b_c_25 : Ref sig .tc := ⟨.hbm, 82, rfl⟩
abbrev main_while0b_v51 : Ref sig .tc := ⟨.hbm, 83, rfl⟩
abbrev main_while0b_v52 : Ref sig .tc := ⟨.hbm, 84, rfl⟩
abbrev main_while0b_v53 : Ref sig .tc := ⟨.hbm, 85, rfl⟩
abbrev main_while0b_v54 : Ref sig .tc := ⟨.hbm, 86, rfl⟩
abbrev main_while0b_v55 : Ref sig .tc := ⟨.hbm, 87, rfl⟩
abbrev main_while0b_v56 : Ref sig .tc := ⟨.hbm, 88, rfl⟩
abbrev main_while0b_v57 : Ref sig .tc := ⟨.hbm, 89, rfl⟩
abbrev main_while0b_c_26 : Ref sig .tc := ⟨.hbm, 90, rfl⟩
abbrev main_while0b_v58 : Ref sig .tc := ⟨.hbm, 91, rfl⟩
abbrev main_while0b_c_27 : Ref sig .tc := ⟨.hbm, 92, rfl⟩
abbrev main_while0b_v59 : Ref sig .tc := ⟨.hbm, 93, rfl⟩
abbrev main_while0b_v60 : Ref sig .tc := ⟨.hbm, 94, rfl⟩
abbrev main_while0b_v61 : Ref sig .tc := ⟨.hbm, 95, rfl⟩
abbrev main_while0b_v62 : Ref sig .tc := ⟨.hbm, 96, rfl⟩
abbrev main_while0b_c_28 : Ref sig .tc := ⟨.hbm, 97, rfl⟩
abbrev main_while0b_v63 : Ref sig .tc := ⟨.hbm, 98, rfl⟩
abbrev main_c_0 : Ref sig .tc := ⟨.hbm, 99, rfl⟩
abbrev main_v5_0 : Ref sig .tc := ⟨.hbm, 100, rfl⟩
abbrev main_v5_1 : Ref sig .tc := ⟨.hbm, 101, rfl⟩
abbrev main_v5_2 : Ref sig .tc := ⟨.hbm, 102, rfl⟩
abbrev main_v5_3 : Ref sig .tc := ⟨.hbm, 103, rfl⟩
abbrev main_v5_4 : Ref sig .tc := ⟨.hbm, 104, rfl⟩
abbrev main_v5_5 : Ref sig .tc := ⟨.hbm, 105, rfl⟩
abbrev main_v5_6 : Ref sig .tc := ⟨.hbm, 106, rfl⟩
abbrev main_v5_7 : Ref sig .tc := ⟨.hbm, 107, rfl⟩
abbrev main_v5_8 : Ref sig .tc := ⟨.hbm, 108, rfl⟩
abbrev main_v5_9 : Ref sig .tc := ⟨.hbm, 109, rfl⟩
abbrev main_v5_10 : Ref sig .tc := ⟨.hbm, 110, rfl⟩
abbrev main_while1c_c_12 : Ref sig .tc := ⟨.hbm, 111, rfl⟩
abbrev main_while1c_v29 : Ref sig .tc := ⟨.hbm, 112, rfl⟩
abbrev main_while1b_call3_v0 : Ref sig .tc := ⟨.hbm, 113, rfl⟩
abbrev main_while1b_v29 : Ref sig .tc := ⟨.hbm, 114, rfl⟩
abbrev main_while1b_call4_v0 : Ref sig .tc := ⟨.hbm, 115, rfl⟩
abbrev main_while1b_v30 : Ref sig .tc := ⟨.hbm, 116, rfl⟩
abbrev main_while1b_call5_c : Ref sig .tc := ⟨.hbm, 117, rfl⟩
abbrev main_while1b_call5_v0 : Ref sig .tc := ⟨.hbm, 118, rfl⟩
abbrev main_while1b_v31 : Ref sig .tc := ⟨.hbm, 119, rfl⟩
abbrev main_while1b_c_12 : Ref sig .tc := ⟨.hbm, 120, rfl⟩
abbrev main_while1b_v32 : Ref sig .tc := ⟨.hbm, 121, rfl⟩
abbrev main_while1b_c_13 : Ref sig .tc := ⟨.hbm, 122, rfl⟩
abbrev main_while1b_v33 : Ref sig .tc := ⟨.hbm, 123, rfl⟩
abbrev main_while1b_v34 : Ref sig .tc := ⟨.hbm, 124, rfl⟩
abbrev main_while1b_c_14 : Ref sig .tc := ⟨.hbm, 125, rfl⟩
abbrev main_while1b_c_15 : Ref sig .tc := ⟨.hbm, 126, rfl⟩
abbrev main_while1b_v35 : Ref sig .tc := ⟨.hbm, 127, rfl⟩
abbrev main_while1b_c_16 : Ref sig .tc := ⟨.hbm, 128, rfl⟩
abbrev main_while1b_c_17 : Ref sig .tc := ⟨.hbm, 129, rfl⟩
abbrev main_while1b_v36 : Ref sig .tc := ⟨.hbm, 130, rfl⟩
abbrev main_while1b_c_18 : Ref sig .tc := ⟨.hbm, 131, rfl⟩
abbrev main_while1b_v37 : Ref sig .tc := ⟨.hbm, 132, rfl⟩
abbrev main_while1b_v38 : Ref sig .tc := ⟨.hbm, 133, rfl⟩
abbrev main_while1b_v39 : Ref sig .tc := ⟨.hbm, 134, rfl⟩
abbrev main_while1b_v40 : Ref sig .tc := ⟨.hbm, 135, rfl⟩
abbrev main_while1b_v41 : Ref sig .tc := ⟨.hbm, 136, rfl⟩
abbrev main_while1b_v42 : Ref sig .tc := ⟨.hbm, 137, rfl⟩
abbrev main_while1b_v43 : Ref sig .tc := ⟨.hbm, 138, rfl⟩
abbrev main_while1b_v44 : Ref sig .tc := ⟨.hbm, 139, rfl⟩
abbrev main_while1b_v45 : Ref sig .tc := ⟨.hbm, 140, rfl⟩
abbrev main_while1b_c_19 : Ref sig .tc := ⟨.hbm, 141, rfl⟩
abbrev main_while1b_v46 : Ref sig .tc := ⟨.hbm, 142, rfl⟩
abbrev main_while1b_c_20 : Ref sig .tc := ⟨.hbm, 143, rfl⟩
abbrev main_while1b_v47 : Ref sig .tc := ⟨.hbm, 144, rfl⟩
abbrev main_while1b_v48 : Ref sig .tc := ⟨.hbm, 145, rfl⟩
abbrev main_while1b_c_21 : Ref sig .tc := ⟨.hbm, 146, rfl⟩
abbrev main_while1b_c_22 : Ref sig .tc := ⟨.hbm, 147, rfl⟩
abbrev main_while1b_v49 : Ref sig .tc := ⟨.hbm, 148, rfl⟩
abbrev main_while1b_c_23 : Ref sig .tc := ⟨.hbm, 149, rfl⟩
abbrev main_while1b_c_24 : Ref sig .tc := ⟨.hbm, 150, rfl⟩
abbrev main_while1b_v50 : Ref sig .tc := ⟨.hbm, 151, rfl⟩
abbrev main_while1b_c_25 : Ref sig .tc := ⟨.hbm, 152, rfl⟩
abbrev main_while1b_v51 : Ref sig .tc := ⟨.hbm, 153, rfl⟩
abbrev main_while1b_v52 : Ref sig .tc := ⟨.hbm, 154, rfl⟩
abbrev main_while1b_v53 : Ref sig .tc := ⟨.hbm, 155, rfl⟩
abbrev main_while1b_v54 : Ref sig .tc := ⟨.hbm, 156, rfl⟩
abbrev main_while1b_v55 : Ref sig .tc := ⟨.hbm, 157, rfl⟩
abbrev main_while1b_v56 : Ref sig .tc := ⟨.hbm, 158, rfl⟩
abbrev main_while1b_v57 : Ref sig .tc := ⟨.hbm, 159, rfl⟩
abbrev main_while1b_c_26 : Ref sig .tc := ⟨.hbm, 160, rfl⟩
abbrev main_while1b_v58 : Ref sig .tc := ⟨.hbm, 161, rfl⟩
abbrev main_while1b_c_27 : Ref sig .tc := ⟨.hbm, 162, rfl⟩
abbrev main_while1b_v59 : Ref sig .tc := ⟨.hbm, 163, rfl⟩
abbrev main_while1b_v60 : Ref sig .tc := ⟨.hbm, 164, rfl⟩
abbrev main_while1b_v61 : Ref sig .tc := ⟨.hbm, 165, rfl⟩
abbrev main_while1b_v62 : Ref sig .tc := ⟨.hbm, 166, rfl⟩
abbrev main_while1b_c_28 : Ref sig .tc := ⟨.hbm, 167, rfl⟩
abbrev main_while1b_v63 : Ref sig .tc := ⟨.hbm, 168, rfl⟩
abbrev main_v6 : Ref sig .tc := ⟨.hbm, 169, rfl⟩
abbrev main_v7 : Ref sig .tc := ⟨.hbm, 170, rfl⟩
abbrev main_v8 : Ref sig .tc := ⟨.hbm, 171, rfl⟩
abbrev main_v9 : Ref sig .tc := ⟨.hbm, 172, rfl⟩
abbrev main_v10 : Ref sig .tc := ⟨.hbm, 173, rfl⟩
abbrev main_v11 : Ref sig .tc := ⟨.hbm, 174, rfl⟩
abbrev main_cst : Ref sig .tc := ⟨.hbm, 175, rfl⟩
abbrev main_v12 : Ref sig .tc := ⟨.hbm, 176, rfl⟩
abbrev main_cst_1 : Ref sig .tc := ⟨.hbm, 177, rfl⟩
abbrev main_v13 : Ref sig .tc := ⟨.hbm, 178, rfl⟩
abbrev main_v14 : Ref sig .tc := ⟨.hbm, 179, rfl⟩
abbrev main_v15 : Ref sig .tc := ⟨.hbm, 180, rfl⟩
abbrev main_call6_cst : Ref sig .tc := ⟨.hbm, 181, rfl⟩
abbrev main_call6_v0 : Ref sig .tc := ⟨.hbm, 182, rfl⟩
abbrev main_v16 : Ref sig .tc := ⟨.hbm, 183, rfl⟩
abbrev main_v17 : Ref sig .tc := ⟨.hbm, 184, rfl⟩
abbrev main_v18 : Ref sig .tc := ⟨.hbm, 185, rfl⟩
abbrev main_v19 : Ref sig .tc := ⟨.hbm, 186, rfl⟩
abbrev main_call7_cst : Ref sig .tc := ⟨.hbm, 187, rfl⟩
abbrev main_call7_v0 : Ref sig .tc := ⟨.hbm, 188, rfl⟩
abbrev main_v20 : Ref sig .tc := ⟨.hbm, 189, rfl⟩
abbrev main_v21 : Ref sig .tc := ⟨.hbm, 190, rfl⟩
abbrev main_v22 : Ref sig .tc := ⟨.hbm, 191, rfl⟩
abbrev main_v23 : Ref sig .tc := ⟨.hbm, 192, rfl⟩
abbrev main_call8_cst : Ref sig .tc := ⟨.hbm, 193, rfl⟩
abbrev main_call8_v0 : Ref sig .tc := ⟨.hbm, 194, rfl⟩
abbrev main_v24 : Ref sig .tc := ⟨.hbm, 195, rfl⟩
abbrev main_v25 : Ref sig .tc := ⟨.hbm, 196, rfl⟩
abbrev main_v26 : Ref sig .tc := ⟨.hbm, 197, rfl⟩
abbrev main_v27 : Ref sig .tc := ⟨.hbm, 198, rfl⟩
abbrev main_v28 : Ref sig .tc := ⟨.hbm, 199, rfl⟩

abbrev nD : Nat := 1
abbrev τ : Topo := Topo.v7x

variable {F : FTy → Type} [FloatOps F]

abbrev main_while0_count : Scf.Loop 32 := ⟨0#32, 160000#32, 1#32⟩

abbrev main_while1_count : Scf.Loop 32 := ⟨0#32, 160000#32, 1#32⟩
-- ==== Proof.Own.lean ====
/-
  Loads and stores of a memref owned at known contents, at the head of a program: a load through a rectangle reads the
  contents at the rectangle's indices, a store over a rectangle leaves the contents with that rectangle replaced.
-/
module

public import Idealize.ShloMosaic.Lib.Pipeline.FrameBody
public import Idealize.ShloMosaic.Lib.Tactic

@[expose] public section

noncomputable section

namespace Cert.Proof.Own

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} {Λ : Labels}

local notation "𝕄" => MT nD τ sig Ix Val Name U Lvl

variable [Preorder Lvl] {defs : Defs nD τ sig Val Λ} (𝒱 : Variants) (c : Thread nD τ)
  (bd : Option 𝒱.V) (E : Set Name)
variable {s : Shape} {e : EltTy} {α : Type} {Q : α → sProp (MT nD τ sig Ix Val Name U Lvl)}

/-- A load through a rectangle of a memref owned at `X` continues with `X` at the rectangle's indices. -/
theorem wp_load_at {cs : CoreSpace} {m : Memref sig c.2.kind cs s e} {q : PosShare TreeShare} {X : s.Idx → Val e}
    {r : Rect s} {hl : m.view.LoadsAt r.toLoadRect}
    {k : (r.shape.Idx → Val e) → Prog (TpuEff nD τ sig Val Λ c.2) α} :
    (owns c m q X : sProp 𝕄)
      ⊢ iprop((owns c m q X -∗ wp frame (wpE defs 𝒱 c bd) E (k (View.ld X r)) Q)
        -∗ wp frame (wpE defs 𝒱 c bd) E (.op (.load m r.toLoadRect hl) k) Q) := by
  unfold owns
  iintro ⟨%f, %hf, H⟩ Hk
  iapply (wp_load 𝒱 c bd E (m := m) (S := m.view.set) (Finset.map_subset_map.mpr (Finset.subset_univ _))) $$ H
  iintro H
  rw [View.readAt_eq_ld, hf]
  iapply Hk
  iexists f
  isplitr
  · ipureintro; exact hf
  · iexact H

/-- The same with the loaded value named. -/
theorem wp_load_eq {cs : CoreSpace} {m : Memref sig c.2.kind cs s e} {q : PosShare TreeShare} {X : s.Idx → Val e}
    {r : Rect s} {hl : m.view.LoadsAt r.toLoadRect}
    {k : (r.shape.Idx → Val e) → Prog (TpuEff nD τ sig Val Λ c.2) α} {V : r.shape.Idx → Val e}
    (hV : (fun x => X (r.idx x)) = V) :
    (owns c m q X : sProp 𝕄)
      ⊢ iprop((owns c m q X -∗ wp frame (wpE defs 𝒱 c bd) E (k V) Q)
        -∗ wp frame (wpE defs 𝒱 c bd) E (.op (.load m r.toLoadRect hl) k) Q) := by
  subst hV; exact wp_load_at 𝒱 c bd E

/-- Reading through the whole view after a store over one of its rectangles: the rectangle replaced. -/
theorem read_store {κ : Kind} {sp : Space} (v : View sig κ sp s e) (r : Rect s) (f : v.ty.Contents Val) (w : r.shape.Idx → Val e) :
    v.read Val ((v.slice r).write Val f w Finset.univ) = r.overlay (v.read Val f) w := by
  funext j
  by_cases hj : j ∈ r.set
  · rw [← Rect.map_emb_univ] at hj
    obtain ⟨i, -, rfl⟩ := Finset.mem_map.mp hj
    rw [View.read_slice_write_emb r f w (Finset.mem_univ i), Rect.overlay_emb]
  · rw [View.read_slice_write_of_not_mem r f w Finset.univ (by rw [Rect.map_emb_univ]; exact hj),
      Rect.overlay_of_not_mem _ _ _ hj]

/-- A store over a rectangle of a memref owned at `X` leaves it owned at `X` with the rectangle replaced. -/
theorem wp_store_at {cs : CoreSpace} {m : Memref sig c.2.kind cs s e} {X : s.Idx → Val e}
    {r : Rect s} {w : r.shape.Idx → Val e} {hx : (m.access r).Stores Finset.univ}
    {hm : (Finset.univ : Finset r.shape.Idx) = Finset.univ ∨ ∀ a, r.stride a = 1}
    {k : PUnit → Prog (TpuEff nD τ sig Val Λ c.2) α} :
    (owns c m fullShare X : sProp 𝕄)
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (Mk := Finset.univ) (S := m.view.set)
    (by rw [show (m.access r).setOn Finset.univ = (m.access r).set from rfl]; exact View.set_slice_subset _ _)) $$ H
  iintro H
  iapply Hk
  iexists _
  isplitr
  swap
  · iexact H
  · ipureintro; rw [← hf]; exact read_store m.view r f w

/-- The rectangle of all of a shape at offset zero reads everything. -/
theorem ld_unit_zero {Val : Type} {S : Shape} (X : S.Idx → Val) {off : Fin S.rank → Nat} (h : off = fun _ => 0)
    (inb : ∀ a, off a + S.size a ≤ S.size a) : (fun x => X ((Rect.unit (s := S) off S.size inb).idx x)) = X := by
  subst h
  funext x
  congr 1
  funext a
  apply Fin.ext
  simp [Rect.unit]

/-- A store over all of a shape leaves the stored value. -/
theorem overlay_unit_zero {Val : Type} {S : Shape} (X w : S.Idx → Val) {off : Fin S.rank → Nat} (h : off = fun _ => 0)
    (inb : ∀ a, off a + S.size a ≤ S.size a) : (Rect.unit (s := S) off S.size inb).overlay X w = w := by
  subst h
  funext j
  have e : (Rect.unit (s := S) (fun _ => 0) S.size inb).emb j = j := by
    funext a
    apply Fin.ext
    simp [Rect.emb_apply]
  conv_lhs => rw [← e]
  exact Rect.overlay_emb _ _ _ _

/-- A load of everything. -/
theorem wp_load_all {cs : CoreSpace} {m : Memref sig c.2.kind cs s e} {q : PosShare TreeShare} {X : s.Idx → Val e}
    {off : Fin s.rank → Nat} (h : off = fun _ => 0) {inb : ∀ a, off a + s.size a ≤ s.size a}
    {hl : m.view.LoadsAt (Rect.unit (s := s) off s.size inb).toLoadRect}
    {k : (s.Idx → Val e) → Prog (TpuEff nD τ sig Val Λ c.2) α} :
    (owns c m q X : sProp 𝕄)
      ⊢ iprop((owns c m q X -∗ wp frame (wpE defs 𝒱 c bd) E (k X) Q)
        -∗ wp frame (wpE defs 𝒱 c bd) E (.op (.load m (Rect.unit (s := s) off s.size inb).toLoadRect hl) k) Q) :=
  wp_load_eq 𝒱 c bd E (ld_unit_zero X h inb)

/-- A store over everything. -/
theorem wp_store_all {cs : CoreSpace} {m : Memref sig c.2.kind cs s e} {X : s.Idx → Val e}
    {off : Fin s.rank → Nat} (h : off = fun _ => 0) {inb : ∀ a, off a + s.size a ≤ s.size a}
    {w : s.Idx → Val e} {hx : (m.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig Val Λ c.2) α} :
    (owns c m fullShare X : sProp 𝕄)
      ⊢ iprop((owns c m fullShare w -∗ wp frame (wpE defs 𝒱 c bd) E (k ⟨⟩) Q)
        -∗ wp frame (wpE defs 𝒱 c bd) E (.op (.store m (Rect.unit (s := s) off s.size inb) w Finset.univ hx hm) k) Q) := by
  have h' := wp_store_at (defs := defs) 𝒱 c bd E (m := m) (X := X) (r := Rect.unit (s := s) off s.size inb) (w := w) (hx := hx) (hm := hm)
    (k := k) (Q := Q) (Ix := Ix) (Name := Name) (U := U) (Lvl := Lvl)
  rwa [overlay_unit_zero X w h inb] at h'

end Cert.Proof.Own

namespace Cert.Proof.Own

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

/-- An output window written under a condition: what the body leaves in it, where the condition is the one its idle points
    are told by. -/
theorem leaves_cond {nD : Nat} {τ : Topo} {sig : RefSig} {Ix : Type} [DecidableEq Ix] {Val : EltTy → Type} {Name : Type} [DecidableEq Name]
    {U : Type} [URA U] {Lvl : Type} {Λ₀ : Labels} {cfg : Cfg sig Λ₀} {c : Dev nD} (dat : Dat τ Val Ix Name U Lvl cfg c) (w : Fin cfg.W)
    (t : Fin cfg.N) {p : Prop} [Decidable p] (hi1 : p → cfg.idle w (cfg.grid.coords t) = false)
    (hi2 : ¬p → cfg.idle w (cfg.grid.coords t) = true) (hfl : ¬p → (cfg.win w).flush t = false) (o)
    {X : (cfg.win w).block.Idx → Val (cfg.win w).elt} (hX : X = dat.after w t) :
    (owns c.tc ((cfg.win w).stage (cfg.slots t w)) fullShare (if p then X else dat.before w t o) : sProp (MT nD τ sig Ix Val Name U Lvl))
      ⊢ dat.leavesExact w t := by
  by_cases hp : p
  · have h1 := hi1 hp
    unfold Dat.leavesExact
    rw [if_pos hp, h1, hX]
  · rw [if_neg hp, dat.leavesExact_idle w t (hi2 hp) (hfl hp)]
    iintro H; iexists o; iexact H

end Cert.Proof.Own
-- ==== Proof.Chain.lean ====
/-
  The chain of edge updates, as a function of the node states: one edge replaces one row of the state by a value computed
  from that row, another row and the edge's own row; a chunk of edges is the updates one after the other.  The update is a
  parameter, so that this file is about rows only.
-/
module

public import Idealize.ShloMosaic.Lib.Pipeline.FrameBody
public import Idealize.ShloMosaic.Lib.Pointwise.Index

@[expose] public section

noncomputable section

namespace Cert.Proof.Chain

open Idealize.ShloMosaic

variable {α : Type}

/-- The node states: 10000 rows of 5. -/
abbrev State (α : Type) : Type := (⟨2, ![10000, 5]⟩ : Shape).Idx → α
/-- One row of 5. -/
abbrev Row (α : Type) : Type := (⟨2, ![1, 5]⟩ : Shape).Idx → α
/-- The index words of one chunk of 2000 edges. -/
abbrev Words : Type := (⟨3, ![1, 1, 2000]⟩ : Shape).Idx → BitVec 32
/-- The edge rows of one chunk. -/
abbrev Edges (α : Type) : Type := (⟨2, ![2000, 5]⟩ : Shape).Idx → α

/-- Row `n` of the state. -/
def row (f : State α) (n : ℕ) : Row α := fun x => f (ix2 ⟨n % 10000, Nat.mod_lt _ (by decide)⟩ (x 1))
/-- The state with row `n` replaced. -/
def setRow (f : State α) (n : ℕ) (v : Row α) : State α := fun x => if (x 0).val = n then v (ix2 0 (x 1)) else f x
/-- Edge `n`'s row. -/
def brow (b : Edges α) (n : ℕ) : Row α := fun x => b (ix2 ⟨n % 2000, Nat.mod_lt _ (by decide)⟩ (x 1))
/-- Edge `n`'s word. -/
def word (w : Words) (n : ℕ) : BitVec 32 := w (ix3 0 0 ⟨n % 2000, Nat.mod_lt _ (by decide)⟩)

theorem row_idx (x : (⟨2, ![1, 5]⟩ : Shape).Idx) : ix2 0 (x 1) = x := by
  funext a
  match a with
  | ⟨0, _⟩ => exact (Fin.eq_zero (x 0)).symm
  | ⟨1, _⟩ => rfl

/-- Reading the row just set. -/
theorem row_setRow_self (f : State α) {n : ℕ} (h : n < 10000) (v : Row α) : row (setRow f n v) n = v := by
  funext x
  show (if n % 10000 = n then v (ix2 0 (x 1)) else f (ix2 ⟨n % 10000, _⟩ (x 1))) = v x
  rw [if_pos (Nat.mod_eq_of_lt h)]
  exact congrArg v (row_idx x)

/-- Reading another row. -/
theorem row_setRow_ne (f : State α) {n k : ℕ} (hk : k < 10000) (h : k ≠ n) (v : Row α) : row (setRow f n v) k = row f k := by
  funext x
  show (if k % 10000 = n then v (ix2 0 (x 1)) else f (ix2 ⟨k % 10000, _⟩ (x 1))) = f (ix2 ⟨k % 10000, _⟩ (x 1))
  rw [if_neg (by rw [Nat.mod_eq_of_lt hk]; exact h)]

theorem setRow_setRow (f : State α) (n : ℕ) (v w : Row α) : setRow (setRow f n v) n w = setRow f n w := by
  funext x
  unfold setRow
  split <;> rfl

theorem setRow_row (f : State α) {n : ℕ} (h : n < 10000) : setRow f n (row f n) = f := by
  funext x
  unfold setRow row
  split
  · next hx =>
    congr 1
    funext a
    match a with
    | ⟨0, _⟩ => apply Fin.ext; simp only [Nat.mod_eq_of_lt h]; exact hx.symm
    | ⟨1, _⟩ => rfl
  · rfl

/-- The update of one edge with destination word `d`, source word `s` and edge row `br`. -/
def estep (upd : BitVec 32 → Row α → BitVec 32 → Row α → Row α → Row α) (d s : BitVec 32) (br : Row α) (f : State α) : State α :=
  setRow f d.toNat (upd d (row f d.toNat) s (row f s.toNat) br)

/-- The first `n` edges of a chunk, in order. -/
def chunk (upd : BitVec 32 → Row α → BitVec 32 → Row α → Row α → Row α) (src dst : Words) (b : Edges α) (f : State α) : ℕ → State α
  | 0 => f
  | n + 1 => estep upd (word dst n) (word src n) (brow b n) (chunk upd src dst b f n)

/-- An update that, when source and destination agree, does not look at the source row it is handed may be run with the
    destination row kept aside: the state with that row set aside at `v` steps by the update computed from `v`. -/
theorem estep_setRow (upd : BitVec 32 → Row α → BitVec 32 → Row α → Row α → Row α)
    (hupd : ∀ d v w w' br, upd d v d w br = upd d v d w' br) (d s : BitVec 32) (hd : d.toNat < 10000) (hs : s.toNat < 10000)
    (br : Row α) (f : State α) (v : Row α) :
    estep upd d s br (setRow f d.toNat v) = setRow f d.toNat (upd d v s (row f s.toNat) br) := by
  unfold estep
  rw [setRow_setRow, row_setRow_self f hd]
  by_cases h : s = d
  · subst h; rw [hupd]
  · rw [row_setRow_ne f hs (fun h' => h (BitVec.eq_of_toNat_eq h'))]

/-- A load of one row of the state. -/
theorem ld_row (f : State α) (off : Fin 2 → ℕ) (n : ℕ) (ho : off = ![n, 0])
    (inb : ∀ a, off a + (⟨2, ![1, 5]⟩ : Shape).size a ≤ (⟨2, ![10000, 5]⟩ : Shape).size a) :
    (fun x => f ((Rect.unit (s := ⟨2, ![10000, 5]⟩) off (⟨2, ![1, 5]⟩ : Shape).size inb).idx x)) = row f n := by
  subst ho
  have h0 : n < 10000 := by have := inb 0; simp at this; omega
  funext x
  unfold row
  congr 1
  funext a
  apply Fin.ext
  match a with
  | ⟨0, _⟩ =>
    have : (x 0).val = 0 := by have := (x 0).isLt; simp at this; omega
    simp [LoadRect.idx_apply, Nat.mod_eq_of_lt h0, this]
  | ⟨1, _⟩ => simp [LoadRect.idx_apply]

/-- A load of one row of the edge rows. -/
theorem ld_brow (b : Edges α) (off : Fin 2 → ℕ) (n : ℕ) (ho : off = ![n, 0])
    (inb : ∀ a, off a + (⟨2, ![1, 5]⟩ : Shape).size a ≤ (⟨2, ![2000, 5]⟩ : Shape).size a) :
    (fun x => b ((Rect.unit (s := ⟨2, ![2000, 5]⟩) off (⟨2, ![1, 5]⟩ : Shape).size inb).idx x)) = brow b n := by
  subst ho
  have h0 : n < 2000 := by have := inb 0; simp at this; omega
  funext x
  unfold brow
  congr 1
  funext a
  apply Fin.ext
  match a with
  | ⟨0, _⟩ =>
    have : (x 0).val = 0 := by have := (x 0).isLt; simp at this; omega
    simp [LoadRect.idx_apply, Nat.mod_eq_of_lt h0, this]
  | ⟨1, _⟩ => simp [LoadRect.idx_apply]

/-- A load of one index word. -/
theorem ld_word (w : Words) (off : Fin 3 → ℕ) (n : ℕ) (ho : off = ![0, 0, n])
    (inb : ∀ a, off a + (⟨3, ![1, 1, 1]⟩ : Shape).size a ≤ (⟨3, ![1, 1, 2000]⟩ : Shape).size a) (x : (⟨3, ![1, 1, 1]⟩ : Shape).Idx) :
    w ((Rect.unit (s := ⟨3, ![1, 1, 2000]⟩) off (⟨3, ![1, 1, 1]⟩ : Shape).size inb).idx x) = word w n := by
  subst ho
  have h0 : n < 2000 := by have := inb 2; simp at this; omega
  unfold word
  congr 1
  funext a
  apply Fin.ext
  match a with
  | ⟨0, _⟩ =>
    have : (x 0).val = 0 := by have := (x 0).isLt; simp at this; omega
    simp [LoadRect.idx_apply, this]
  | ⟨1, _⟩ =>
    have : (x 1).val = 0 := by have := (x 1).isLt; simp at this; omega
    simp [LoadRect.idx_apply, this]
  | ⟨2, _⟩ =>
    have : (x 2).val = 0 := by have := (x 2).isLt; simp at this; omega
    simp [LoadRect.idx_apply, Nat.mod_eq_of_lt h0, this]

/-- A store over one row of the state sets that row. -/
theorem overlay_row (f : State α) (v : Row α) (off : Fin 2 → ℕ) (n : ℕ) (ho : off = ![n, 0])
    (inb : ∀ a, off a + (⟨2, ![1, 5]⟩ : Shape).size a ≤ (⟨2, ![10000, 5]⟩ : Shape).size a) :
    (Rect.unit (s := ⟨2, ![10000, 5]⟩) off (⟨2, ![1, 5]⟩ : Shape).size inb).overlay f v = setRow f n v := by
  subst ho
  funext j
  by_cases hj : (j 0).val = n
  · have e : j = (Rect.unit (s := ⟨2, ![10000, 5]⟩) ![n, 0] (⟨2, ![1, 5]⟩ : Shape).size inb).emb (ix2 0 (j 1)) := by
      funext a
      apply Fin.ext
      match a with
      | ⟨0, _⟩ => simp [Rect.emb_apply]; exact hj
      | ⟨1, _⟩ => simp [Rect.emb_apply]
    unfold setRow
    rw [if_pos hj]
    conv_lhs => rw [e]
    rw [Rect.overlay_emb]
  · unfold setRow
    rw [if_neg hj, Rect.overlay_of_not_mem]
    rw [Rect.mem_set_unit]
    intro h
    have := h 0
    simp at this
    omega

end Cert.Proof.Chain
-- ==== Proof.Bits.lean ====
/-
  The counter arithmetic of a chunk of 2000 edges, on 32-bit words.
-/
module

public import Idealize.ShloMosaic.Lib.Pipeline.FrameBody

@[expose] public section

namespace Cert.Proof.Bits

open Idealize.ShloMosaic

/-- A one-bit comparison is the bit 1 exactly when the two words compare so. -/
theorem ofBool_eq_one (b : Bool) : BitVec.ofBool b = 1#1 ↔ b = true := by cases b <;> decide

theorem toInt_ofNat_small (i : ℕ) (h : i < 100000) : (BitVec.ofNat 32 i).toInt = i := by
  rw [BitVec.toInt_eq_toNat_of_lt (by rw [BitVec.toNat_ofNat, Nat.mod_eq_of_lt (by omega)]; omega),
    BitVec.toNat_ofNat, Nat.mod_eq_of_lt (by omega)]

/-- The test "below 2000" of a counter. -/
theorem slt_iff (i : ℕ) (h : i ≤ 2000) : Scalar.cmpi .slt (BitVec.ofNat 32 i) 2000#32 = 1#1 ↔ i < 2000 := by
  unfold Scalar.cmpi IntOp.cmpi
  rw [ofBool_eq_one]
  show (BitVec.ofNat 32 i).slt 2000#32 = true ↔ _
  rw [BitVec.slt, decide_eq_true_eq, toInt_ofNat_small i (by omega), show (2000#32).toInt = 2000 from by decide]
  omega

/-- The counter clamped to the last edge. -/
theorem minsi_eq (i : ℕ) (h : i ≤ 2000) : Scalar.minsi (BitVec.ofNat 32 i) 1999#32 = BitVec.ofNat 32 (min i 1999) := by
  unfold Scalar.minsi IntOp.minsi
  rw [BitVec.slt, toInt_ofNat_small i (by omega), show (1999#32).toInt = 1999 from by decide]
  by_cases hi : i < 1999
  · rw [if_pos (by simpa using hi), min_eq_left (by omega)]
  · rw [if_neg (by simpa using hi), min_eq_right (by omega)]

/-- The counter's step. -/
theorem addi_eq (i : ℕ) : Scalar.addi (BitVec.ofNat 32 i) 1#32 = BitVec.ofNat 32 (i + 1) := by
  unfold Scalar.addi IntOp.addi
  rw [BitVec.ofNat_add]

/-- The test of two words for equality. -/
theorem eq_iff (x y : BitVec 32) : Scalar.cmpi .eq x y = 1#1 ↔ x = y := by
  unfold Scalar.cmpi IntOp.cmpi
  rw [ofBool_eq_one]
  exact beq_iff_eq

/-- Both of two bits. -/
theorem andi_iff (x y : BitVec 1) : Scalar.andi x y = 1#1 ↔ x = 1#1 ∧ y = 1#1 := by
  revert x y; decide

end Cert.Proof.Bits
-- ==== Proof.Held.lean ====
/-
  What an input window holds at a grid point, element by element: the element of its array at the block's offset plus the
  element's own place, whether the block was fetched at that point or at an earlier one.
-/
module

public import Idealize.ShloMosaic.Lib.Pipeline.Frame
public import Idealize.ShloMosaic.Lib.Pipeline.Value

@[expose] public section

noncomputable section

namespace Cert.Proof.Held

open Idealize.ShloMosaic
open Idealize.ShloMosaic.TcCoe
open Idealize.SL.Sem
open Idealize.ShloMosaic.Pipeline (Cfg Window heldIn)

variable {nD : ℕ} {τ : Topo} {sig : RefSig} {Val : EltTy → Type} {Λ₀ : Labels} [∀ e, Nonempty (Val e)]

/-- An input window's element `j` at point `t` is its array's element `i`, when on every axis `i` is the block's offset at
    `t` plus `j`. -/
theorem heldIn_at {c : Dev nD} {cfg : Cfg sig Λ₀} (A : (w : Fin cfg.W) → Buf Val ((cfg.win w).arr.view.loc (c.tc : Thread nD τ)))
    (w : Fin cfg.W) (hin : (cfg.win w).isOut = false) (hclip : ∀ (i : cfg.grid.Coords) a, (cfg.win w).clip i a = none) :
    ∀ (n : ℕ) (hn : n < cfg.N) (j : (cfg.win w).block.Idx) (i : (cfg.win w).shape.Idx),
      (∀ a, (i a).val = (cfg.win w).kind.off ((cfg.win w).index ⟨n, hn⟩ a) ((cfg.win w).size a) + (j a).val) →
      heldIn cfg A w n hn j = (cfg.win w).arr.view.read Val (A w) i := by
  have key : ∀ (t : Fin cfg.N) (j : (cfg.win w).block.Idx) (i : (cfg.win w).shape.Idx) (d : (cfg.win w).block.Idx → Val (cfg.win w).elt),
      (∀ a, (i a).val = (cfg.win w).kind.off ((cfg.win w).index t a) ((cfg.win w).size a) + (j a).val) →
      (cfg.win w).fill (cfg.grid.coords t) d (((cfg.win w).blk t).view.read Val (A w)) j = (cfg.win w).arr.view.read Val (A w) i := by
    intro t j i d hi
    have hm : (cfg.win w).moved (cfg.grid.coords t) j = true :=
      ((cfg.win w).moved_iff _ j).mpr fun a => by have := (j a).isLt; unfold Window.xsize; rw [hclip]; exact this
    unfold Window.fill
    rw [dif_pos hm]
    show (cfg.win w).arr.view.read Val (A w) (((cfg.win w).rect t).emb _) = _
    congr 1
    funext a
    apply Fin.ext
    rw [(cfg.win w).rect_emb_val_off t, hi a]
  intro n
  induction n with
  | zero => intro hn j i hi; exact key ⟨0, hn⟩ j i _ hi
  | succ n ih =>
    intro hn j i hi
    by_cases hf : (cfg.win w).fetch ⟨n + 1, hn⟩ = true
    · rw [Pipeline.heldIn_of_fetch A w ⟨n + 1, hn⟩ hf]
      exact key ⟨n + 1, hn⟩ j i _ hi
    · have hf' := Bool.eq_false_iff.mpr hf
      rw [Pipeline.heldIn_of_not_fetch A w n hn hf']
      have hix : (cfg.win w).index ⟨n + 1, hn⟩ = (cfg.win w).index ⟨n, Nat.lt_of_succ_lt hn⟩ := by
        by_contra h
        exact hf (((cfg.win w).fetch_in hin ⟨n + 1, hn⟩).mpr (.inr ⟨Nat.succ_pos n, h⟩))
      refine ih _ j i fun a => ?_
      rw [hi a, hix]

end Cert.Proof.Held

end
-- ==== Proof.Nodes.lean ====
/-
  The precondition of the node numbers, read entry by entry: an entry compared as at least 0 and below 10000 is, unsigned,
  below 10000.
-/
module

public import proofs.«01_k».proof.Defs
public import proofs.«01_k».proof.Proof.Gen.Pre_nodes_in_range
public import proofs.«01_k».proof.Proof.Gen.Pre_nodes_in_range_and_finite
public import Idealize.ShloMosaic.Lib.Pointwise
public import Idealize.ShloMosaic.Lib.WordCmp

@[expose] public section

noncomputable section

namespace Cert.Proof.Nodes

open Idealize.ShloMosaic
open Idealize.ShloMosaic.TcCoe
open Idealize.SL.Sem

/-- A word that is signed at least 0 and signed below 10000 is below 10000. -/
theorem toNat_lt (w : BitVec 32) (h : IntOp.andi (IntOp.cmpi .sge w 0#32) (IntOp.cmpi .slt w 10000#32) = 1#1) : w.toNat < 10000 := by
  rw [WordCmp.cmpi_sge_eq, WordCmp.cmpi_slt_eq] at h
  by_cases h1 : (0#32 : BitVec 32).toInt ≤ w.toInt
  · by_cases h2 : w.toInt < (10000#32 : BitVec 32).toInt
    · have e0 : (0#32 : BitVec 32).toInt = 0 := by decide
      have e1 : (10000#32 : BitVec 32).toInt = 10000 := by decide
      rw [e0] at h1
      rw [e1] at h2
      rw [BitVec.toInt_eq_toNat_cond] at h1 h2
      have := w.isLt
      split at h1 <;> omega
    · rw [decide_eq_false h2] at h
      revert h
      cases decide ((0#32 : BitVec 32).toInt ≤ w.toInt) <;> exact fun h => absurd h (by decide)
  · rw [decide_eq_false h1] at h
    revert h
    cases decide (w.toInt < (10000#32 : BitVec 32).toInt) <;> exact fun h => absurd h (by decide)

/-- An array all of whose entries are in range, entry by entry. -/
theorem entry (x : (⟨2, ![2, 160000]⟩ : Shape).Idx → BitVec 32) (hb : (⟨0, ![]⟩ : Shape).BroadcastsInDim ⟨2, ![2, 160000]⟩ ![])
    (h : andi (cmpi .sge x (broadcastInDim ⟨2, ![2, 160000]⟩ ![] hb (constantI ⟨0, ![]⟩ 32 0#32)))
      (cmpi .slt x (broadcastInDim ⟨2, ![2, 160000]⟩ ![] hb (constantI ⟨0, ![]⟩ 32 10000#32))) = fun _ => 1#1)
    (i : (⟨2, ![2, 160000]⟩ : Shape).Idx) : (x i).toNat < 10000 := by
  have := congrFun h i
  simp only [pointwise] at this
  exact toNat_lt _ this

/-- The kernel's precondition bounds its node numbers, -/
theorem pre_kernel (m : (ℓ : Loc Cert.Kernel.nD Cert.Kernel.τ Cert.Kernel.sig) → Buf (Elt Bits) ℓ) (h : Cert.Pre_Kernel m)
    (c : Dev Cert.Kernel.nD) (i : Cert.Kernel.S2x160000.Idx) :
    (m ((c : Thread Cert.Kernel.nD Cert.Kernel.τ).loc Cert.Kernel.main_arg1) i : BitVec 32).toNat < 10000 :=
  entry _ _ (h c) i

/-- and so does the idealised kernel's, -/
theorem pre_kernelIdeal (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S2x160000.Idx) :
    (m ((c : Thread Cert.KernelIdeal.nD Cert.KernelIdeal.τ).loc Cert.KernelIdeal.main_arg1) i : BitVec 32).toNat < 10000 :=
  entry _ _ (h c) i

/-- with or without the finiteness of the numbers. -/
theorem pre_finite (m : (ℓ : Loc Cert.KernelIdeal.nD Cert.KernelIdeal.τ Cert.KernelIdeal.sig) → Buf (Elt Ideal) ℓ)
    (h : Cert.Pre_KernelIdeal_nodes_in_range_and_finite m) (c : Dev Cert.KernelIdeal.nD) (i : Cert.KernelIdeal.S2x160000.Idx) :
    (m ((c : Thread Cert.KernelIdeal.nD Cert.KernelIdeal.τ).loc Cert.KernelIdeal.main_arg1) i : BitVec 32).toNat < 10000 :=
  entry _ _ (h c).1 i

end Cert.Proof.Nodes

end
-- ==== Proof.KI.Control.lean ====
/-
  The two nested loops of one chunk.  The inner loop keeps the destination row in a register while the destination word does
  not change; the outer loop loads that row, runs the inner loop and writes the row back.  Both are answered through a
  specification over the chain of edge updates (`Chain.chunk`), met by induction on the edges still to run.
-/
module

public import proofs.«01_k».proof.Proof.Own
public import proofs.«01_k».proof.Proof.Chain
public import proofs.«01_k».proof.Proof.Bits
public import Idealize.ShloMosaic.Lib.Pipeline.Value
public import proofs.«01_k».proof.Proof.Gen.KernelIdeal.Skeleton

@[expose] public section

set_option maxRecDepth 16384

noncomputable section

namespace Cert.Proof.KI

open Cert.KernelIdeal Cert.KernelIdeal.Gen Cert.Proof.Chain Cert.Proof.Own
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The loops' variants are natural numbers. -/
abbrev 𝒱₀ : Variants := Variants.nat

/-- The count `k` as a variant. -/
abbrev vn (k : ℕ) : 𝒱₀.V := k

theorem vn_lt {j k : ℕ} (h : j < k) : ∀ u ∈ some (vn k), 𝒱₀.lt (vn j) u := fun u hu => by
  cases hu; exact h

/-! ### The update of one edge -/

/-- One edge's new destination row, from the message matrix, the destination row, the source row and the edge row. -/
def upd (v4 : FVec F S10x5 .f32) (d : BitVec 32) (hc : Row (F .f32)) (s : BitVec 32) (hs br : Row (F .f32)) : Row (F .f32) :=
  k0_pay6 v4 (k0_pay9 d v4 hc s hs br) (k0_pay10 d hc s hs)

/-- When source and destination agree the source row handed over is not looked at. -/
theorem pay8_same (d : BitVec 32) (v w : Row (F .f32)) : k0_pay8 (F := F) d v d w = v := by
  show Scalar.select (Scalar.cmpi .eq d d) v w = v
  rw [(Bits.eq_iff d d).mpr rfl]; rfl

theorem upd_same (v4 : FVec F S10x5 .f32) (d : BitVec 32) (v w w' br : Row (F .f32)) : upd v4 d v d w br = upd v4 d v d w' br := by
  unfold upd k0_pay9 k0_pay10
  simp only [pay8_same]

/-- A cast to the same shape. -/
theorem pay5_eq (v : Row (F .f32)) : k0_pay5 (F := F) v = v := by
  exact shapeCast_self v _

/-! ### The offsets of the loads and stores -/

theorem off1_eq (i : ℕ) (h : i ≤ 2000) : k0_off1 (BitVec.ofNat 32 i) = ![0, 0, i] := by
  show ![0, 0, (BitVec.ofNat 32 i).toNat] = _
  rw [BitVec.toNat_ofNat, Nat.mod_eq_of_lt (by omega)]
theorem off2_eq (w : BitVec 32) : k0_off2 w = ![w.toNat, 0] := rfl
theorem off3_eq (i : ℕ) (h : i ≤ 2000) : k0_off3 (BitVec.ofNat 32 i) = ![0, 0, min i 1999] := by
  show ![0, 0, (Scalar.minsi (BitVec.ofNat 32 i) 1999#32).toNat] = _
  rw [Bits.minsi_eq i h, BitVec.toNat_ofNat, Nat.mod_eq_of_lt (by omega)]
theorem off4_eq (i : ℕ) (h : i ≤ 2000) : k0_off4 (BitVec.ofNat 32 i) = ![0, 0, i] := by
  show ![0, 0, (BitVec.ofNat 32 i).toNat] = _
  rw [BitVec.toNat_ofNat, Nat.mod_eq_of_lt (by omega)]
theorem off5_eq (w : BitVec 32) : k0_off5 w = ![w.toNat, 0] := rfl
theorem off6_eq (i : ℕ) (h : i ≤ 2000) : k0_off6 (BitVec.ofNat 32 i) = ![i, 0] := by
  show ![(BitVec.ofNat 32 i).toNat, 0] = _
  rw [BitVec.toNat_ofNat, Nat.mod_eq_of_lt (by omega)]

/-- The checks the loops make of a counter below 2000 and of a node number below 10000. -/
theorem chk1_of (i : ℕ) (h : i < 2000) : k0_chk1 (BitVec.ofNat 32 i) := by
  unfold k0_chk1; rw [off1_eq i h.le]
  intro a; match a with | ⟨0, _⟩ => (show 0 + 1 ≤ 1; omega) | ⟨1, _⟩ => (show 0 + 1 ≤ 1; omega) | ⟨2, _⟩ => (show i + 1 ≤ 2000; omega)
theorem chk2_of (w : BitVec 32) (h : w.toNat < 10000) : k0_chk2 w := by
  unfold k0_chk2; rw [off2_eq]
  intro a; match a with | ⟨0, _⟩ => (show w.toNat + 1 ≤ 10000; omega) | ⟨1, _⟩ => (show 0 + 5 ≤ 5; omega)
theorem chk3_of (i : ℕ) (h : i ≤ 2000) : k0_chk3 (BitVec.ofNat 32 i) := by
  unfold k0_chk3; rw [off3_eq i h]
  intro a; match a with | ⟨0, _⟩ => (show 0 + 1 ≤ 1; omega) | ⟨1, _⟩ => (show 0 + 1 ≤ 1; omega) | ⟨2, _⟩ => (show min i 1999 + 1 ≤ 2000; omega)
theorem chk4_of (i : ℕ) (h : i < 2000) : k0_chk4 (BitVec.ofNat 32 i) := by
  unfold k0_chk4; rw [off4_eq i h.le, off6_eq i h.le]
  constructor
  · intro a; match a with | ⟨0, _⟩ => (show 0 + 1 ≤ 1; omega) | ⟨1, _⟩ => (show 0 + 1 ≤ 1; omega) | ⟨2, _⟩ => (show i + 1 ≤ 2000; omega)
  · intro a; match a with | ⟨0, _⟩ => (show i + 1 ≤ 2000; omega) | ⟨1, _⟩ => (show 0 + 5 ≤ 5; omega)
theorem chk5_of (w : BitVec 32) (h : w.toNat < 10000) : k0_chk5 w := by
  unfold k0_chk5; rw [off5_eq]
  intro a; match a with | ⟨0, _⟩ => (show w.toNat + 1 ≤ 10000; omega) | ⟨1, _⟩ => (show 0 + 5 ≤ 5; omega)

/-! ### The two loops -/

section Loops

variable (c : Dev nD) (gi : grid0.Coords)
  (arg1 : Memref sig .tc .smem S1x1x2000 .i32) (harg1 : arg1.IsWhole) (arg2 : Memref sig .tc .smem S1x1x2000 .i32) (harg2 : arg2.IsWhole)
  (arg20 : Memref sig .tc .vmem S10000x5 .f32) (harg20 : arg20.IsWhole) (arg21 : Memref sig .tc .vmem S2000x5 .f32) (harg21 : arg21.IsWhole)
  (v4 : FVec F S10x5 .f32) (src dst : Words) (b : Edges (F .f32)) (f₀ : State (F .f32))

/-- What the loops hold: the chunk's source and destination words, the node states at `f`, and the edge rows. -/
def held (f : State (F .f32)) : sProp 𝕄 :=
  iprop(owns (c : Thread nD τ) arg1 fullShare src ∗ owns (c : Thread nD τ) arg2 fullShare dst
    ∗ owns (c : Thread nD τ) arg20 fullShare f ∗ owns (c : Thread nD τ) arg21 fullShare b)

/-- What the inner loop returns, started at edge `i` on node `d`: the edge it stopped at and the node's row then. -/
def Stops (d : BitVec 32) (f : State (F .f32)) (i : ℕ) (r : BitVec 32 × Row (F .f32)) : Prop :=
  ∃ j, i ≤ j ∧ j ≤ 2000 ∧ r.1 = BitVec.ofNat 32 j ∧ setRow f d.toNat r.2 = chunk (upd v4) src dst b f₀ j
    ∧ (i < 2000 → word dst i = d → i < j)

/-- The inner loop's specification. -/
def spec2 (d : BitVec 32) (f : State (F .f32)) (i : ℕ) : sWPT 𝕄 (BitVec 32 × FVec F S1x5 .f32) := do
  sWPT.consume (held c arg1 arg2 arg20 arg21 src dst b f)
  let r ← sWPT.arbitrary
  sWPT.assume (Stops v4 src dst b f₀ d f i r)
  sWPT.produce (held c arg1 arg2 arg20 arg21 src dst b f)
  pure r

theorem spec2_apply (d : BitVec 32) (f : State (F .f32)) (i : ℕ) (K : BitVec 32 × FVec F S1x5 .f32 → sProp 𝕄) :
    spec2 c arg1 arg2 arg20 arg21 v4 src dst b f₀ d f i K
      = iprop(held c arg1 arg2 arg20 arg21 src dst b f ∗ ∀ r : BitVec 32 × FVec F S1x5 .f32,
          ⌜Stops v4 src dst b f₀ d f i r⌝ -∗ (held c arg1 arg2 arg20 arg21 src dst b f -∗ K r)) := rfl

/-- The outer loop's specification: the node states go through the whole chunk. -/
def spec1 (f : State (F .f32)) : sWPT 𝕄 (BitVec 32) := do
  sWPT.consume (held c arg1 arg2 arg20 arg21 src dst b f)
  let r ← sWPT.arbitrary
  sWPT.produce (held c arg1 arg2 arg20 arg21 src dst b (chunk (upd v4) src dst b f₀ 2000))
  pure r

theorem spec1_apply (f : State (F .f32)) (K : BitVec 32 → sProp 𝕄) :
    spec1 c arg1 arg2 arg20 arg21 v4 src dst b f₀ f K
      = iprop(held c arg1 arg2 arg20 arg21 src dst b f ∗ ∀ r : BitVec 32,
          (held c arg1 arg2 arg20 arg21 src dst b (chunk (upd v4) src dst b f₀ 2000) -∗ K r)) := rfl

variable (hsrc : ∀ n, (word src n).toNat < 10000) (hdst : ∀ n, (word dst n).toNat < 10000)

include hsrc in
/-- The inner loop meets its specification with `k` edges left in the chunk. -/
theorem inner_le (E : Set ℕ) (a22 : BitVec 32) (h1 : k0_chk1 a22) (d : BitVec 32) (h2 : k0_chk2 d) (hd : d.toNat < 10000) (f : State (F .f32)) :
    ∀ k i, i + k = 2000 → ∀ hc, setRow f d.toNat hc = chunk (upd v4) src dst b f₀ i → ∀ K,
      spec2 c arg1 arg2 arg20 arg21 v4 src dst b f₀ d f i K
        ⊢ wp frame (wpE (defs₀ (F := F)) 𝒱₀ (c : Thread nD τ) (some (vn k))) E
            (defs₀ (F := F) .tc 2 ⟨gi, a22, h1, d, h2, arg2, harg2, arg1, harg1, arg20, harg20, arg21, harg21, v4, BitVec.ofNat 32 i, hc⟩) K := by
  intro k
  induction k with
  | zero =>
    intro i hi hc hinv K
    rw [spec2_apply]
    show _ ⊢ wp frame (wpE (defs₀ (F := F)) 𝒱₀ (c : Thread nD τ) (some (vn 0))) E
      (cc0_while2 gi a22 h1 d h2 arg2 harg2 arg1 harg1 arg20 harg20 arg21 harg21 v4 (BitVec.ofNat 32 i) hc) K
    simp only [cc0_while2_eq_skeleton]; unfold cc0_while2_skel
    have htest : ¬Scalar.cmpi .slt (BitVec.ofNat 32 i) 2000#32 = 1#1 := by rw [Bits.slt_iff i (by omega)]; omega
    simp only [smemLoad, smemLoadElt, Prog.lift, Prog.bind_op, Prog.bind_ret, Prog.pure_eq_ret, Bits.andi_iff, htest, false_and, ↓reduceIte]
    unfold held
    iintro ⟨⟨H1, H2, H3, H4⟩, Hk⟩
    iapply (wp_assume 𝒱₀ (c : Thread nD τ) (some (vn 0)) E (chk3_of i (by omega)))
    iapply (wp_load_at 𝒱₀ (c : Thread nD τ) (some (vn 0)) E) $$ H2; iintro H2
    rw [wp_ret]; imodintro
    iapply Hk
    · ipureintro; exact ⟨i, le_refl _, by omega, rfl, hinv, fun h => absurd h (by omega)⟩
    · isplitl [H1]; · iexact H1
      isplitl [H2]; · iexact H2
      isplitl [H3]; · iexact H3
      iexact H4
  | succ k ih =>
    intro i hi hc hinv K
    rw [spec2_apply]
    show _ ⊢ wp frame (wpE (defs₀ (F := F)) 𝒱₀ (c : Thread nD τ) (some (vn (k + 1)))) E
      (cc0_while2 gi a22 h1 d h2 arg2 harg2 arg1 harg1 arg20 harg20 arg21 harg21 v4 (BitVec.ofNat 32 i) hc) K
    simp only [cc0_while2_eq_skeleton]; unfold cc0_while2_skel
    simp only [k0_part2_eq_skeleton]; unfold k0_part2_skel
    have htest : Scalar.cmpi .slt (BitVec.ofNat 32 i) 2000#32 = 1#1 := by rw [Bits.slt_iff i (by omega)]; omega
    simp only [smemLoad, smemLoadElt, Prog.lift, Prog.bind_op, Prog.bind_ret, Prog.pure_eq_ret, Bits.andi_iff, htest, true_and, Bits.eq_iff]
    unfold held
    iintro ⟨⟨H1, H2, H3, H4⟩, Hk⟩
    iapply (wp_assume 𝒱₀ (c : Thread nD τ) (some (vn (k + 1))) E (chk3_of i (by omega)))
    have hi1 : i ≤ 2000 := by omega
    have hi2 : i < 2000 := by omega
    have hi3 : i ≤ 1999 := by omega
    have hw : (fun x : S1x1x1.Idx => dst ((Rect.unit (s := S1x1x2000) (k0_off3 (BitVec.ofNat 32 i)) S1x1x1.size (k0_off3_inb _ (chk3_of i hi1))).idx x))
        = fun _ => word dst i :=
      funext fun x => ld_word dst _ i ((off3_eq i hi1).trans (by rw [min_eq_left hi3])) _ x
    iapply (wp_load_eq 𝒱₀ (c : Thread nD τ) (some (vn (k + 1))) E hw) $$ H2; iintro H2
    by_cases hdw : word dst i = d
    · simp only [hdw, ↓reduceIte]
      iapply (wp_assume 𝒱₀ (c : Thread nD τ) (some (vn (k + 1))) E (chk4_of i hi2))
      have hs : (fun x : S1x1x1.Idx => src ((Rect.unit (s := S1x1x2000) (k0_off4 (BitVec.ofNat 32 i)) S1x1x1.size (k0_off4_inb _ (chk4_of i hi2))).idx x))
          = fun _ => word src i := funext fun x => ld_word src _ i (off4_eq i hi1) _ x
      iapply (wp_load_eq 𝒱₀ (c : Thread nD τ) (some (vn (k + 1))) E hs) $$ H1; iintro H1
      iapply (wp_assume 𝒱₀ (c : Thread nD τ) (some (vn (k + 1))) E (chk5_of (word src i) (hsrc i)))
      have hr : (fun x => f ((Rect.unit (s := S10000x5) (k0_off5 (word src i)) S1x5.size (k0_off5_inb _ (chk5_of (word src i) (hsrc i)))).idx x))
          = row f (word src i).toNat := ld_row f _ _ (off5_eq _) _
      have hb : (fun x => b ((Rect.unit (s := S2000x5) (k0_off6 (BitVec.ofNat 32 i)) S1x5.size (k0_off6_inb _ (chk4_of i hi2))).idx x))
          = brow b i := ld_brow b _ _ (off6_eq i hi1) _
      iapply (wp_load_eq 𝒱₀ (c : Thread nD τ) (some (vn (k + 1))) E hr) $$ H3; iintro H3
      iapply (wp_load_eq 𝒱₀ (c : Thread nD τ) (some (vn (k + 1))) E hb) $$ H4; iintro H4
      rw [Bits.addi_eq]
      have hstep : setRow f d.toNat (upd v4 d hc (word src i) (row f (word src i).toNat) (brow b i)) = chunk (upd v4) src dst b f₀ (i + 1) := by
        show _ = estep (upd v4) (word dst i) (word src i) (brow b i) (chunk (upd v4) src dst b f₀ i)
        rw [← hinv, hdw, estep_setRow (upd v4) (upd_same v4) d (word src i) hd (hsrc i)]
      iapply (wp_call_spec 𝒱₀ (c : Thread nD τ) (some (vn (k + 1))) E (spec2 c arg1 arg2 arg20 arg21 v4 src dst b f₀ d f (i + 1)) (vn k)
        (vn_lt (Nat.lt_succ_self k)) (ih (i + 1) (by omega) _ hstep))
      rw [spec2_apply]; unfold held
      isplitl [H1 H2 H3 H4]
      · isplitl [H1]; · iexact H1
        isplitl [H2]; · iexact H2
        isplitl [H3]; · iexact H3
        iexact H4
      iintro %r %hr' H
      rw [wp_ret]; imodintro
      iapply Hk
      · ipureintro
        obtain ⟨j, h1, h2, h3, h4, h5⟩ := hr'
        exact ⟨j, by omega, h2, h3, h4, fun _ _ => by omega⟩
      · iexact H
    · simp only [hdw, ↓reduceIte]
      rw [wp_ret]; imodintro
      iapply Hk
      · ipureintro; exact ⟨i, le_refl _, by omega, rfl, hinv, fun _ h => absurd h hdw⟩
      · isplitl [H1]; · iexact H1
        isplitl [H2]; · iexact H2
        isplitl [H3]; · iexact H3
        iexact H4

include hsrc hdst in
/-- The outer loop meets its specification with `k` edges left in the chunk. -/
theorem outer_le (E : Set ℕ) :
    ∀ k i, i + k = 2000 → ∀ f, f = chunk (upd v4) src dst b f₀ i → ∀ K,
      spec1 c arg1 arg2 arg20 arg21 v4 src dst b f₀ f K
        ⊢ wp frame (wpE (defs₀ (F := F)) 𝒱₀ (c : Thread nD τ) (some (vn (k + 2001)))) E
            (defs₀ (F := F) .tc 1 ⟨gi, arg2, harg2, arg20, harg20, arg1, harg1, arg21, harg21, v4, BitVec.ofNat 32 i⟩) K := by
  intro k
  induction k using Nat.strong_induction_on with
  | _ k ih =>
    intro i hi f hf K
    rw [spec1_apply]
    show _ ⊢ wp frame (wpE (defs₀ (F := F)) 𝒱₀ (c : Thread nD τ) (some (vn (k + 2001)))) E
      (cc0_while1 gi arg2 harg2 arg20 harg20 arg1 harg1 arg21 harg21 v4 (BitVec.ofNat 32 i)) K
    simp only [cc0_while1_eq_skeleton]; unfold cc0_while1_skel
    have hi1 : i ≤ 2000 := by omega
    by_cases hi2 : i < 2000
    · have htest : Scalar.cmpi .slt (BitVec.ofNat 32 i) 2000#32 = 1#1 := (Bits.slt_iff i hi1).mpr hi2
      simp only [smemLoad, smemLoadElt, Prog.lift, Prog.bind_op, Prog.bind_ret, Prog.pure_eq_ret, htest, ↓reduceIte]
      unfold held
      iintro ⟨⟨H1, H2, H3, H4⟩, Hk⟩
      iapply (wp_assume 𝒱₀ (c : Thread nD τ) (some (vn (k + 2001))) E (chk1_of i hi2))
      have hw : (fun x : S1x1x1.Idx => dst ((Rect.unit (s := S1x1x2000) (k0_off1 (BitVec.ofNat 32 i)) S1x1x1.size (k0_off1_inb _ (chk1_of i hi2))).idx x))
          = fun _ => word dst i := funext fun x => ld_word dst _ i (off1_eq i hi1) _ x
      iapply (wp_load_eq 𝒱₀ (c : Thread nD τ) (some (vn (k + 2001))) E hw) $$ H2; iintro H2
      iapply (wp_assume 𝒱₀ (c : Thread nD τ) (some (vn (k + 2001))) E (chk2_of (word dst i) (hdst i)))
      have hr : (fun x => f ((Rect.unit (s := S10000x5) (k0_off2 (word dst i)) S1x5.size (k0_off2_inb _ (chk2_of (word dst i) (hdst i)))).idx x))
          = row f (word dst i).toNat := ld_row f _ _ (off2_eq _) _
      iapply (wp_load_eq 𝒱₀ (c : Thread nD τ) (some (vn (k + 2001))) E hr) $$ H3; iintro H3
      iapply (wp_call_spec 𝒱₀ (c : Thread nD τ) (some (vn (k + 2001))) E
        (spec2 c arg1 arg2 arg20 arg21 v4 src dst b f₀ (word dst i) f i) (vn k) (vn_lt (by omega))
        (inner_le c gi arg1 harg1 arg2 harg2 arg20 harg20 arg21 harg21 v4 src dst b f₀ hsrc E (BitVec.ofNat 32 i) (chk1_of i hi2)
          (word dst i) (chk2_of (word dst i) (hdst i)) (hdst i) f k i hi (row f (word dst i).toNat)
          ((setRow_row f (hdst i)).trans hf)))
      rw [spec2_apply]; unfold held
      isplitl [H1 H2 H3 H4]
      · isplitl [H1]; · iexact H1
        isplitl [H2]; · iexact H2
        isplitl [H3]; · iexact H3
        iexact H4
      iintro %r %hr' ⟨H1, H2, H3, H4⟩
      obtain ⟨j, hij, hj, hr1, hr2, hlt⟩ := hr'
      have hlt := hlt hi2 rfl
      iapply (wp_load_at 𝒱₀ (c : Thread nD τ) (some (vn (k + 2001))) E) $$ H3; iintro H3
      iapply (wp_store_at 𝒱₀ (c : Thread nD τ) (some (vn (k + 2001))) E) $$ H3; iintro H3
      rw [pay5_eq, overlay_row f r.2 _ _ (off2_eq _) _, hr1]
      iapply (wp_call_spec 𝒱₀ (c : Thread nD τ) (some (vn (k + 2001))) E
        (spec1 c arg1 arg2 arg20 arg21 v4 src dst b f₀ (setRow f (word dst i).toNat r.2)) (vn (2000 - j + 2001)) (vn_lt (by omega))
        (ih (2000 - j) (by omega) j (by omega) _ hr2))
      rw [spec1_apply]; unfold held
      isplitl [H1 H2 H3 H4]
      · isplitl [H1]; · iexact H1
        isplitl [H2]; · iexact H2
        isplitl [H3]; · iexact H3
        iexact H4
      iintro %r' H
      rw [wp_ret]; imodintro
      iapply Hk; iexact H
    · have htest : ¬Scalar.cmpi .slt (BitVec.ofNat 32 i) 2000#32 = 1#1 := fun h => hi2 ((Bits.slt_iff i hi1).mp h)
      simp only [Prog.pure_eq_ret, htest, ↓reduceIte]
      have e : i = 2000 := by omega
      subst e; subst hf
      iintro ⟨H, Hk⟩
      rw [wp_ret]; imodintro
      iapply Hk; iexact H

end Loops

end Cert.Proof.KI
-- ==== Proof.KI.Body.lean ====
/-
  One grid point of the kernel: the first point copies the node states into the scratch buffer; every point computes its
  chunk's edge rows, runs the two nested loops over the chunk, and the last point writes the result.
-/
module

public import proofs.«01_k».proof.Proof.KI.Control

@[expose] public section

set_option maxRecDepth 16384

noncomputable section

namespace Cert.Proof.KI

open Cert.KernelIdeal Cert.KernelIdeal.Gen Cert.Proof.Chain Cert.Proof.Own
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The kernel's test for the first point. -/
def isFirst (i : grid0.Coords) : Prop := Scalar.cmpi .ne (Scalar.extui (Scalar.cmpi .eq (BitVec.ofNat 32 (i 0).val) 0#32)) 0#32 = 1#1

open Classical in
/-- The node states a point starts from: the launch's at the first, else what the point before left. -/
def startOf (i : grid0.Coords) (h f : State (F .f32)) : State (F .f32) := if isFirst i then h else f

/-- The node states a point leaves. -/
def endOf (i : grid0.Coords) (src dst : Words) (ea : FVec F S1x2000x11 .f32) (h : FVec F S10000x5 .f32) (mm : FVec F S1x10x5 .f32)
    (be : FVec F S1x11x5 .f32) (cb : FVec F S1x1x5 .f32) (f : State (F .f32)) : State (F .f32) :=
  chunk (upd (k0_pay2 mm)) src dst (k0_pay3 be cb ea) (startOf i h f) 2000

/-- The result the last point writes, from the final node states. -/
def tailOf (f : State (F .f32)) (h2 : FVec F S10000x5 .f32) (mol : FVec F S1x202 .f32) (r1 r2 : FVec F S5x32 .f32) (rb : FVec F S1x32 .f32)
    (w1 : FVec F S234x128 .f32) (b1 : FVec F S1x128 .f32) (w2 : FVec F S128x32 .f32) (b2 : FVec F S1x32 .f32) (w3 : FVec F S32x1 .f32)
    (b3 : FVec F S1x1 .f32) : FVec F S1x1 .f32 :=
  k0_pay4 (k0_pay7 f h2 r1 r2 rb mol w1 b1) w2 b2 w3 b3

theorem pay1_eq (v : State (F .f32)) : k0_pay1 (F := F) v = v := shapeCast_self v _

theorem zero2 : (![0, 0] : Fin 2 → ℕ) = fun _ => 0 := by decide
theorem zero3 : (![0, 0, 0] : Fin 3 → ℕ) = fun _ => 0 := by decide

section Body

variable (c : Dev nD) (i : grid0.Coords)
  (arg1 : Memref sig .tc .smem S1x1x2000 .i32) (harg1 : arg1.IsWhole) (arg2 : Memref sig .tc .smem S1x1x2000 .i32) (harg2 : arg2.IsWhole)
  (arg3 : Memref sig .tc .vmem S1x2000x11 .f32) (harg3 : arg3.IsWhole)  (arg4 : Memref sig .tc .vmem S10000x5 .f32) (harg4 : arg4.IsWhole)
  (arg5 : Memref sig .tc .vmem S10000x5 .f32) (harg5 : arg5.IsWhole)  (arg6 : Memref sig .tc .vmem S1x202 .f32) (harg6 : arg6.IsWhole)
  (arg7 : Memref sig .tc .vmem S1x10x5 .f32) (harg7 : arg7.IsWhole)  (arg8 : Memref sig .tc .vmem S1x11x5 .f32) (harg8 : arg8.IsWhole)
  (arg9 : Memref sig .tc .vmem S1x1x5 .f32) (harg9 : arg9.IsWhole)  (arg10 : Memref sig .tc .vmem S5x32 .f32) (harg10 : arg10.IsWhole)
  (arg11 : Memref sig .tc .vmem S5x32 .f32) (harg11 : arg11.IsWhole)  (arg12 : Memref sig .tc .vmem S1x32 .f32) (harg12 : arg12.IsWhole)
  (arg13 : Memref sig .tc .vmem S234x128 .f32) (harg13 : arg13.IsWhole)  (arg14 : Memref sig .tc .vmem S1x128 .f32) (harg14 : arg14.IsWhole)
  (arg15 : Memref sig .tc .vmem S128x32 .f32) (harg15 : arg15.IsWhole)  (arg16 : Memref sig .tc .vmem S1x32 .f32) (harg16 : arg16.IsWhole)
  (arg17 : Memref sig .tc .vmem S32x1 .f32) (harg17 : arg17.IsWhole)  (arg18 : Memref sig .tc .vmem S1x1 .f32) (harg18 : arg18.IsWhole)
  (arg19 : Memref sig .tc .vmem S1x1 .f32) (harg19 : arg19.IsWhole) (arg20 : Memref sig .tc .vmem S10000x5 .f32) (harg20 : arg20.IsWhole)
  (arg21 : Memref sig .tc .vmem S2000x5 .f32) (harg21 : arg21.IsWhole)
  (src dst : Words)
  (ea : FVec F S1x2000x11 .f32) (h : FVec F S10000x5 .f32) (h2 : FVec F S10000x5 .f32) (mol : FVec F S1x202 .f32) (mm : FVec F S1x10x5 .f32) (be : FVec F S1x11x5 .f32) (cb : FVec F S1x1x5 .f32) (r1 : FVec F S5x32 .f32) (r2 : FVec F S5x32 .f32) (rb : FVec F S1x32 .f32) (w1 : FVec F S234x128 .f32) (b1 : FVec F S1x128 .f32) (w2 : FVec F S128x32 .f32) (b2 : FVec F S1x32 .f32) (w3 : FVec F S32x1 .f32) (b3 : FVec F S1x1 .f32)

/-- The input windows of a point at their contents. -/
def ins : sProp 𝕄 :=
  iprop(owns (c : Thread nD τ) arg1 fullShare src ∗ owns (c : Thread nD τ) arg2 fullShare dst ∗ owns (c : Thread nD τ) arg3 fullShare ea ∗ owns (c : Thread nD τ) arg4 fullShare h ∗ owns (c : Thread nD τ) arg5 fullShare h2 ∗ owns (c : Thread nD τ) arg6 fullShare mol ∗ owns (c : Thread nD τ) arg7 fullShare mm ∗ owns (c : Thread nD τ) arg8 fullShare be ∗ owns (c : Thread nD τ) arg9 fullShare cb ∗ owns (c : Thread nD τ) arg10 fullShare r1 ∗ owns (c : Thread nD τ) arg11 fullShare r2 ∗ owns (c : Thread nD τ) arg12 fullShare rb ∗ owns (c : Thread nD τ) arg13 fullShare w1 ∗ owns (c : Thread nD τ) arg14 fullShare b1 ∗ owns (c : Thread nD τ) arg15 fullShare w2 ∗ owns (c : Thread nD τ) arg16 fullShare b2 ∗ owns (c : Thread nD τ) arg17 fullShare w3 ∗ owns (c : Thread nD τ) arg18 fullShare b3)

/-- The first point's copy, ahead of what every point runs. -/
theorem wp_first (f h : State (F .f32)) (rest : Prog (TpuEff nD τ sig (Elt F) (Λ₀ F) .tc) PUnit) (K : PUnit → sProp 𝕄) :
    iprop(owns (c : Thread nD τ) arg4 fullShare h ∗ owns (c : Thread nD τ) arg20 fullShare f
        ∗ (owns (c : Thread nD τ) arg4 fullShare h ∗ owns (c : Thread nD τ) arg20 fullShare (startOf i h f)
          -∗ wp frame (wpE (defs₀ (F := F)) 𝒱₀ (c : Thread nD τ) none) Set.univ rest K))
      ⊢ wp frame (wpE (defs₀ (F := F)) 𝒱₀ (c : Thread nD τ) none) Set.univ
          (if _h1 : Scalar.cmpi .ne (Scalar.extui (Scalar.cmpi .eq (BitVec.ofNat 32 (i 0).val) 0#32)) 0#32 = 1#1 then
            .op (.load arg4 (Rect.unit (s := S10000x5) ![0, 0] S10000x5.size inb_S10000x5_S10000x5_0_0).toLoadRect (View.loadsAt_vmem h_S10000x5)) fun v =>
            .op (.load arg20 (Rect.unit (s := S10000x5) ![0, 0] S10000x5.size inb_S10000x5_S10000x5_0_0).toLoadRect (View.loadsAt_vmem h_S10000x5)) fun _ =>
            .op (.store arg20 (Rect.unit (s := S10000x5) ![0, 0] S10000x5.size inb_S10000x5_S10000x5_0_0) (k0_pay1 v) Finset.univ
              (View.stores_vmem_bits_univ h_S10000x5 rfl) (.inl rfl)) fun _ => rest
          else rest) K := by
  iintro ⟨H4, H20, Hk⟩
  unfold startOf isFirst
  split
  · iapply (wp_load_all 𝒱₀ (c : Thread nD τ) none Set.univ zero2) $$ H4; iintro H4
    iapply (wp_load_all 𝒱₀ (c : Thread nD τ) none Set.univ zero2) $$ H20; iintro H20
    iapply (wp_store_all 𝒱₀ (c : Thread nD τ) none Set.univ zero2) $$ H20; iintro H20
    rw [pay1_eq]
    iapply Hk
    isplitl [H4]; · iexact H4
    iexact H20
  · iapply Hk
    isplitl [H4]; · iexact H4
    iexact H20

/-- One point: the inputs stay, the node states go through the chunk, the edge rows are the chunk's, and the result window
    is written at the last point only. -/
theorem body_le (hsrc : ∀ n, (word src n).toNat < 10000) (hdst : ∀ n, (word dst n).toNat < 10000) (o : FVec F S1x1 .f32)
    (f : State (F .f32)) (br : Edges (F .f32)) (K : PUnit → sProp 𝕄) :
    iprop(ins c arg1 arg2 arg3 arg4 arg5 arg6 arg7 arg8 arg9 arg10 arg11 arg12 arg13 arg14 arg15 arg16 arg17 arg18 src dst ea h h2 mol mm be cb r1 r2 rb w1 b1 w2 b2 w3 b3
        ∗ owns (c : Thread nD τ) arg19 fullShare o ∗ owns (c : Thread nD τ) arg20 fullShare f ∗ owns (c : Thread nD τ) arg21 fullShare br
        ∗ (ins c arg1 arg2 arg3 arg4 arg5 arg6 arg7 arg8 arg9 arg10 arg11 arg12 arg13 arg14 arg15 arg16 arg17 arg18 src dst ea h h2 mol mm be cb r1 r2 rb w1 b1 w2 b2 w3 b3
            ∗ owns (c : Thread nD τ) arg19 fullShare
                (if k0_cond2 i = 1#1 then tailOf (endOf i src dst ea h mm be cb f) h2 mol r1 r2 rb w1 b1 w2 b2 w3 b3 else o)
            ∗ owns (c : Thread nD τ) arg20 fullShare (endOf i src dst ea h mm be cb f)
            ∗ owns (c : Thread nD τ) arg21 fullShare (k0_pay3 be cb ea) -∗ K ⟨⟩))
      ⊢ wp frame (wpE (defs₀ (F := F)) 𝒱₀ (c : Thread nD τ) none) Set.univ
          (cc0__mp_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__mp_body_eq_skeleton]; unfold cc0__mp_body_skel
  simp only [k0_part1_eq_skeleton]; unfold k0_part1_skel
  simp only [Prog.lift, Prog.bind_op, Prog.bind_ret, Prog.pure_eq_ret]
  unfold ins
  iintro ⟨⟨H1, H2, H3, H4, H5, H6, H7, H8, H9, H10, H11, H12, H13, H14, H15, H16, H17, H18⟩, H19, H20, H21, Hk⟩
  iapply (wp_first c i arg4 arg20 f h)
  isplitl [H4]; · iexact H4
  isplitl [H20]; · iexact H20
  iintro ⟨H4, H20⟩
  iapply (wp_load_all 𝒱₀ (c : Thread nD τ) none Set.univ zero3) $$ H7; iintro H7
  iapply (wp_load_all 𝒱₀ (c : Thread nD τ) none Set.univ zero3) $$ H8; iintro H8
  iapply (wp_load_all 𝒱₀ (c : Thread nD τ) none Set.univ zero3) $$ H9; iintro H9
  iapply (wp_load_all 𝒱₀ (c : Thread nD τ) none Set.univ zero3) $$ H3; iintro H3
  iapply (wp_load_all 𝒱₀ (c : Thread nD τ) none Set.univ zero2) $$ H21; iintro H21
  iapply (wp_store_all 𝒱₀ (c : Thread nD τ) none Set.univ zero2) $$ H21; iintro H21
  iapply (wp_call_spec 𝒱₀ (c : Thread nD τ) none Set.univ
    (spec1 c arg1 arg2 arg20 arg21 (k0_pay2 mm) src dst (k0_pay3 be cb ea) (startOf i h f) (startOf i h f)) (vn (2000 + 2001)) (fun u hu => nomatch hu)
    (outer_le c i arg1 harg1 arg2 harg2 arg20 harg20 arg21 harg21 (k0_pay2 mm) src dst (k0_pay3 be cb ea) (startOf i h f) hsrc hdst Set.univ 2000 0 rfl
      _ rfl))
  rw [spec1_apply]; unfold held
  isplitl [H1 H2 H20 H21]
  · isplitl [H1]; · iexact H1
    isplitl [H2]; · iexact H2
    isplitl [H20]; · iexact H20
    iexact H21
  iintro %r ⟨H1, H2, H20, H21⟩
  by_cases h2 : k0_cond2 i = 1#1
  · rw [dif_pos h2, if_pos h2]
    iapply (wp_load_all 𝒱₀ (c : Thread nD τ) none Set.univ zero2) $$ H20; iintro H20
    iapply (wp_load_all 𝒱₀ (c : Thread nD τ) none Set.univ zero2) $$ H5; iintro H5
    iapply (wp_load_all 𝒱₀ (c : Thread nD τ) none Set.univ zero2) $$ H10; iintro H10
    iapply (wp_load_all 𝒱₀ (c : Thread nD τ) none Set.univ zero2) $$ H11; iintro H11
    iapply (wp_load_all 𝒱₀ (c : Thread nD τ) none Set.univ zero2) $$ H12; iintro H12
    iapply (wp_load_all 𝒱₀ (c : Thread nD τ) none Set.univ zero2) $$ H6; iintro H6
    iapply (wp_load_all 𝒱₀ (c : Thread nD τ) none Set.univ zero2) $$ H13; iintro H13
    iapply (wp_load_all 𝒱₀ (c : Thread nD τ) none Set.univ zero2) $$ H14; iintro H14
    iapply (wp_load_all 𝒱₀ (c : Thread nD τ) none Set.univ zero2) $$ H15; iintro H15
    iapply (wp_load_all 𝒱₀ (c : Thread nD τ) none Set.univ zero2) $$ H16; iintro H16
    iapply (wp_load_all 𝒱₀ (c : Thread nD τ) none Set.univ zero2) $$ H17; iintro H17
    iapply (wp_load_all 𝒱₀ (c : Thread nD τ) none Set.univ zero2) $$ H18; iintro H18
    iapply (wp_load_all 𝒱₀ (c : Thread nD τ) none Set.univ zero2) $$ H19; iintro H19
    iapply (wp_store_all 𝒱₀ (c : Thread nD τ) none Set.univ zero2) $$ H19; iintro H19
    rw [wp_ret]; imodintro
    iapply Hk
    isplitl [H1 H2 H3 H4 H5 H6 H7 H8 H9 H10 H11 H12 H13 H14 H15 H16 H17 H18]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [H19]; · iexact H19
    isplitl [H20]; · iexact H20
    iexact H21
  · rw [dif_neg h2, if_neg h2]
    rw [wp_ret]; imodintro
    iapply Hk
    isplitl [H1 H2 H3 H4 H5 H6 H7 H8 H9 H10 H11 H12 H13 H14 H15 H16 H17 H18]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [H19]; · iexact H19
    isplitl [H20]; · iexact H20
    iexact H21

end Body

end Cert.Proof.KI
-- ==== Proof.KI.Data.lean ====
/-
  What the kernel's buffers hold at every grid point, as data of the launch: each input window at its block of the array the
  host prepared, the node states at the chain of the chunks so far, the result window at the tail of the last states; and
  the body's obligation against that data.
-/
module

public import proofs.«01_k».proof.Proof.KI.Body
public import proofs.«01_k».proof.Proof.Gen.KernelIdeal.Launch
public import proofs.«01_k».proof.Proof.Gen.KernelIdeal.Points
public import Idealize.ShloMosaic.Lib.Pipeline.Frame
public import Idealize.ShloMosaic.Lib.StableHlo

@[expose] public section

set_option maxRecDepth 16384

noncomputable section

namespace Cert.Proof.KI

open Cert.KernelIdeal Cert.KernelIdeal.Gen Cert.Proof.Chain Cert.Proof.Own
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation heldIn)

variable {F : FTy → Type} [FloatOps F] [Named F]

local notation "𝕄" => MT nD τ sig Unit (Elt F) ℕ (UR sig nD τ) ℕ

variable (m : (ℓ : Loc nD τ sig) → Buf (Elt F) ℓ)

/-- Every buffer as the host operations leave it for the kernel. -/
def V (c : Dev nD) (b : Ref sig .tc) : Buf (Elt F) ((c : Thread nD τ).loc b) := StableHlo.after hostOps0 (fun b => m (c, b)) b

/-- The windows' arrays at entry. -/
def A0 (c : Dev nD) (w : Fin (cfg0 (F := F)).W) : Buf (Elt F) (((cfg0 (F := F)).win w).arr.view.loc (c : Thread nD τ)) :=
  V m c (Pipeline.arrRef spec0 w)

/-! The input windows' contents at a point. -/
abbrev srcAt (c : Dev nD) (t : Fin (cfg0 (F := F)).N) : Words := heldIn (cfg0 (F := F)) (A0 m c) 0 t.val t.isLt
abbrev dstAt (c : Dev nD) (t : Fin (cfg0 (F := F)).N) : Words := heldIn (cfg0 (F := F)) (A0 m c) 1 t.val t.isLt
abbrev eaAt (c : Dev nD) (t : Fin (cfg0 (F := F)).N) : FVec F S1x2000x11 .f32 := heldIn (cfg0 (F := F)) (A0 m c) 2 t.val t.isLt
abbrev hAt (c : Dev nD) (t : Fin (cfg0 (F := F)).N) : FVec F S10000x5 .f32 := heldIn (cfg0 (F := F)) (A0 m c) 3 t.val t.isLt
abbrev h2At (c : Dev nD) (t : Fin (cfg0 (F := F)).N) : FVec F S10000x5 .f32 := heldIn (cfg0 (F := F)) (A0 m c) 4 t.val t.isLt
abbrev molAt (c : Dev nD) (t : Fin (cfg0 (F := F)).N) : FVec F S1x202 .f32 := heldIn (cfg0 (F := F)) (A0 m c) 5 t.val t.isLt
abbrev mmAt (c : Dev nD) (t : Fin (cfg0 (F := F)).N) : FVec F S1x10x5 .f32 := heldIn (cfg0 (F := F)) (A0 m c) 6 t.val t.isLt
abbrev beAt (c : Dev nD) (t : Fin (cfg0 (F := F)).N) : FVec F S1x11x5 .f32 := heldIn (cfg0 (F := F)) (A0 m c) 7 t.val t.isLt
abbrev cbAt (c : Dev nD) (t : Fin (cfg0 (F := F)).N) : FVec F S1x1x5 .f32 := heldIn (cfg0 (F := F)) (A0 m c) 8 t.val t.isLt
abbrev r1At (c : Dev nD) (t : Fin (cfg0 (F := F)).N) : FVec F S5x32 .f32 := heldIn (cfg0 (F := F)) (A0 m c) 9 t.val t.isLt
abbrev r2At (c : Dev nD) (t : Fin (cfg0 (F := F)).N) : FVec F S5x32 .f32 := heldIn (cfg0 (F := F)) (A0 m c) 10 t.val t.isLt
abbrev rbAt (c : Dev nD) (t : Fin (cfg0 (F := F)).N) : FVec F S1x32 .f32 := heldIn (cfg0 (F := F)) (A0 m c) 11 t.val t.isLt
abbrev w1At (c : Dev nD) (t : Fin (cfg0 (F := F)).N) : FVec F S234x128 .f32 := heldIn (cfg0 (F := F)) (A0 m c) 12 t.val t.isLt
abbrev b1At (c : Dev nD) (t : Fin (cfg0 (F := F)).N) : FVec F S1x128 .f32 := heldIn (cfg0 (F := F)) (A0 m c) 13 t.val t.isLt
abbrev w2At (c : Dev nD) (t : Fin (cfg0 (F := F)).N) : FVec F S128x32 .f32 := heldIn (cfg0 (F := F)) (A0 m c) 14 t.val t.isLt
abbrev b2At (c : Dev nD) (t : Fin (cfg0 (F := F)).N) : FVec F S1x32 .f32 := heldIn (cfg0 (F := F)) (A0 m c) 15 t.val t.isLt
abbrev w3At (c : Dev nD) (t : Fin (cfg0 (F := F)).N) : FVec F S32x1 .f32 := heldIn (cfg0 (F := F)) (A0 m c) 16 t.val t.isLt
abbrev b3At (c : Dev nD) (t : Fin (cfg0 (F := F)).N) : FVec F S1x1 .f32 := heldIn (cfg0 (F := F)) (A0 m c) 17 t.val t.isLt

/-- The node states after `n` points (before the first: anything). -/
def stateAt (c : Dev nD) : (n : ℕ) → n ≤ (cfg0 (F := F)).N → State (F .f32)
  | 0, _ => constant S10000x5 .f32 0x00000000#32
  | n + 1, h =>
    let t : Fin (cfg0 (F := F)).N := ⟨n, h⟩
    endOf (grid0.coords t) (srcAt m c t) (dstAt m c t) (eaAt m c t) (hAt m c t) (mmAt m c t) (beAt m c t) (cbAt m c t) (stateAt c n (Nat.le_of_succ_le h))

/-- The result computed from the states after point `t`. -/
def resultAt (c : Dev nD) (t : Fin (cfg0 (F := F)).N) : FVec F S1x1 .f32 :=
  tailOf (stateAt m c (t.val + 1) t.isLt) (h2At m c t) (molAt m c t) (r1At m c t) (r2At m c t) (rbAt m c t) (w1At m c t) (b1At m c t) (w2At m c t) (b2At m c t) (w3At m c t) (b3At m c t)

/-- The buffers carried from point to point: the node states (known after the first point), the edge rows, the generator. -/
def carried (c : Dev nD) (n : ℕ) (h : n ≤ (cfg0 (F := F)).N) : sProp 𝕄 :=
  iprop((∃ f, ⌜n ≠ 0 → f = stateAt m c n h⌝ ∗ owns (c : Thread nD τ) (Memref.whole cc0_scratch0) fullShare f)
    ∗ (∃ f, owns (c : Thread nD τ) (Memref.whole cc0_scratch1) fullShare f) ∗ ∃ r, prngReg c r)

/-- The data of the launch. -/
def dats : (p : Fin 1) → (c : Dev nD) → Dat τ (Elt F) Unit ℕ (UR sig nD τ) ℕ (cfgs (F := F) p) c := fun _ c =>
  { A := A0 m c
    after := fun
    | 0 => fun t => heldIn (cfg0 (F := F)) (A0 m c) 0 t.val t.isLt
    | 1 => fun t => heldIn (cfg0 (F := F)) (A0 m c) 1 t.val t.isLt
    | 2 => fun t => heldIn (cfg0 (F := F)) (A0 m c) 2 t.val t.isLt
    | 3 => fun t => heldIn (cfg0 (F := F)) (A0 m c) 3 t.val t.isLt
    | 4 => fun t => heldIn (cfg0 (F := F)) (A0 m c) 4 t.val t.isLt
    | 5 => fun t => heldIn (cfg0 (F := F)) (A0 m c) 5 t.val t.isLt
    | 6 => fun t => heldIn (cfg0 (F := F)) (A0 m c) 6 t.val t.isLt
    | 7 => fun t => heldIn (cfg0 (F := F)) (A0 m c) 7 t.val t.isLt
    | 8 => fun t => heldIn (cfg0 (F := F)) (A0 m c) 8 t.val t.isLt
    | 9 => fun t => heldIn (cfg0 (F := F)) (A0 m c) 9 t.val t.isLt
    | 10 => fun t => heldIn (cfg0 (F := F)) (A0 m c) 10 t.val t.isLt
    | 11 => fun t => heldIn (cfg0 (F := F)) (A0 m c) 11 t.val t.isLt
    | 12 => fun t => heldIn (cfg0 (F := F)) (A0 m c) 12 t.val t.isLt
    | 13 => fun t => heldIn (cfg0 (F := F)) (A0 m c) 13 t.val t.isLt
    | 14 => fun t => heldIn (cfg0 (F := F)) (A0 m c) 14 t.val t.isLt
    | 15 => fun t => heldIn (cfg0 (F := F)) (A0 m c) 15 t.val t.isLt
    | 16 => fun t => heldIn (cfg0 (F := F)) (A0 m c) 16 t.val t.isLt
    | 17 => fun t => heldIn (cfg0 (F := F)) (A0 m c) 17 t.val t.isLt
    | 18 => fun t => resultAt m c t
    | ⟨_ + 19, h⟩ => absurd h (Nat.not_lt.2 (Nat.le_add_left _ _))
    Φ := fun t => carried m c t.val (Nat.le_of_lt_succ t.isLt)
    q := fun _ => fullShare
    owed := fun _ => 0 }

theorem before_in (c : Dev nD) (w : Fin (cfg0 (F := F)).W) (hw : ((cfg0 (F := F)).win w).isOut = false)
    (hlive : ∀ i, (cfg0 (F := F)).idle w i = false) (hclip : ∀ (i : grid0.Coords) a, ((cfg0 (F := F)).win w).clip i a = none)
    (hafter : ∀ t, (dats m 0 c).after w t = heldIn (cfg0 (F := F)) (A0 m c) w t.val t.isLt) (t : Fin (cfg0 (F := F)).N) (d) :
    (dats m 0 c).before w t d = heldIn (cfg0 (F := F)) (A0 m c) w t.val t.isLt :=
  (dats m 0 c).before_eq_heldIn w hw hlive hclip hafter t d

theorem before_0 (c : Dev nD) (t : Fin (cfg0 (F := F)).N) (d) : (dats m 0 c).before 0 t d = heldIn (cfg0 (F := F)) (A0 m c) 0 t.val t.isLt :=
  before_in m c 0 rfl (fun _ => rfl) (fun _ _ => rfl) (fun _ => rfl) t d
theorem before_1 (c : Dev nD) (t : Fin (cfg0 (F := F)).N) (d) : (dats m 0 c).before 1 t d = heldIn (cfg0 (F := F)) (A0 m c) 1 t.val t.isLt :=
  before_in m c 1 rfl (fun _ => rfl) (fun _ _ => rfl) (fun _ => rfl) t d
theorem before_2 (c : Dev nD) (t : Fin (cfg0 (F := F)).N) (d) : (dats m 0 c).before 2 t d = heldIn (cfg0 (F := F)) (A0 m c) 2 t.val t.isLt :=
  before_in m c 2 rfl (fun _ => rfl) (fun _ _ => rfl) (fun _ => rfl) t d
theorem before_3 (c : Dev nD) (t : Fin (cfg0 (F := F)).N) (d) : (dats m 0 c).before 3 t d = heldIn (cfg0 (F := F)) (A0 m c) 3 t.val t.isLt :=
  before_in m c 3 rfl (fun _ => rfl) (fun _ _ => rfl) (fun _ => rfl) t d
theorem before_4 (c : Dev nD) (t : Fin (cfg0 (F := F)).N) (d) : (dats m 0 c).before 4 t d = heldIn (cfg0 (F := F)) (A0 m c) 4 t.val t.isLt :=
  before_in m c 4 rfl (fun _ => rfl) (fun _ _ => rfl) (fun _ => rfl) t d
theorem before_5 (c : Dev nD) (t : Fin (cfg0 (F := F)).N) (d) : (dats m 0 c).before 5 t d = heldIn (cfg0 (F := F)) (A0 m c) 5 t.val t.isLt :=
  before_in m c 5 rfl (fun _ => rfl) (fun _ _ => rfl) (fun _ => rfl) t d
theorem before_6 (c : Dev nD) (t : Fin (cfg0 (F := F)).N) (d) : (dats m 0 c).before 6 t d = heldIn (cfg0 (F := F)) (A0 m c) 6 t.val t.isLt :=
  before_in m c 6 rfl (fun _ => rfl) (fun _ _ => rfl) (fun _ => rfl) t d
theorem before_7 (c : Dev nD) (t : Fin (cfg0 (F := F)).N) (d) : (dats m 0 c).before 7 t d = heldIn (cfg0 (F := F)) (A0 m c) 7 t.val t.isLt :=
  before_in m c 7 rfl (fun _ => rfl) (fun _ _ => rfl) (fun _ => rfl) t d
theorem before_8 (c : Dev nD) (t : Fin (cfg0 (F := F)).N) (d) : (dats m 0 c).before 8 t d = heldIn (cfg0 (F := F)) (A0 m c) 8 t.val t.isLt :=
  before_in m c 8 rfl (fun _ => rfl) (fun _ _ => rfl) (fun _ => rfl) t d
theorem before_9 (c : Dev nD) (t : Fin (cfg0 (F := F)).N) (d) : (dats m 0 c).before 9 t d = heldIn (cfg0 (F := F)) (A0 m c) 9 t.val t.isLt :=
  before_in m c 9 rfl (fun _ => rfl) (fun _ _ => rfl) (fun _ => rfl) t d
theorem before_10 (c : Dev nD) (t : Fin (cfg0 (F := F)).N) (d) : (dats m 0 c).before 10 t d = heldIn (cfg0 (F := F)) (A0 m c) 10 t.val t.isLt :=
  before_in m c 10 rfl (fun _ => rfl) (fun _ _ => rfl) (fun _ => rfl) t d
theorem before_11 (c : Dev nD) (t : Fin (cfg0 (F := F)).N) (d) : (dats m 0 c).before 11 t d = heldIn (cfg0 (F := F)) (A0 m c) 11 t.val t.isLt :=
  before_in m c 11 rfl (fun _ => rfl) (fun _ _ => rfl) (fun _ => rfl) t d
theorem before_12 (c : Dev nD) (t : Fin (cfg0 (F := F)).N) (d) : (dats m 0 c).before 12 t d = heldIn (cfg0 (F := F)) (A0 m c) 12 t.val t.isLt :=
  before_in m c 12 rfl (fun _ => rfl) (fun _ _ => rfl) (fun _ => rfl) t d
theorem before_13 (c : Dev nD) (t : Fin (cfg0 (F := F)).N) (d) : (dats m 0 c).before 13 t d = heldIn (cfg0 (F := F)) (A0 m c) 13 t.val t.isLt :=
  before_in m c 13 rfl (fun _ => rfl) (fun _ _ => rfl) (fun _ => rfl) t d
theorem before_14 (c : Dev nD) (t : Fin (cfg0 (F := F)).N) (d) : (dats m 0 c).before 14 t d = heldIn (cfg0 (F := F)) (A0 m c) 14 t.val t.isLt :=
  before_in m c 14 rfl (fun _ => rfl) (fun _ _ => rfl) (fun _ => rfl) t d
theorem before_15 (c : Dev nD) (t : Fin (cfg0 (F := F)).N) (d) : (dats m 0 c).before 15 t d = heldIn (cfg0 (F := F)) (A0 m c) 15 t.val t.isLt :=
  before_in m c 15 rfl (fun _ => rfl) (fun _ _ => rfl) (fun _ => rfl) t d
theorem before_16 (c : Dev nD) (t : Fin (cfg0 (F := F)).N) (d) : (dats m 0 c).before 16 t d = heldIn (cfg0 (F := F)) (A0 m c) 16 t.val t.isLt :=
  before_in m c 16 rfl (fun _ => rfl) (fun _ _ => rfl) (fun _ => rfl) t d
theorem before_17 (c : Dev nD) (t : Fin (cfg0 (F := F)).N) (d) : (dats m 0 c).before 17 t d = heldIn (cfg0 (F := F)) (A0 m c) 17 t.val t.isLt :=
  before_in m c 17 rfl (fun _ => rfl) (fun _ _ => rfl) (fun _ => rfl) t d

/-! The grid's one coordinate is the point's number. -/

theorem coords_val (t : Fin grid0.N) : (grid0.coords t 0).val = t.val := by
  rw [Pipeline.Grid.coords_val t 0 (S := 1) (B := 160) (by decide) rfl]
  have ht : t.val < 160 := lt_of_lt_of_eq t.isLt N_0
  omega

theorem ne_zero_ext (b : BitVec 1) : Scalar.cmpi .ne (Scalar.extui b : BitVec 32) 0#32 = 1#1 ↔ b = 1#1 := by
  revert b; decide

theorem ofNat_eq_iff (n k : ℕ) (hn : n < 4000) (hk : k < 4000) : (BitVec.ofNat 32 n = BitVec.ofNat 32 k) ↔ n = k := by
  constructor
  · intro h
    have := congrArg BitVec.toNat h
    rw [BitVec.toNat_ofNat, BitVec.toNat_ofNat, Nat.mod_eq_of_lt (by omega), Nat.mod_eq_of_lt (by omega)] at this
    exact this
  · rintro rfl; rfl

/-- The first point's test. -/
theorem isFirst_iff (t : Fin grid0.N) : isFirst (grid0.coords t) ↔ t.val = 0 := by
  have ht : t.val < 160 := lt_of_lt_of_eq t.isLt N_0
  unfold isFirst
  rw [ne_zero_ext, Bits.eq_iff, coords_val]
  exact ofNat_eq_iff t.val 0 (by omega) (by omega)

/-- The last point's test. -/
theorem cond2_iff (t : Fin grid0.N) : k0_cond2 (grid0.coords t) = 1#1 ↔ t.val = 159 := by
  have ht : t.val < 160 := lt_of_lt_of_eq t.isLt N_0
  unfold k0_cond2
  rw [ne_zero_ext, Bits.eq_iff, coords_val]
  exact ofNat_eq_iff t.val 159 (by omega) (by omega)

/-- At the first point the states come from the launch, whatever the scratch buffer held. -/
theorem endOf_congr (t : Fin grid0.N) (src dst : Words) (ea : FVec F S1x2000x11 .f32) (h : FVec F S10000x5 .f32) (mm : FVec F S1x10x5 .f32)
    (be : FVec F S1x11x5 .f32) (cb : FVec F S1x1x5 .f32) (f f' : State (F .f32)) (hf : t.val ≠ 0 → f = f') :
    endOf (grid0.coords t) src dst ea h mm be cb f = endOf (grid0.coords t) src dst ea h mm be cb f' := by
  unfold endOf startOf
  by_cases h0 : isFirst (grid0.coords t)
  · rw [if_pos h0, if_pos h0]
  · rw [if_neg h0, if_neg h0, hf fun h => h0 ((isFirst_iff t).mpr h)]

/-! ### The body obligation -/

/-- The endpoint words of every chunk name nodes. -/
def Small : Prop := ∀ c t n, (word (srcAt m c t) n).toNat < 10000 ∧ (word (dstAt m c t) n).toNat < 10000

theorem body_obligation (hm : Small m) (c : Dev nD) : BodyObligation (dats m 0 c) (defs₀ (F := F)) 𝒱₀ () Set.univ := fun t => by
  have hΦ0 : (dats m 0 c).Φ t.castSucc = carried m c t.val (Nat.le_of_lt t.isLt) := by
    dsimp only [dats]; exact Pipeline.Dat.Φ_castSucc (carried m c) t
  have hΦ1 : (dats m 0 c).Φ t.succ = carried m c (t.val + 1) t.isLt := by
    dsimp only [dats]; rfl
  rw [hΦ0, hΦ1, bigSep_W0, bigSep_W0]
  show iprop(carried m c t.val (Nat.le_of_lt t.isLt) ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ d, owns (c : Thread nD τ) (st0_10 t) fullShare ((dats m 0 c).before 10 t d))
      ∗ (∃ d, owns (c : Thread nD τ) (st0_11 t) fullShare ((dats m 0 c).before 11 t d))
      ∗ (∃ d, owns (c : Thread nD τ) (st0_12 t) fullShare ((dats m 0 c).before 12 t d))
      ∗ (∃ d, owns (c : Thread nD τ) (st0_13 t) fullShare ((dats m 0 c).before 13 t d))
      ∗ (∃ d, owns (c : Thread nD τ) (st0_14 t) fullShare ((dats m 0 c).before 14 t d))
      ∗ (∃ d, owns (c : Thread nD τ) (st0_15 t) fullShare ((dats m 0 c).before 15 t d))
      ∗ (∃ d, owns (c : Thread nD τ) (st0_16 t) fullShare ((dats m 0 c).before 16 t d))
      ∗ (∃ d, owns (c : Thread nD τ) (st0_17 t) fullShare ((dats m 0 c).before 17 t d))
      ∗ (∃ d, owns (c : Thread nD τ) (st0_18 t) fullShare ((dats m 0 c).before 18 t d)))
    ⊢ wp frame (wpE (defs₀ (F := F)) 𝒱₀ (c : Thread nD τ) none) Set.univ (bodyAt0 t) fun _ =>
      iprop(carried m c (t.val + 1) t.isLt ∗ (dats m 0 c).owesAt () t.succ
        ∗ owns (c : Thread nD τ) (st0_0 t) fullShare (srcAt m c t)
        ∗ owns (c : Thread nD τ) (st0_1 t) fullShare (dstAt m c t)
        ∗ owns (c : Thread nD τ) (st0_2 t) fullShare (eaAt m c t)
        ∗ owns (c : Thread nD τ) (st0_3 t) fullShare (hAt m c t)
        ∗ owns (c : Thread nD τ) (st0_4 t) fullShare (h2At m c t)
        ∗ owns (c : Thread nD τ) (st0_5 t) fullShare (molAt m c t)
        ∗ owns (c : Thread nD τ) (st0_6 t) fullShare (mmAt m c t)
        ∗ owns (c : Thread nD τ) (st0_7 t) fullShare (beAt m c t)
        ∗ owns (c : Thread nD τ) (st0_8 t) fullShare (cbAt m c t)
        ∗ owns (c : Thread nD τ) (st0_9 t) fullShare (r1At m c t)
        ∗ owns (c : Thread nD τ) (st0_10 t) fullShare (r2At m c t)
        ∗ owns (c : Thread nD τ) (st0_11 t) fullShare (rbAt m c t)
        ∗ owns (c : Thread nD τ) (st0_12 t) fullShare (w1At m c t)
        ∗ owns (c : Thread nD τ) (st0_13 t) fullShare (b1At m c t)
        ∗ owns (c : Thread nD τ) (st0_14 t) fullShare (w2At m c t)
        ∗ owns (c : Thread nD τ) (st0_15 t) fullShare (b2At m c t)
        ∗ owns (c : Thread nD τ) (st0_16 t) fullShare (w3At m c t)
        ∗ owns (c : Thread nD τ) (st0_17 t) fullShare (b3At m c t)
        ∗ (dats m 0 c).leavesExact 18 t)
  simp only [before_0, before_1, before_2, before_3, before_4, before_5, before_6, before_7, before_8, before_9, before_10, before_11, before_12, before_13, before_14, before_15, before_16, before_17]
  unfold carried
  iintro ⟨⟨⟨%f, %hf, Hs⟩, ⟨%br, Hb⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%o, H18⟩⟩
  iapply (body_le c (grid0.coords t) _ _ _ _ _ _ _ _ _ _ _ _ _ _ _ _ _ _ _ _ _ _ _ _ _ _ _ _ _ _ _ _ _ _ _ _ _ _ _ _ _ _
    (srcAt m c t) (dstAt m c t) (eaAt m c t) (hAt m c t) (h2At m c t) (molAt m c t) (mmAt m c t) (beAt m c t) (cbAt m c t) (r1At m c t) (r2At m c t) (rbAt m c t) (w1At m c t) (b1At m c t) (w2At m c t) (b2At m c t) (w3At m c t) (b3At m c t)
    (fun n => (hm c t n).1) (fun n => (hm c t n).2) ((dats m 0 c).before 18 t o) f br)
  unfold ins
  isplitl [H0 H1 H2 H3 H4 H5 H6 H7 H8 H9 H10 H11 H12 H13 H14 H15 H16 H17]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  isplitl [H18]; · iexact H18
  isplitl [Hs]; · iexact Hs
  isplitl [Hb]; · iexact Hb
  iintro ⟨⟨H0, H1, H2, H3, H4, H5, H6, H7, H8, H9, H10, H11, H12, H13, H14, H15, H16, H17⟩, H18, Hs, Hb⟩
  isplitl [Hs Hb Hp]
  · isplitl [Hs]
    · iexists _; isplitr
      swap; · iexact Hs
      ipureintro; intro _
      exact endOf_congr t _ _ _ _ _ _ _ _ _ hf
    isplitl [Hb]
    · iexists _; iexact Hb
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  have hi1 : k0_cond2 (grid0.coords t) = 1#1 → (cfg0 (F := F)).idle 18 (grid0.coords t) = false := fun h2 => by
    show (!(k0_cond2 (grid0.coords t) == 1#1)) = false
    rw [h2]; rfl
  have hi2 : ¬k0_cond2 (grid0.coords t) = 1#1 → (cfg0 (F := F)).idle 18 (grid0.coords t) = true := fun h2 => by
    show (!(k0_cond2 (grid0.coords t) == 1#1)) = true
    simp [h2]
  have hfl : ¬k0_cond2 (grid0.coords t) = 1#1 → ((cfg0 (F := F)).win 18).flush t = false := fun h2 => by
    rw [Bool.eq_false_iff]
    intro h
    have := (flush0_18 t).mp h
    have ht : t.val < 160 := lt_of_lt_of_eq t.isLt N_0
    exact h2 ((cond2_iff t).mpr (by omega))
  have hX : tailOf (endOf (grid0.coords t) (srcAt m c t) (dstAt m c t) (eaAt m c t) (hAt m c t) (mmAt m c t) (beAt m c t) (cbAt m c t) f) (h2At m c t) (molAt m c t) (r1At m c t) (r2At m c t) (rbAt m c t) (w1At m c t) (b1At m c t) (w2At m c t) (b2At m c t) (w3At m c t) (b3At m c t)
      = (dats m 0 c).after 18 t := by
    rw [endOf_congr t _ _ _ _ _ _ _ _ _ hf]; rfl
  iapply (leaves_cond (dats m 0 c) 18 t hi1 hi2 hfl o hX)
  iexact H18

end Cert.Proof.KI
-- ==== Proof.KI.Run.lean ====
/-
  The run of the kernel: the host operations prepare the arrays, the kernel is launched over its grid; after it every
  argument is as it was, and the result holds the tail of the states after the last point.
-/
module

public import proofs.«01_k».proof.Proof.KI.Data
public import Idealize.ShloMosaic.Lib.Pipeline.Value

@[expose] public section

set_option maxRecDepth 16384

noncomputable section

namespace Cert.Proof.KI

open Cert.KernelIdeal Cert.KernelIdeal.Gen Cert.Proof.Chain Cert.Proof.Own
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation heldIn)

variable {F : FTy → Type} [FloatOps F] [Named F]

local notation "𝕄" => MT nD τ sig Unit (Elt F) ℕ (UR sig nD τ) ℕ

variable (m : (ℓ : Loc nD τ sig) → Buf (Elt F) ℓ)

/-- The buffers the host operations write. -/
def written : List (Ref sig .tc) :=
  [main_v0, main_v1, main_v2, main_v3, main_v4, main_v5, main_v6, main_v7, main_v8, main_v9, main_v10, main_v11, main_v12, main_v13,
   main_v14, main_v15, main_v16, main_v17, main_v18, main_v19, main_v20, main_v21, main_v22, main_v23, main_v24, main_v25, main_v26,
   main_v27, main_v28, main_v29, main_v30, main_v31, main_v32, main_v33, main_v34, main_v35, main_v36, main_v37, main_v38, main_v39,
   main_v40, main_v41, main_v42, main_v43, main_v44, main_v45, main_v46, main_v47, main_v48, main_v49, main_v50, main_v51, main_v52,
   main_v53, main_v54]

/-- The arguments of the program. -/
def args : List (Ref sig .tc) :=
  [main_arg0, main_arg1, main_arg2, main_arg3, main_arg4, main_arg5, main_arg6, main_arg7, main_arg8, main_arg9, main_arg10, main_arg11,
   main_arg12, main_arg13, main_arg14, main_arg15, main_arg16, main_arg17, main_arg18, main_arg19, main_arg20, main_arg21, main_arg22,
   main_arg23, main_arg24]

/-- A buffer no host operation writes reaches the kernel as it was. -/
theorem V_kept (c : Dev nD) {r : Ref sig .tc} (hr : r ∉ written) : V m c r = m ((c : Thread nD τ).loc r) :=
  StableHlo.after_of_writes_sub (W := written) hostOps0 (fun b => m (c, b)) (StableHlo.forall_writes_sub_of_map rfl) hr

/-- The host operations leave every argument as it was. -/
theorem V_arg (c : Dev nD) {r : Ref sig .tc} (hr : r ∈ args) : V m c r = m ((c : Thread nD τ).loc r) :=
  V_kept m c (by revert r; decide)

/-- No host operation allocates. -/
theorem hostOps0_fresh : (hostOps0 : List (HloOp τ sig (Elt F))).Forall fun op => op.fresh = ∅ := by
  simp only [List.Forall]; repeat' constructor

/-- The last point. -/
def lastPoint : Fin (cfg0 (F := F)).N := ⟨159, by show 159 < grid0.N; rw [N_0]; decide⟩

theorem carried_in (c : Dev nD) : Pipeline.ΦA spec0 c ⊢ (dats m 0 c).Φ 0 := by
  show Pipeline.ΦA spec0 c ⊢ carried m c 0 (Nat.zero_le _)
  unfold Pipeline.ΦA carried
  rw [scopedRest0_eq]
  simp only [owns_whole_eq]
  iintro ⟨⟨⟨%f, H0⟩, ⟨%g, H1⟩⟩, Hr⟩
  isplitl [H0]
  · iexists f; isplitr
    · ipureintro; intro h; exact absurd rfl h
    · iexists f; isplitr
      · ipureintro; rfl
      · iexact H0
  isplitl [H1]
  · iexists g; iexists g; isplitr
    · ipureintro; rfl
    · iexact H1
  iexact Hr

theorem carried_out (c : Dev nD) : (dats m 0 c).Φ (Fin.last (cfg0 (F := F)).N) ⊢ Pipeline.ΦA spec0 c := by
  show carried m c (cfg0 (F := F)).N (le_refl _) ⊢ Pipeline.ΦA spec0 c
  unfold Pipeline.ΦA carried
  rw [scopedRest0_eq]
  simp only [owns_whole_eq]
  iintro ⟨⟨%f, -, ⟨%f', -, H0⟩⟩, ⟨%g, ⟨%g', -, H1⟩⟩, Hr⟩
  isplitr [Hr]
  · isplitl [H0]
    · iexists f'; iexact H0
    · iexists g'; iexact H1
  iexact Hr

/-- A result of one element has one index. -/
theorem one_idx (x y : S1x1.Idx) : x = y := by
  funext a
  apply Fin.ext
  have hx := (x a).isLt
  have hy := (y a).isLt
  fin_cases a
  · have h1 : (x 0).val < 1 := hx
    have h2 : (y 0).val < 1 := hy
    show (x 0).val = (y 0).val
    omega
  · have h1 : (x 1).val < 1 := hx
    have h2 : (y 1).val < 1 := hy
    show (x 1).val = (y 1).val
    omega

/-- The result array after the run. -/
theorem result_eq (c : Dev nD) : (dats m 0 c).arrAt 18 (cfg0 (F := F)).N = resultAt m c lastPoint := by
  have hflush : ∀ t : Fin (cfg0 (F := F)).N, ((cfg0 (F := F)).win 18).flush t = true → t = lastPoint := fun t hf => by
    have ht : t.val < 160 := lt_of_lt_of_eq t.isLt N_0
    have h := (flush0_18 t).mp hf
    exact Fin.ext (by show t.val = 159; omega)
  refine (dats m 0 c).arrAt_eq_of_cover 18 (resultAt m c lastPoint) (fun t hf => ?_) (fun i => ?_)
  · rw [hflush t hf]
    funext x
    exact congrArg (resultAt m c lastPoint) (one_idx _ _)
  · refine ⟨lastPoint, (flush0_18 _).mpr rfl, ?_⟩
    have h := (((cfg0 (F := F)).win 18).blk lastPoint).view.emb_mem_set (ix2 (0 : Fin 1) (0 : Fin 1))
    exact (one_idx _ _ : _ = i) ▸ h

/-- An argument that is no window's array is among the buffers the kernel leaves alone. -/
theorem arg_cases {r : Ref sig .tc} (hr : r ∈ args) : r = main_arg3 ∨ r = main_arg4 ∨ r ∈ Pipeline.restRefs sig spec0 := by
  by_cases h3 : r = main_arg3
  · exact .inl h3
  by_cases h4 : r = main_arg4
  · exact .inr (.inl h4)
  refine .inr (.inr (Pipeline.mem_restRefs_of r ?_ ?_))
  · revert r; decide
  · revert r; decide

/-- The node features of the first layer end as they began, -/
theorem arg3_kept (c : Dev nD) : (dats m 0 c).arrAt 3 (cfg0 (F := F)).N = m ((c : Thread nD τ).loc main_arg3) :=
  have h : (dats m 0 c).A 3 = V m c main_arg3 := rfl
  ((dats m 0 c).arrAt_in 3 rfl _).trans (h.trans (V_arg m c (r := main_arg3) (by decide)))

/-- and so do those of the second. -/
theorem arg4_kept (c : Dev nD) : (dats m 0 c).arrAt 4 (cfg0 (F := F)).N = m ((c : Thread nD τ).loc main_arg4) :=
  have h : (dats m 0 c).A 4 = V m c main_arg4 := rfl
  ((dats m 0 c).arrAt_in 4 rfl _).trans (h.trans (V_arg m c (r := main_arg4) (by decide)))

/-- What a run leaves: the arguments as they were, the result at the tail of the last states. -/
def Left (r : PUnit × MemSt nD τ sig (Elt F)) : Prop :=
  ∀ c : Dev nD, (∀ b ∈ args, r.2.mem ((c : Thread nD τ).loc b) = m ((c : Thread nD τ).loc b))
    ∧ r.2.mem ((c : Thread nD τ).loc main_v55) = resultAt m c lastPoint

/-- Every run of the kernel from node numbers in range ends, with nothing left in flight. -/
theorem run_main (g : Dev nD → PrngReg) (hm : Small m) :
    θ_run defs (onTc (τ := τ) (main (F := F))) ⟨m, fun _ => 0, g⟩ (fun r => Left m r ∧ r.2.sem = fun _ => 0) :=
  Pipeline.θ_run_frame_track cfgs (dats m) 0 launch0 defs₀ 𝒱₀ m g main
    (hbody := fun c => (body_obligation m hm c).loose)
    (hshare := fun c w => by unfold Dat.share; split <;> rfl)
    (howed := fun _ _ => rfl)
    (V := V m)
    (hmain := Pipeline.hmain_prefix cfgs 0 defs₀ 𝒱₀ m main hostOps0 hostOps0_sub hostOps0_fresh main_chain)
    (hA := fun _ _ => rfl)
    (hin := carried_in m) (hout := carried_out m)
    (Q' := _)
    (hQ' := fun r h => ⟨fun c => ⟨fun b hb => by
      rcases arg_cases hb with rfl | rfl | hr
      · exact ((h.1 c).1 3).trans (arg3_kept m c)
      · exact ((h.1 c).1 4).trans (arg4_kept m c)
      · exact ((h.1 c).2 b hr).trans (V_arg m c hb),
      ((h.1 c).1 18).trans (result_eq m c)⟩, h.2⟩)

end Cert.Proof.KI

end
-- ==== Proof.KI.Words.lean ====
/-
  The source and destination words the kernel reads at a grid point, as entries of the argument they come from; and that node
  numbers in range are what the run asks.
-/
module

public import proofs.«01_k».proof.Proof.KI.Run
public import proofs.«01_k».proof.Proof.Held
public import Idealize.ShloMosaic.Lib.Pointwise

@[expose] public section

set_option maxRecDepth 16384

noncomputable section

namespace Cert.Proof.KI

open Cert.KernelIdeal Cert.KernelIdeal.Gen Cert.Proof.Chain Cert.Proof.Own Cert.Proof.Held
open Idealize.ShloMosaic
open Idealize.ShloMosaic.TcCoe
open Idealize.SL.Sem
open Idealize.ShloMosaic.Pipeline (Dat Cfg Window heldIn)

variable {F : FTy → Type} [FloatOps F] [Named F]

variable (m : (ℓ : Loc nD τ sig) → Buf (Elt F) ℓ)

theorem point_lt (t : Fin (cfg0 (F := F)).N) : t.val < 160 := lt_of_lt_of_eq t.isLt N_0

/-- The blocks of the index words and of the edge features go round the 80 chunks. -/
theorem index_0 : ∀ t : Fin grid0.N, win0_0.index t = ![t.val % 80, 0, 0] := by decide +kernel
theorem index_1 : ∀ t : Fin grid0.N, win0_1.index t = ![t.val % 80, 0, 0] := by decide +kernel

theorem V_src (c : Dev nD) : V m c main_v41 = shapeCast S80x1x2000 (shapeCast S160000 (extractStridedSlice S1x160000 ![0, 0]
    (m ((c : Thread nD τ).loc main_arg1)) slices_S2x160000_S1x160000_0_0) shapeCasts_S1x160000_S160000) shapeCasts_S160000_S80x1x2000 := rfl
theorem V_dst (c : Dev nD) : V m c main_v42 = shapeCast S80x1x2000 (shapeCast S160000 (extractStridedSlice S1x160000 ![1, 0]
    (m ((c : Thread nD τ).loc main_arg1)) slices_S2x160000_S1x160000_1_0) shapeCasts_S1x160000_S160000) shapeCasts_S160000_S80x1x2000 := rfl

/-- Edge `n` of the chunk of point `t`, among all the edges. -/
def edgeOf (t n : ℕ) : Fin 160000 := ⟨t % 80 * 2000 + n % 2000, by omega⟩

theorem edge_lt (e : Fin 80) (k : Fin 2000) : e.val * 2000 + k.val < 160000 := by omega

/-- Word `k` of chunk `e`, as prepared, is an entry of the argument. -/
theorem src_entry (c : Dev nD) (e : Fin 80) (k : Fin 2000) :
    V m c main_v41 (ix3 e (0 : Fin 1) k) = m ((c : Thread nD τ).loc main_arg1) (ix2 (0 : Fin 2) (⟨e.val * 2000 + k.val, edge_lt e k⟩ : Fin 160000)) := by
  rw [V_src]
  simp only [pointwise]
  exact congrArg (fun q : Fin 160000 => m ((c : Thread nD τ).loc main_arg1) (ix2 (0 : Fin 2) q)) (Fin.ext (Nat.zero_add _))
theorem dst_entry (c : Dev nD) (e : Fin 80) (k : Fin 2000) :
    V m c main_v42 (ix3 e (0 : Fin 1) k) = m ((c : Thread nD τ).loc main_arg1) (ix2 (1 : Fin 2) (⟨e.val * 2000 + k.val, edge_lt e k⟩ : Fin 160000)) := by
  rw [V_dst]
  simp only [pointwise]
  exact congrArg (fun q : Fin 160000 => m ((c : Thread nD τ).loc main_arg1) (ix2 (1 : Fin 2) q)) (Fin.ext (Nat.zero_add _))

/-- The source word of edge `n` at point `t`. -/
theorem word_src (c : Dev nD) (t : Fin (cfg0 (F := F)).N) (n : ℕ) :
    word (srcAt m c t) n = m ((c : Thread nD τ).loc main_arg1) (ix2 (0 : Fin 2) (edgeOf t.val n)) := by
  have h1 : word (srcAt m c t) n = V m c main_v41 (ix3 (⟨t.val % 80, Nat.mod_lt _ (by decide)⟩ : Fin 80) (0 : Fin 1) (⟨n % 2000, Nat.mod_lt _ (by decide)⟩ : Fin 2000)) := by
    refine heldIn_at (A0 m c) (0 : Fin 19) rfl (fun _ _ => rfl) t.val t.isLt _ _ fun a => ?_
    have hix := index_0 t
    match a with
    | ⟨0, _⟩ => show t.val % 80 = win0_0.index t 0 * 1 + 0; rw [hix]; simp
    | ⟨1, _⟩ => show 0 = win0_0.index t 1 * 1 + 0; rw [hix]; simp
    | ⟨2, _⟩ => show n % 2000 = win0_0.index t 2 * 2000 + n % 2000; rw [hix]; simp
  exact h1.trans (src_entry m c _ _)

/-- The destination word of edge `n` at point `t`. -/
theorem word_dst (c : Dev nD) (t : Fin (cfg0 (F := F)).N) (n : ℕ) :
    word (dstAt m c t) n = m ((c : Thread nD τ).loc main_arg1) (ix2 (1 : Fin 2) (edgeOf t.val n)) := by
  have h1 : word (dstAt m c t) n = V m c main_v42 (ix3 (⟨t.val % 80, Nat.mod_lt _ (by decide)⟩ : Fin 80) (0 : Fin 1) (⟨n % 2000, Nat.mod_lt _ (by decide)⟩ : Fin 2000)) := by
    refine heldIn_at (A0 m c) (1 : Fin 19) rfl (fun _ _ => rfl) t.val t.isLt _ _ fun a => ?_
    have hix := index_1 t
    match a with
    | ⟨0, _⟩ => show t.val % 80 = win0_1.index t 0 * 1 + 0; rw [hix]; simp
    | ⟨1, _⟩ => show 0 = win0_1.index t 1 * 1 + 0; rw [hix]; simp
    | ⟨2, _⟩ => show n % 2000 = win0_1.index t 2 * 2000 + n % 2000; rw [hix]; simp
  exact h1.trans (dst_entry m c _ _)

/-- Node numbers below the number of nodes are small for the run. -/
theorem small_of (h : ∀ (c : Dev nD) (i : S2x160000.Idx), (m ((c : Thread nD τ).loc main_arg1) i : BitVec 32).toNat < 10000) : Small m := by
  intro c t n
  rw [word_src, word_dst]
  exact ⟨h c _, h c _⟩

end Cert.Proof.KI

end
-- ==== Proof.KI.Frame.lean ====
/-
  The frame of the kernel: from node numbers in range every run ends, with the arguments as they were.
-/
module

public import proofs.«01_k».proof.Proof.KI.Words
public import proofs.«01_k».proof.Proof.Nodes

@[expose] public section

set_option maxRecDepth 16384

noncomputable section

namespace Cert.Proof.KI

open Cert.KernelIdeal Cert.KernelIdeal.Gen
open Idealize.ShloMosaic
open Idealize.ShloMosaic.TcCoe
open Idealize.SL.Sem

variable {F : FTy → Type} [FloatOps F] [Named F]

/-- Every argument as it was, one by one. -/
def Kept (m : (ℓ : Loc nD τ sig) → Buf (Elt F) ℓ) (s : MemSt nD τ sig (Elt F)) (c : Dev nD) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)
  ∧ s.mem ((c : Thread nD τ).loc main_arg7) = m ((c : Thread nD τ).loc main_arg7)
  ∧ s.mem ((c : Thread nD τ).loc main_arg8) = m ((c : Thread nD τ).loc main_arg8)
  ∧ s.mem ((c : Thread nD τ).loc main_arg9) = m ((c : Thread nD τ).loc main_arg9)
  ∧ s.mem ((c : Thread nD τ).loc main_arg10) = m ((c : Thread nD τ).loc main_arg10)
  ∧ s.mem ((c : Thread nD τ).loc main_arg11) = m ((c : Thread nD τ).loc main_arg11)
  ∧ s.mem ((c : Thread nD τ).loc main_arg12) = m ((c : Thread nD τ).loc main_arg12)
  ∧ s.mem ((c : Thread nD τ).loc main_arg13) = m ((c : Thread nD τ).loc main_arg13)
  ∧ s.mem ((c : Thread nD τ).loc main_arg14) = m ((c : Thread nD τ).loc main_arg14)
  ∧ s.mem ((c : Thread nD τ).loc main_arg15) = m ((c : Thread nD τ).loc main_arg15)
  ∧ s.mem ((c : Thread nD τ).loc main_arg16) = m ((c : Thread nD τ).loc main_arg16)
  ∧ s.mem ((c : Thread nD τ).loc main_arg17) = m ((c : Thread nD τ).loc main_arg17)
  ∧ s.mem ((c : Thread nD τ).loc main_arg18) = m ((c : Thread nD τ).loc main_arg18)
  ∧ s.mem ((c : Thread nD τ).loc main_arg19) = m ((c : Thread nD τ).loc main_arg19)
  ∧ s.mem ((c : Thread nD τ).loc main_arg20) = m ((c : Thread nD τ).loc main_arg20)
  ∧ s.mem ((c : Thread nD τ).loc main_arg21) = m ((c : Thread nD τ).loc main_arg21)
  ∧ s.mem ((c : Thread nD τ).loc main_arg22) = m ((c : Thread nD τ).loc main_arg22)
  ∧ s.mem ((c : Thread nD τ).loc main_arg23) = m ((c : Thread nD τ).loc main_arg23)
  ∧ s.mem ((c : Thread nD τ).loc main_arg24) = m ((c : Thread nD τ).loc main_arg24)

theorem kept_of (m : (ℓ : Loc nD τ sig) → Buf (Elt F) ℓ) (s : MemSt nD τ sig (Elt F)) (c : Dev nD)
    (h : ∀ b ∈ args, s.mem ((c : Thread nD τ).loc b) = m ((c : Thread nD τ).loc b)) : Kept m s c :=
  have a : args.Forall fun b => s.mem ((c : Thread nD τ).loc b) = m ((c : Thread nD τ).loc b) := List.forall_iff_forall_mem.mpr h
  a

/-- Every run from node numbers in range ends with the arguments as they were and nothing in flight. -/
theorem frame (m : (ℓ : Loc nD τ sig) → Buf (Elt F) ℓ) (g : Dev nD → PrngReg) (hm : Small m) :
    θ_run defs (onTc (τ := τ) (main (F := F))) ⟨m, fun _ => 0, g⟩ (fun r => (∀ c, Kept m r.2 c) ∧ r.2.sem = fun _ => 0) :=
  (θ_run defs _ _).mono (fun _ h => ⟨fun c => kept_of m _ c (h.1 c).1, h.2⟩) (run_main m g hm)

end Cert.Proof.KI

end
-- ==== Proof.RI.Ops.lean ====
/-
  The reference's operations, in the order its two loops and the lines around them run them.
-/
module

public import proofs.«01_k».proof.ReferenceIdeal
public import proofs.«01_k».proof.Proof.Gen.ReferenceIdeal
public import Idealize.ShloMosaic.Lib.StableHlo.RunLoop

@[expose] public section

set_option maxRecDepth 16384

noncomputable section

namespace Cert.Proof.RI

open Cert.ReferenceIdeal Cert.ReferenceIdeal.Gen

open Idealize.ShloMosaic
open Idealize.ShloMosaic.TcCoe
open Idealize.SL.Sem
open Idealize.ShloMosaic.StableHlo (Plain seq)

variable {F : FTy → Type} [FloatOps F]

/-- Up to the first loop: the two rows of the edge list and the first loop's carried values. -/
abbrev preOps : List (HloOp τ sig (Elt F)) :=
  [ StableHlo.unary main_arg1 main_v0 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v0 main_v1 (rfl : (.i32 : EltTy) = .i32) shapeCasts_S1x160000_S160000,
    StableHlo.unary main_arg1 main_v2 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v2 main_v3 (rfl : (.i32 : EltTy) = .i32) shapeCasts_S1x160000_S160000,
    StableHlo.nullary main_c (constantI S_ 32 0#32),
    StableHlo.unary main_v1 main_v4_0 id,
    StableHlo.unary main_v3 main_v4_1 id,
    StableHlo.unary main_arg2 main_v4_2 id,
    StableHlo.unary main_arg5 main_v4_3 id,
    StableHlo.unary main_arg6 main_v4_4 id,
    StableHlo.unary main_arg7 main_v4_5 id,
    StableHlo.unary main_arg8 main_v4_6 id,
    StableHlo.unary main_arg9 main_v4_7 id,
    StableHlo.unary main_arg10 main_v4_8 id,
    StableHlo.unary main_c main_v4_9 id,
    StableHlo.unary main_arg3 main_v4_10 id ]

/-- Between the loops: the second loop's carried values. -/
abbrev midOps : List (HloOp τ sig (Elt F)) :=
  [ StableHlo.nullary main_c_0 (constantI S_ 32 0#32),
    StableHlo.unary main_v1 main_v5_0 id,
    StableHlo.unary main_v3 main_v5_1 id,
    StableHlo.unary main_arg2 main_v5_2 id,
    StableHlo.unary main_arg11 main_v5_3 id,
    StableHlo.unary main_arg12 main_v5_4 id,
    StableHlo.unary main_arg13 main_v5_5 id,
    StableHlo.unary main_arg14 main_v5_6 id,
    StableHlo.unary main_arg15 main_v5_7 id,
    StableHlo.unary main_arg16 main_v5_8 id,
    StableHlo.unary main_c_0 main_v5_9 id,
    StableHlo.unary main_v4_10 main_v5_10 id ]

/-- The mean of the read-out and the molecule's features behind it. -/
abbrev postOps0 : List (HloOp τ sig (Elt F)) :=
  [ StableHlo.binary main_v5_10 main_arg4 main_v6 ((fun a b => concatenate S10000x10 1 [⟨S10000x5, a⟩, ⟨S10000x5, b⟩] concatenates_S10000x5_S10000x5_S10000x10_d1) : (⟨S10000x5, .f32⟩ : BufTy).Contents (Elt F) → (⟨S10000x5, .f32⟩ : BufTy).Contents (Elt F) → (⟨S10000x10, .f32⟩ : BufTy).Contents (Elt F)),
    StableHlo.unary main_arg17 main_v7 ((transpose S10x32 [1, 0] · transposes_S32x10_S10x32_1_0) : (⟨S32x10, .f32⟩ : BufTy).Contents (Elt F) → (⟨S10x32, .f32⟩ : BufTy).Contents (Elt F)),
    StableHlo.binary main_v6 main_v7 main_v8 ((fun l r => Host.dotGeneral dot_S10000x10_S10x32_S10000x32_1_0_0_1_n_n none l r) : (⟨S10000x10, .f32⟩ : BufTy).Contents (Elt F) → (⟨S10x32, .f32⟩ : BufTy).Contents (Elt F) → (⟨S10000x32, .f32⟩ : BufTy).Contents (Elt F)),
    StableHlo.unary main_arg18 main_v9 (broadcastInDim S1x32 ![1] bcast_S32_S1x32_1 : (⟨S32, .f32⟩ : BufTy).Contents (Elt F) → (⟨S1x32, .f32⟩ : BufTy).Contents (Elt F)),
    StableHlo.unary main_v9 main_v10 (broadcastInDim S10000x32 ![0, 1] bcast_S1x32_S10000x32_0_1 : (⟨S1x32, .f32⟩ : BufTy).Contents (Elt F) → (⟨S10000x32, .f32⟩ : BufTy).Contents (Elt F)),
    StableHlo.binary main_v8 main_v10 main_v11 (addf : (⟨S10000x32, .f32⟩ : BufTy).Contents (Elt F) → (⟨S10000x32, .f32⟩ : BufTy).Contents (Elt F) → (⟨S10000x32, .f32⟩ : BufTy).Contents (Elt F)),
    StableHlo.nullary main_cst (constant S_ .f32 0x00000000#32),
    StableHlo.binary main_v11 main_cst main_v12 ((fun x v => Host.reduceAdd x v reducesTo_S10000x32_S32_d0 h_S_) : (⟨S10000x32, .f32⟩ : BufTy).Contents (Elt F) → (⟨S_, .f32⟩ : BufTy).Contents (Elt F) → (⟨S32, .f32⟩ : BufTy).Contents (Elt F)),
    StableHlo.nullary main_cst_1 (constant S_ .f32 0x461C4000#32),
    StableHlo.unary main_cst_1 main_v13 (broadcastInDim S32 ![] bcast_S_S32 : (⟨S_, .f32⟩ : BufTy).Contents (Elt F) → (⟨S32, .f32⟩ : BufTy).Contents (Elt F)),
    StableHlo.binary main_v12 main_v13 main_v14 (Host.divf : (⟨S32, .f32⟩ : BufTy).Contents (Elt F) → (⟨S32, .f32⟩ : BufTy).Contents (Elt F) → (⟨S32, .f32⟩ : BufTy).Contents (Elt F)),
    StableHlo.binary main_v14 main_arg0 main_v15 ((fun a b => concatenate S234 0 [⟨S32, a⟩, ⟨S202, b⟩] concatenates_S32_S202_S234_d0) : (⟨S32, .f32⟩ : BufTy).Contents (Elt F) → (⟨S202, .f32⟩ : BufTy).Contents (Elt F) → (⟨S234, .f32⟩ : BufTy).Contents (Elt F)) ]

/-- The first positive part. -/
abbrev postOps1 : List (HloOp τ sig (Elt F)) :=
  [ StableHlo.nullary main_call6_cst (constant S_ .f32 0x00000000#32),
    StableHlo.unary main_call6_cst main_call6_v0 (broadcastInDim S234 ![] bcast_S_S234 : (⟨S_, .f32⟩ : BufTy).Contents (Elt F) → (⟨S234, .f32⟩ : BufTy).Contents (Elt F)),
    StableHlo.binary main_v15 main_call6_v0 main_v16 (maximumf : (⟨S234, .f32⟩ : BufTy).Contents (Elt F) → (⟨S234, .f32⟩ : BufTy).Contents (Elt F) → (⟨S234, .f32⟩ : BufTy).Contents (Elt F)) ]

/-- The first dense layer. -/
abbrev postOps2 : List (HloOp τ sig (Elt F)) :=
  [ StableHlo.unary main_arg19 main_v17 ((transpose S234x128 [1, 0] · transposes_S128x234_S234x128_1_0) : (⟨S128x234, .f32⟩ : BufTy).Contents (Elt F) → (⟨S234x128, .f32⟩ : BufTy).Contents (Elt F)),
    StableHlo.binary main_v16 main_v17 main_v18 ((fun l r => Host.dotGeneral dot_S234_S234x128_S128_0_0_n_1_n_n none l r) : (⟨S234, .f32⟩ : BufTy).Contents (Elt F) → (⟨S234x128, .f32⟩ : BufTy).Contents (Elt F) → (⟨S128, .f32⟩ : BufTy).Contents (Elt F)),
    StableHlo.binary main_v18 main_arg20 main_v19 (addf : (⟨S128, .f32⟩ : BufTy).Contents (Elt F) → (⟨S128, .f32⟩ : BufTy).Contents (Elt F) → (⟨S128, .f32⟩ : BufTy).Contents (Elt F)) ]

/-- The second positive part. -/
abbrev postOps3 : List (HloOp τ sig (Elt F)) :=
  [ StableHlo.nullary main_call7_cst (constant S_ .f32 0x00000000#32),
    StableHlo.unary main_call7_cst main_call7_v0 (broadcastInDim S128 ![] bcast_S_S128 : (⟨S_, .f32⟩ : BufTy).Contents (Elt F) → (⟨S128, .f32⟩ : BufTy).Contents (Elt F)),
    StableHlo.binary main_v19 main_call7_v0 main_v20 (maximumf : (⟨S128, .f32⟩ : BufTy).Contents (Elt F) → (⟨S128, .f32⟩ : BufTy).Contents (Elt F) → (⟨S128, .f32⟩ : BufTy).Contents (Elt F)) ]

/-- The second dense layer. -/
abbrev postOps4 : List (HloOp τ sig (Elt F)) :=
  [ StableHlo.unary main_arg21 main_v21 ((transpose S128x32 [1, 0] · transposes_S32x128_S128x32_1_0) : (⟨S32x128, .f32⟩ : BufTy).Contents (Elt F) → (⟨S128x32, .f32⟩ : BufTy).Contents (Elt F)),
    StableHlo.binary main_v20 main_v21 main_v22 ((fun l r => Host.dotGeneral dot_S128_S128x32_S32_0_0_n_1_n_n none l r) : (⟨S128, .f32⟩ : BufTy).Contents (Elt F) → (⟨S128x32, .f32⟩ : BufTy).Contents (Elt F) → (⟨S32, .f32⟩ : BufTy).Contents (Elt F)),
    StableHlo.binary main_v22 main_arg22 main_v23 (addf : (⟨S32, .f32⟩ : BufTy).Contents (Elt F) → (⟨S32, .f32⟩ : BufTy).Contents (Elt F) → (⟨S32, .f32⟩ : BufTy).Contents (Elt F)) ]

/-- The third positive part. -/
abbrev postOps5 : List (HloOp τ sig (Elt F)) :=
  [ StableHlo.nullary main_call8_cst (constant S_ .f32 0x00000000#32),
    StableHlo.unary main_call8_cst main_call8_v0 (broadcastInDim S32 ![] bcast_S_S32 : (⟨S_, .f32⟩ : BufTy).Contents (Elt F) → (⟨S32, .f32⟩ : BufTy).Contents (Elt F)),
    StableHlo.binary main_v23 main_call8_v0 main_v24 (maximumf : (⟨S32, .f32⟩ : BufTy).Contents (Elt F) → (⟨S32, .f32⟩ : BufTy).Contents (Elt F) → (⟨S32, .f32⟩ : BufTy).Contents (Elt F)) ]

/-- The last dense layer. -/
abbrev postOps6 : List (HloOp τ sig (Elt F)) :=
  [ StableHlo.unary main_arg23 main_v25 ((transpose S32x1 [1, 0] · transposes_S1x32_S32x1_1_0) : (⟨S1x32, .f32⟩ : BufTy).Contents (Elt F) → (⟨S32x1, .f32⟩ : BufTy).Contents (Elt F)),
    StableHlo.binary main_v24 main_v25 main_v26 ((fun l r => Host.dotGeneral dot_S32_S32x1_S1_0_0_n_1_n_n none l r) : (⟨S32, .f32⟩ : BufTy).Contents (Elt F) → (⟨S32x1, .f32⟩ : BufTy).Contents (Elt F) → (⟨S1, .f32⟩ : BufTy).Contents (Elt F)),
    StableHlo.binary main_v26 main_arg24 main_v27 (addf : (⟨S1, .f32⟩ : BufTy).Contents (Elt F) → (⟨S1, .f32⟩ : BufTy).Contents (Elt F) → (⟨S1, .f32⟩ : BufTy).Contents (Elt F)),
    StableHlo.reshape main_v27 main_v28 (rfl : (.f32 : EltTy) = .f32) shapeCasts_S1_S1x1 ]

/-- Loop 0: the counter against the number of edges. -/
abbrev condOps0 : List (HloOp τ sig (Elt F)) :=
  [ StableHlo.nullary main_while0c_c_12 (constantI S_ 32 160000#32),
    StableHlo.binary main_v4_9 main_while0c_c_12 main_while0c_v29 (cmpi .slt : (⟨S_, .i32⟩ : BufTy).Contents (Elt F) → (⟨S_, .i32⟩ : BufTy).Contents (Elt F) → (⟨S_, .i1⟩ : BufTy).Contents (Elt F)) ]

/-- Loop 0: the edge's source. -/
abbrev srcOps0 : List (HloOp τ sig (Elt F)) :=
  [ StableHlo.TRef.unaryIndexed (.of main_v4_0 : StableHlo.TRef sig ⟨S160000, .i32⟩) ![(.of main_v4_9 : StableHlo.TRef sig ⟨S_, .i32⟩)] (.of main_while0b_call0_v0 : StableHlo.TRef sig ⟨S1, .i32⟩) (fun x i => Host.dynamicSlice S1 x (fun k => (i k (Shape.Idx.first h_S_)).toInt) sliceFits_S160000_S1),
    StableHlo.reshape main_while0b_call0_v0 main_while0b_v29 (rfl : (.i32 : EltTy) = .i32) shapeCasts_S1_S_ ]

/-- Loop 0: the edge's destination. -/
abbrev dstOps0 : List (HloOp τ sig (Elt F)) :=
  [ StableHlo.TRef.unaryIndexed (.of main_v4_1 : StableHlo.TRef sig ⟨S160000, .i32⟩) ![(.of main_v4_9 : StableHlo.TRef sig ⟨S_, .i32⟩)] (.of main_while0b_call1_v0 : StableHlo.TRef sig ⟨S1, .i32⟩) (fun x i => Host.dynamicSlice S1 x (fun k => (i k (Shape.Idx.first h_S_)).toInt) sliceFits_S160000_S1),
    StableHlo.reshape main_while0b_call1_v0 main_while0b_v30 (rfl : (.i32 : EltTy) = .i32) shapeCasts_S1_S_ ]

/-- Loop 0: the edge's attributes. -/
abbrev attrOps0 : List (HloOp τ sig (Elt F)) :=
  [ StableHlo.nullary main_while0b_call2_c (constantI S_ 32 0#32),
    StableHlo.TRef.unaryIndexed (.of main_v4_2 : StableHlo.TRef sig ⟨S160000x11, .f32⟩) ![(.of main_v4_9 : StableHlo.TRef sig ⟨S_, .i32⟩), (.of main_while0b_call2_c : StableHlo.TRef sig ⟨S_, .i32⟩)] (.of main_while0b_call2_v0 : StableHlo.TRef sig ⟨S1x11, .f32⟩) (fun x i => Host.dynamicSlice S1x11 x (fun k => (i k (Shape.Idx.first h_S_)).toInt) sliceFits_S160000x11_S1x11),
    StableHlo.reshape main_while0b_call2_v0 main_while0b_v31 (rfl : (.f32 : EltTy) = .f32) shapeCasts_S1x11_S11 ]

/-- Loop 0: the destination's new state. -/
abbrev stepOps0 : List (HloOp τ sig (Elt F)) :=
  [ StableHlo.nullary main_while0b_c_12 (constantI S_ 32 0#32),
    StableHlo.binary main_while0b_v29 main_while0b_c_12 main_while0b_v32 (cmpi .slt : (⟨S_, .i32⟩ : BufTy).Contents (Elt F) → (⟨S_, .i32⟩ : BufTy).Contents (Elt F) → (⟨S_, .i1⟩ : BufTy).Contents (Elt F)),
    StableHlo.nullary main_while0b_c_13 (constantI S_ 32 10000#32),
    StableHlo.binary main_while0b_v29 main_while0b_c_13 main_while0b_v33 (addi : (⟨S_, .i32⟩ : BufTy).Contents (Elt F) → (⟨S_, .i32⟩ : BufTy).Contents (Elt F) → (⟨S_, .i32⟩ : BufTy).Contents (Elt F)),
    StableHlo.ternary main_while0b_v32 main_while0b_v33 main_while0b_v29 main_while0b_v34 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_14 (constantI S_ 32 0#32),
    StableHlo.nullary main_while0b_c_15 (constantI S_ 32 0#32),
    StableHlo.binary main_while0b_c_14 main_while0b_c_15 main_while0b_v35 (cmpi .slt : (⟨S_, .i32⟩ : BufTy).Contents (Elt F) → (⟨S_, .i32⟩ : BufTy).Contents (Elt F) → (⟨S_, .i1⟩ : BufTy).Contents (Elt F)),
    StableHlo.nullary main_while0b_c_16 (constantI S_ 32 0#32),
    StableHlo.nullary main_while0b_c_17 (constantI S_ 32 5#32),
    StableHlo.binary main_while0b_c_16 main_while0b_c_17 main_while0b_v36 (addi : (⟨S_, .i32⟩ : BufTy).Contents (Elt F) → (⟨S_, .i32⟩ : BufTy).Contents (Elt F) → (⟨S_, .i32⟩ : BufTy).Contents (Elt F)),
    StableHlo.nullary main_while0b_c_18 (constantI S_ 32 0#32),
    StableHlo.ternary main_while0b_v35 main_while0b_v36 main_while0b_c_18 main_while0b_v37 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v4_10 ![main_while0b_v34, main_while0b_v37] ⟨S_, .i32⟩ main_while0b_v38 ((fun x i => Host.dynamicSlice S1x5 x (fun k => (i k (Shape.Idx.first h_S_)).toInt) sliceFits_S10000x5_S1x5) : (⟨S10000x5, .f32⟩ : BufTy).Contents (Elt F) → (Fin 2 → (⟨S_, .i32⟩ : BufTy).Contents (Elt F)) → (⟨S1x5, .f32⟩ : BufTy).Contents (Elt F)),
    StableHlo.reshape main_while0b_v38 main_while0b_v39 (rfl : (.f32 : EltTy) = .f32) shapeCasts_S1x5_S5,
    StableHlo.unary main_v4_3 main_while0b_v40 ((transpose S5x5 [1, 0] · transposes_S5x5_S5x5_1_0) : (⟨S5x5, .f32⟩ : BufTy).Contents (Elt F) → (⟨S5x5, .f32⟩ : BufTy).Contents (Elt F)),
    StableHlo.binary main_while0b_v39 main_while0b_v40 main_while0b_v41 ((fun l r => Host.dotGeneral dot_S5_S5x5_S5_0_0_n_1_n_n none l r) : (⟨S5, .f32⟩ : BufTy).Contents (Elt F) → (⟨S5x5, .f32⟩ : BufTy).Contents (Elt F) → (⟨S5, .f32⟩ : BufTy).Contents (Elt F)),
    StableHlo.binary main_while0b_v41 main_v4_4 main_while0b_v42 (addf : (⟨S5, .f32⟩ : BufTy).Contents (Elt F) → (⟨S5, .f32⟩ : BufTy).Contents (Elt F) → (⟨S5, .f32⟩ : BufTy).Contents (Elt F)),
    StableHlo.unary main_v4_5 main_while0b_v43 ((transpose S11x11 [1, 0] · transposes_S11x11_S11x11_1_0) : (⟨S11x11, .f32⟩ : BufTy).Contents (Elt F) → (⟨S11x11, .f32⟩ : BufTy).Contents (Elt F)),
    StableHlo.binary main_while0b_v31 main_while0b_v43 main_while0b_v44 ((fun l r => Host.dotGeneral dot_S11_S11x11_S11_0_0_n_1_n_n none l r) : (⟨S11, .f32⟩ : BufTy).Contents (Elt F) → (⟨S11x11, .f32⟩ : BufTy).Contents (Elt F) → (⟨S11, .f32⟩ : BufTy).Contents (Elt F)),
    StableHlo.binary main_while0b_v44 main_v4_6 main_while0b_v45 (addf : (⟨S11, .f32⟩ : BufTy).Contents (Elt F) → (⟨S11, .f32⟩ : BufTy).Contents (Elt F) → (⟨S11, .f32⟩ : BufTy).Contents (Elt F)),
    StableHlo.nullary main_while0b_c_19 (constantI S_ 32 0#32),
    StableHlo.binary main_while0b_v30 main_while0b_c_19 main_while0b_v46 (cmpi .slt : (⟨S_, .i32⟩ : BufTy).Contents (Elt F) → (⟨S_, .i32⟩ : BufTy).Contents (Elt F) → (⟨S_, .i1⟩ : BufTy).Contents (Elt F)),
    StableHlo.nullary main_while0b_c_20 (constantI S_ 32 10000#32),
    StableHlo.binary main_while0b_v30 main_while0b_c_20 main_while0b_v47 (addi : (⟨S_, .i32⟩ : BufTy).Contents (Elt F) → (⟨S_, .i32⟩ : BufTy).Contents (Elt F) → (⟨S_, .i32⟩ : BufTy).Contents (Elt F)),
    StableHlo.ternary main_while0b_v46 main_while0b_v47 main_while0b_v30 main_while0b_v48 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_21 (constantI S_ 32 0#32),
    StableHlo.nullary main_while0b_c_22 (constantI S_ 32 0#32),
    StableHlo.binary main_while0b_c_21 main_while0b_c_22 main_while0b_v49 (cmpi .slt : (⟨S_, .i32⟩ : BufTy).Contents (Elt F) → (⟨S_, .i32⟩ : BufTy).Contents (Elt F) → (⟨S_, .i1⟩ : BufTy).Contents (Elt F)),
    StableHlo.nullary main_while0b_c_23 (constantI S_ 32 0#32),
    StableHlo.nullary main_while0b_c_24 (constantI S_ 32 5#32),
    StableHlo.binary main_while0b_c_23 main_while0b_c_24 main_while0b_v50 (addi : (⟨S_, .i32⟩ : BufTy).Contents (Elt F) → (⟨S_, .i32⟩ : BufTy).Contents (Elt F) → (⟨S_, .i32⟩ : BufTy).Contents (Elt F)),
    StableHlo.nullary main_while0b_c_25 (constantI S_ 32 0#32),
    StableHlo.ternary main_while0b_v49 main_while0b_v50 main_while0b_c_25 main_while0b_v51 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v4_10 ![main_while0b_v48, main_while0b_v51] ⟨S_, .i32⟩ main_while0b_v52 ((fun x i => Host.dynamicSlice S1x5 x (fun k => (i k (Shape.Idx.first h_S_)).toInt) sliceFits_S10000x5_S1x5) : (⟨S10000x5, .f32⟩ : BufTy).Contents (Elt F) → (Fin 2 → (⟨S_, .i32⟩ : BufTy).Contents (Elt F)) → (⟨S1x5, .f32⟩ : BufTy).Contents (Elt F)),
    StableHlo.reshape main_while0b_v52 main_while0b_v53 (rfl : (.f32 : EltTy) = .f32) shapeCasts_S1x5_S5,
    StableHlo.nary ![main_while0b_v53, main_while0b_v42, main_while0b_v45] main_while0b_v54 (fun u => (concatenate S21 0 [⟨S5, (u 0 : (⟨S5, .f32⟩ : BufTy).Contents (Elt F))⟩, ⟨S5, (u 1 : (⟨S5, .f32⟩ : BufTy).Contents (Elt F))⟩, ⟨S11, (u 2 : (⟨S11, .f32⟩ : BufTy).Contents (Elt F))⟩] concatenates_S5_S5_S11_S21_d0 : (⟨S21, .f32⟩ : BufTy).Contents (Elt F))),
    StableHlo.unary main_v4_7 main_while0b_v55 ((transpose S21x5 [1, 0] · transposes_S5x21_S21x5_1_0) : (⟨S5x21, .f32⟩ : BufTy).Contents (Elt F) → (⟨S21x5, .f32⟩ : BufTy).Contents (Elt F)),
    StableHlo.binary main_while0b_v54 main_while0b_v55 main_while0b_v56 ((fun l r => Host.dotGeneral dot_S21_S21x5_S5_0_0_n_1_n_n none l r) : (⟨S21, .f32⟩ : BufTy).Contents (Elt F) → (⟨S21x5, .f32⟩ : BufTy).Contents (Elt F) → (⟨S5, .f32⟩ : BufTy).Contents (Elt F)),
    StableHlo.binary main_while0b_v56 main_v4_8 main_while0b_v57 (addf : (⟨S5, .f32⟩ : BufTy).Contents (Elt F) → (⟨S5, .f32⟩ : BufTy).Contents (Elt F) → (⟨S5, .f32⟩ : BufTy).Contents (Elt F)),
    StableHlo.nullary main_while0b_c_26 (constantI S_ 32 0#32),
    StableHlo.binary main_while0b_v30 main_while0b_c_26 main_while0b_v58 (cmpi .slt : (⟨S_, .i32⟩ : BufTy).Contents (Elt F) → (⟨S_, .i32⟩ : BufTy).Contents (Elt F) → (⟨S_, .i1⟩ : BufTy).Contents (Elt F)),
    StableHlo.nullary main_while0b_c_27 (constantI S_ 32 10000#32),
    StableHlo.binary main_while0b_v30 main_while0b_c_27 main_while0b_v59 (addi : (⟨S_, .i32⟩ : BufTy).Contents (Elt F) → (⟨S_, .i32⟩ : BufTy).Contents (Elt F) → (⟨S_, .i32⟩ : BufTy).Contents (Elt F)),
    StableHlo.ternary main_while0b_v58 main_while0b_v59 main_while0b_v30 main_while0b_v60 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v60 main_while0b_v61 (broadcastInDim S1 ![] bcast_S_S1 : (⟨S_, .i32⟩ : BufTy).Contents (Elt F) → (⟨S1, .i32⟩ : BufTy).Contents (Elt F)),
    StableHlo.ternary main_v4_10 main_while0b_v61 main_while0b_v57 main_while0b_v62 ((fun x i u => Host.scatter scatter_S10000x5_S1_S5_0_0_0_0 (fun _ b => b) x i u) : (⟨S10000x5, .f32⟩ : BufTy).Contents (Elt F) → (⟨S1, .i32⟩ : BufTy).Contents (Elt F) → (⟨S5, .f32⟩ : BufTy).Contents (Elt F) → (⟨S10000x5, .f32⟩ : BufTy).Contents (Elt F)),
    StableHlo.nullary main_while0b_c_28 (constantI S_ 32 1#32) ]

/-- Loop 0: the next counter. -/
abbrev nextOps0 : List (HloOp τ sig (Elt F)) :=
  [ StableHlo.binary main_v4_9 main_while0b_c_28 main_while0b_v63 (addi : (⟨S_, .i32⟩ : BufTy).Contents (Elt F) → (⟨S_, .i32⟩ : BufTy).Contents (Elt F) → (⟨S_, .i32⟩ : BufTy).Contents (Elt F)) ]

/-- Loop 0: the counter and the states handed back. -/
abbrev backOps0 : List (HloOp τ sig (Elt F)) :=
  [ StableHlo.unary main_while0b_v63 main_v4_9 id,
    StableHlo.unary main_while0b_v62 main_v4_10 id ]

/-- Loop 1: the counter against the number of edges. -/
abbrev condOps1 : List (HloOp τ sig (Elt F)) :=
  [ StableHlo.nullary main_while1c_c_12 (constantI S_ 32 160000#32),
    StableHlo.binary main_v5_9 main_while1c_c_12 main_while1c_v29 (cmpi .slt : (⟨S_, .i32⟩ : BufTy).Contents (Elt F) → (⟨S_, .i32⟩ : BufTy).Contents (Elt F) → (⟨S_, .i1⟩ : BufTy).Contents (Elt F)) ]

/-- Loop 1: the edge's source. -/
abbrev srcOps1 : List (HloOp τ sig (Elt F)) :=
  [ StableHlo.TRef.unaryIndexed (.of main_v5_0 : StableHlo.TRef sig ⟨S160000, .i32⟩) ![(.of main_v5_9 : StableHlo.TRef sig ⟨S_, .i32⟩)] (.of main_while1b_call3_v0 : StableHlo.TRef sig ⟨S1, .i32⟩) (fun x i => Host.dynamicSlice S1 x (fun k => (i k (Shape.Idx.first h_S_)).toInt) sliceFits_S160000_S1),
    StableHlo.reshape main_while1b_call3_v0 main_while1b_v29 (rfl : (.i32 : EltTy) = .i32) shapeCasts_S1_S_ ]

/-- Loop 1: the edge's destination. -/
abbrev dstOps1 : List (HloOp τ sig (Elt F)) :=
  [ StableHlo.TRef.unaryIndexed (.of main_v5_1 : StableHlo.TRef sig ⟨S160000, .i32⟩) ![(.of main_v5_9 : StableHlo.TRef sig ⟨S_, .i32⟩)] (.of main_while1b_call4_v0 : StableHlo.TRef sig ⟨S1, .i32⟩) (fun x i => Host.dynamicSlice S1 x (fun k => (i k (Shape.Idx.first h_S_)).toInt) sliceFits_S160000_S1),
    StableHlo.reshape main_while1b_call4_v0 main_while1b_v30 (rfl : (.i32 : EltTy) = .i32) shapeCasts_S1_S_ ]

/-- Loop 1: the edge's attributes. -/
abbrev attrOps1 : List (HloOp τ sig (Elt F)) :=
  [ StableHlo.nullary main_while1b_call5_c (constantI S_ 32 0#32),
    StableHlo.TRef.unaryIndexed (.of main_v5_2 : StableHlo.TRef sig ⟨S160000x11, .f32⟩) ![(.of main_v5_9 : StableHlo.TRef sig ⟨S_, .i32⟩), (.of main_while1b_call5_c : StableHlo.TRef sig ⟨S_, .i32⟩)] (.of main_while1b_call5_v0 : StableHlo.TRef sig ⟨S1x11, .f32⟩) (fun x i => Host.dynamicSlice S1x11 x (fun k => (i k (Shape.Idx.first h_S_)).toInt) sliceFits_S160000x11_S1x11),
    StableHlo.reshape main_while1b_call5_v0 main_while1b_v31 (rfl : (.f32 : EltTy) = .f32) shapeCasts_S1x11_S11 ]

/-- Loop 1: the destination's new state. -/
abbrev stepOps1 : List (HloOp τ sig (Elt F)) :=
  [ StableHlo.nullary main_while1b_c_12 (constantI S_ 32 0#32),
    StableHlo.binary main_while1b_v29 main_while1b_c_12 main_while1b_v32 (cmpi .slt : (⟨S_, .i32⟩ : BufTy).Contents (Elt F) → (⟨S_, .i32⟩ : BufTy).Contents (Elt F) → (⟨S_, .i1⟩ : BufTy).Contents (Elt F)),
    StableHlo.nullary main_while1b_c_13 (constantI S_ 32 10000#32),
    StableHlo.binary main_while1b_v29 main_while1b_c_13 main_while1b_v33 (addi : (⟨S_, .i32⟩ : BufTy).Contents (Elt F) → (⟨S_, .i32⟩ : BufTy).Contents (Elt F) → (⟨S_, .i32⟩ : BufTy).Contents (Elt F)),
    StableHlo.ternary main_while1b_v32 main_while1b_v33 main_while1b_v29 main_while1b_v34 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while1b_c_14 (constantI S_ 32 0#32),
    StableHlo.nullary main_while1b_c_15 (constantI S_ 32 0#32),
    StableHlo.binary main_while1b_c_14 main_while1b_c_15 main_while1b_v35 (cmpi .slt : (⟨S_, .i32⟩ : BufTy).Contents (Elt F) → (⟨S_, .i32⟩ : BufTy).Contents (Elt F) → (⟨S_, .i1⟩ : BufTy).Contents (Elt F)),
    StableHlo.nullary main_while1b_c_16 (constantI S_ 32 0#32),
    StableHlo.nullary main_while1b_c_17 (constantI S_ 32 5#32),
    StableHlo.binary main_while1b_c_16 main_while1b_c_17 main_while1b_v36 (addi : (⟨S_, .i32⟩ : BufTy).Contents (Elt F) → (⟨S_, .i32⟩ : BufTy).Contents (Elt F) → (⟨S_, .i32⟩ : BufTy).Contents (Elt F)),
    StableHlo.nullary main_while1b_c_18 (constantI S_ 32 0#32),
    StableHlo.ternary main_while1b_v35 main_while1b_v36 main_while1b_c_18 main_while1b_v37 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v5_10 ![main_while1b_v34, main_while1b_v37] ⟨S_, .i32⟩ main_while1b_v38 ((fun x i => Host.dynamicSlice S1x5 x (fun k => (i k (Shape.Idx.first h_S_)).toInt) sliceFits_S10000x5_S1x5) : (⟨S10000x5, .f32⟩ : BufTy).Contents (Elt F) → (Fin 2 → (⟨S_, .i32⟩ : BufTy).Contents (Elt F)) → (⟨S1x5, .f32⟩ : BufTy).Contents (Elt F)),
    StableHlo.reshape main_while1b_v38 main_while1b_v39 (rfl : (.f32 : EltTy) = .f32) shapeCasts_S1x5_S5,
    StableHlo.unary main_v5_3 main_while1b_v40 ((transpose S5x5 [1, 0] · transposes_S5x5_S5x5_1_0) : (⟨S5x5, .f32⟩ : BufTy).Contents (Elt F) → (⟨S5x5, .f32⟩ : BufTy).Contents (Elt F)),
    StableHlo.binary main_while1b_v39 main_while1b_v40 main_while1b_v41 ((fun l r => Host.dotGeneral dot_S5_S5x5_S5_0_0_n_1_n_n none l r) : (⟨S5, .f32⟩ : BufTy).Contents (Elt F) → (⟨S5x5, .f32⟩ : BufTy).Contents (Elt F) → (⟨S5, .f32⟩ : BufTy).Contents (Elt F)),
    StableHlo.binary main_while1b_v41 main_v5_4 main_while1b_v42 (addf : (⟨S5, .f32⟩ : BufTy).Contents (Elt F) → (⟨S5, .f32⟩ : BufTy).Contents (Elt F) → (⟨S5, .f32⟩ : BufTy).Contents (Elt F)),
    StableHlo.unary main_v5_5 main_while1b_v43 ((transpose S11x11 [1, 0] · transposes_S11x11_S11x11_1_0) : (⟨S11x11, .f32⟩ : BufTy).Contents (Elt F) → (⟨S11x11, .f32⟩ : BufTy).Contents (Elt F)),
    StableHlo.binary main_while1b_v31 main_while1b_v43 main_while1b_v44 ((fun l r => Host.dotGeneral dot_S11_S11x11_S11_0_0_n_1_n_n none l r) : (⟨S11, .f32⟩ : BufTy).Contents (Elt F) → (⟨S11x11, .f32⟩ : BufTy).Contents (Elt F) → (⟨S11, .f32⟩ : BufTy).Contents (Elt F)),
    StableHlo.binary main_while1b_v44 main_v5_6 main_while1b_v45 (addf : (⟨S11, .f32⟩ : BufTy).Contents (Elt F) → (⟨S11, .f32⟩ : BufTy).Contents (Elt F) → (⟨S11, .f32⟩ : BufTy).Contents (Elt F)),
    StableHlo.nullary main_while1b_c_19 (constantI S_ 32 0#32),
    StableHlo.binary main_while1b_v30 main_while1b_c_19 main_while1b_v46 (cmpi .slt : (⟨S_, .i32⟩ : BufTy).Contents (Elt F) → (⟨S_, .i32⟩ : BufTy).Contents (Elt F) → (⟨S_, .i1⟩ : BufTy).Contents (Elt F)),
    StableHlo.nullary main_while1b_c_20 (constantI S_ 32 10000#32),
    StableHlo.binary main_while1b_v30 main_while1b_c_20 main_while1b_v47 (addi : (⟨S_, .i32⟩ : BufTy).Contents (Elt F) → (⟨S_, .i32⟩ : BufTy).Contents (Elt F) → (⟨S_, .i32⟩ : BufTy).Contents (Elt F)),
    StableHlo.ternary main_while1b_v46 main_while1b_v47 main_while1b_v30 main_while1b_v48 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while1b_c_21 (constantI S_ 32 0#32),
    StableHlo.nullary main_while1b_c_22 (constantI S_ 32 0#32),
    StableHlo.binary main_while1b_c_21 main_while1b_c_22 main_while1b_v49 (cmpi .slt : (⟨S_, .i32⟩ : BufTy).Contents (Elt F) → (⟨S_, .i32⟩ : BufTy).Contents (Elt F) → (⟨S_, .i1⟩ : BufTy).Contents (Elt F)),
    StableHlo.nullary main_while1b_c_23 (constantI S_ 32 0#32),
    StableHlo.nullary main_while1b_c_24 (constantI S_ 32 5#32),
    StableHlo.binary main_while1b_c_23 main_while1b_c_24 main_while1b_v50 (addi : (⟨S_, .i32⟩ : BufTy).Contents (Elt F) → (⟨S_, .i32⟩ : BufTy).Contents (Elt F) → (⟨S_, .i32⟩ : BufTy).Contents (Elt F)),
    StableHlo.nullary main_while1b_c_25 (constantI S_ 32 0#32),
    StableHlo.ternary main_while1b_v49 main_while1b_v50 main_while1b_c_25 main_while1b_v51 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v5_10 ![main_while1b_v48, main_while1b_v51] ⟨S_, .i32⟩ main_while1b_v52 ((fun x i => Host.dynamicSlice S1x5 x (fun k => (i k (Shape.Idx.first h_S_)).toInt) sliceFits_S10000x5_S1x5) : (⟨S10000x5, .f32⟩ : BufTy).Contents (Elt F) → (Fin 2 → (⟨S_, .i32⟩ : BufTy).Contents (Elt F)) → (⟨S1x5, .f32⟩ : BufTy).Contents (Elt F)),
    StableHlo.reshape main_while1b_v52 main_while1b_v53 (rfl : (.f32 : EltTy) = .f32) shapeCasts_S1x5_S5,
    StableHlo.nary ![main_while1b_v53, main_while1b_v42, main_while1b_v45] main_while1b_v54 (fun u => (concatenate S21 0 [⟨S5, (u 0 : (⟨S5, .f32⟩ : BufTy).Contents (Elt F))⟩, ⟨S5, (u 1 : (⟨S5, .f32⟩ : BufTy).Contents (Elt F))⟩, ⟨S11, (u 2 : (⟨S11, .f32⟩ : BufTy).Contents (Elt F))⟩] concatenates_S5_S5_S11_S21_d0 : (⟨S21, .f32⟩ : BufTy).Contents (Elt F))),
    StableHlo.unary main_v5_7 main_while1b_v55 ((transpose S21x5 [1, 0] · transposes_S5x21_S21x5_1_0) : (⟨S5x21, .f32⟩ : BufTy).Contents (Elt F) → (⟨S21x5, .f32⟩ : BufTy).Contents (Elt F)),
    StableHlo.binary main_while1b_v54 main_while1b_v55 main_while1b_v56 ((fun l r => Host.dotGeneral dot_S21_S21x5_S5_0_0_n_1_n_n none l r) : (⟨S21, .f32⟩ : BufTy).Contents (Elt F) → (⟨S21x5, .f32⟩ : BufTy).Contents (Elt F) → (⟨S5, .f32⟩ : BufTy).Contents (Elt F)),
    StableHlo.binary main_while1b_v56 main_v5_8 main_while1b_v57 (addf : (⟨S5, .f32⟩ : BufTy).Contents (Elt F) → (⟨S5, .f32⟩ : BufTy).Contents (Elt F) → (⟨S5, .f32⟩ : BufTy).Contents (Elt F)),
    StableHlo.nullary main_while1b_c_26 (constantI S_ 32 0#32),
    StableHlo.binary main_while1b_v30 main_while1b_c_26 main_while1b_v58 (cmpi .slt : (⟨S_, .i32⟩ : BufTy).Contents (Elt F) → (⟨S_, .i32⟩ : BufTy).Contents (Elt F) → (⟨S_, .i1⟩ : BufTy).Contents (Elt F)),
    StableHlo.nullary main_while1b_c_27 (constantI S_ 32 10000#32),
    StableHlo.binary main_while1b_v30 main_while1b_c_27 main_while1b_v59 (addi : (⟨S_, .i32⟩ : BufTy).Contents (Elt F) → (⟨S_, .i32⟩ : BufTy).Contents (Elt F) → (⟨S_, .i32⟩ : BufTy).Contents (Elt F)),
    StableHlo.ternary main_while1b_v58 main_while1b_v59 main_while1b_v30 main_while1b_v60 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while1b_v60 main_while1b_v61 (broadcastInDim S1 ![] bcast_S_S1 : (⟨S_, .i32⟩ : BufTy).Contents (Elt F) → (⟨S1, .i32⟩ : BufTy).Contents (Elt F)),
    StableHlo.ternary main_v5_10 main_while1b_v61 main_while1b_v57 main_while1b_v62 ((fun x i u => Host.scatter scatter_S10000x5_S1_S5_0_0_0_0 (fun _ b => b) x i u) : (⟨S10000x5, .f32⟩ : BufTy).Contents (Elt F) → (⟨S1, .i32⟩ : BufTy).Contents (Elt F) → (⟨S5, .f32⟩ : BufTy).Contents (Elt F) → (⟨S10000x5, .f32⟩ : BufTy).Contents (Elt F)),
    StableHlo.nullary main_while1b_c_28 (constantI S_ 32 1#32) ]

/-- Loop 1: the next counter. -/
abbrev nextOps1 : List (HloOp τ sig (Elt F)) :=
  [ StableHlo.binary main_v5_9 main_while1b_c_28 main_while1b_v63 (addi : (⟨S_, .i32⟩ : BufTy).Contents (Elt F) → (⟨S_, .i32⟩ : BufTy).Contents (Elt F) → (⟨S_, .i32⟩ : BufTy).Contents (Elt F)) ]

/-- Loop 1: the counter and the states handed back. -/
abbrev backOps1 : List (HloOp τ sig (Elt F)) :=
  [ StableHlo.unary main_while1b_v63 main_v5_9 id,
    StableHlo.unary main_while1b_v62 main_v5_10 id ]

/-- Loop 0's body, stretch by stretch. -/
abbrev body0 : List (List (HloOp τ sig (Elt F))) := [srcOps0, dstOps0, attrOps0, stepOps0, nextOps0, backOps0]
/-- Loop 1's body, stretch by stretch. -/
abbrev body1 : List (List (HloOp τ sig (Elt F))) := [srcOps1, dstOps1, attrOps1, stepOps1, nextOps1, backOps1]
/-- What follows the loops, stretch by stretch. -/
abbrev post : List (List (HloOp τ sig (Elt F))) := [postOps0, postOps1, postOps2, postOps3, postOps4, postOps5, postOps6]

/-- The first part of loop 0's printed body, -/
theorem body0_part0 : main_while0_body_part0 (F := F) = Pipeline.chainK [seq srcOps0, seq dstOps0, seq attrOps0, seq stepOps0] (seq nextOps0) := by
  rewrite [StableHlo.chainK_seq_cons, StableHlo.chainK_seq_cons, StableHlo.chainK_seq_cons, StableHlo.chainK_seq_cons]
  chain_rfl

/-- and loop 0's printed body whole, the chain of its stretches. -/
theorem body0_chain : main_while0_body (F := F) = Pipeline.chain (body0.map fun ops => (seq ops : Prog _ PUnit)) := by
  have h : main_while0_body_part1 (F := F) = Pipeline.chain [seq backOps0] := by chain_rfl
  unfold main_while0_body
  rw [body0_part0, h]
  exact Pipeline.chainK_bind_chain _ _ _

/-- The first part of loop 1's printed body, -/
theorem body1_part0 : main_while1_body_part0 (F := F) = Pipeline.chainK [seq srcOps1, seq dstOps1, seq attrOps1, seq stepOps1] (seq nextOps1) := by
  rewrite [StableHlo.chainK_seq_cons, StableHlo.chainK_seq_cons, StableHlo.chainK_seq_cons, StableHlo.chainK_seq_cons]
  chain_rfl

/-- and loop 1's printed body whole, the chain of its stretches. -/
theorem body1_chain : main_while1_body (F := F) = Pipeline.chain (body1.map fun ops => (seq ops : Prog _ PUnit)) := by
  have h : main_while1_body_part1 (F := F) = Pipeline.chain [seq backOps1] := by chain_rfl
  unfold main_while1_body
  rw [body1_part0, h]
  exact Pipeline.chainK_bind_chain _ _ _

/-- The printed program is the chain of its stretches and its two loops. -/
theorem main_chain (c : Dev nD) : main (F := F) c = Pipeline.chain (([preOps].map fun ops => (seq ops : Prog _ PUnit))
    ++ HostLoop.enter 0 :: (([midOps].map fun ops => (seq ops : Prog _ PUnit)) ++ HostLoop.enter 1 :: post.map fun ops => (seq ops : Prog _ PUnit))) := by
  chain_rfl

end Cert.Proof.RI

end
-- ==== Proof.RI.Trip.lean ====
/-
  One trip of each of the reference's loops, over the contents it starts from: the counter grows by one, the states change at
  the edge's destination, and everything else that the loop reads stays.
-/
module

public import proofs.«01_k».proof.Proof.RI.Ops

@[expose] public section

set_option maxRecDepth 16384

noncomputable section

namespace Cert.Proof.RI

open Cert.ReferenceIdeal Cert.ReferenceIdeal.Gen

open Idealize.ShloMosaic
open Idealize.ShloMosaic.TcCoe
open Idealize.SL.Sem
open Idealize.ShloMosaic.StableHlo (after afterL)

variable {F : FTy → Type} [FloatOps F]

/-- Everything after one trip of loop 0, from the contents before its condition, -/
abbrev trip0 (V : Valuation τ sig (Elt F)) : Valuation τ sig (Elt F) := afterL body0 (after condOps0 V)
/-- and of loop 1. -/
abbrev trip1 (V : Valuation τ sig (Elt F)) : Valuation τ sig (Elt F) := afterL body1 (after condOps1 V)

/-! ## The operations of one trip, as functions -/

/-- A word of a list of edges' ends, at the counter. -/
def endAt (x : IVec S160000 32) (t : IVec S_ 32) : IVec S_ 32 :=
  shapeCast S_ (Host.dynamicSlice S1 x (fun _ => (t (Shape.Idx.first h_S_)).toInt) sliceFits_S160000_S1) shapeCasts_S1_S_

/-- A row of the attributes, at the counter. -/
def attrAt (x : FVec F S160000x11 .f32) (t : IVec S_ 32) : FVec F S11 .f32 :=
  shapeCast S11 (Host.dynamicSlice S1x11 x (fun k => ((![t, constantI S_ 32 0#32] : Fin 2 → IVec S_ 32) k (Shape.Idx.first h_S_)).toInt) sliceFits_S160000x11_S1x11) shapeCasts_S1x11_S11

/-- A node number as a row's: a negative one counts from the end. -/
def wrap (w : IVec S_ 32) : IVec S_ 32 :=
  select (cmpi .slt w (constantI S_ 32 0#32)) (addi w (constantI S_ 32 10000#32)) w

/-- The first column's number, likewise. -/
def col0 : IVec S_ 32 :=
  select (cmpi .slt (constantI S_ 32 0#32) (constantI S_ 32 0#32)) (addi (constantI S_ 32 0#32) (constantI S_ 32 5#32)) (constantI S_ 32 0#32)

/-- A row of the states. -/
def rowAt (x : FVec F S10000x5 .f32) (w : IVec S_ 32) : FVec F S5 .f32 :=
  shapeCast S5 (Host.dynamicSlice S1x5 x (fun k => ((![wrap w, col0] : Fin 2 → IVec S_ 32) k (Shape.Idx.first h_S_)).toInt) sliceFits_S10000x5_S1x5) shapeCasts_S1x5_S5

/-- The destination's new state, from the destination's and the source's and the attributes. -/
def stateOf (hd hs : FVec F S5 .f32) (a : FVec F S11 .f32) (vw : FVec F S5x5 .f32) (vb : FVec F S5 .f32) (ew : FVec F S11x11 .f32)
    (eb : FVec F S11 .f32) (uw : FVec F S5x21 .f32) (ub : FVec F S5 .f32) : FVec F S5 .f32 :=
  addf (Host.dotGeneral dot_S21_S21x5_S5_0_0_n_1_n_n none
    (concatenate S21 0 [⟨S5, hd⟩,
      ⟨S5, addf (Host.dotGeneral dot_S5_S5x5_S5_0_0_n_1_n_n none hs (transpose S5x5 [1, 0] vw transposes_S5x5_S5x5_1_0)) vb⟩,
      ⟨S11, addf (Host.dotGeneral dot_S11_S11x11_S11_0_0_n_1_n_n none a (transpose S11x11 [1, 0] ew transposes_S11x11_S11x11_1_0)) eb⟩]
      concatenates_S5_S5_S11_S21_d0)
    (transpose S21x5 [1, 0] uw transposes_S5x21_S21x5_1_0)) ub

/-- The states with the row of a node number replaced. -/
def put (x : FVec F S10000x5 .f32) (w : IVec S_ 32) (u : FVec F S5 .f32) : FVec F S10000x5 .f32 :=
  Host.scatter scatter_S10000x5_S1_S5_0_0_0_0 (fun _ b => b) x (broadcastInDim S1 ![] bcast_S_S1 (wrap w)) u

/-- One edge of a layer: the states after it. -/
def edgeStep (src dst : IVec S160000 32) (ea : FVec F S160000x11 .f32) (vw : FVec F S5x5 .f32) (vb : FVec F S5 .f32) (ew : FVec F S11x11 .f32)
    (eb : FVec F S11 .f32) (uw : FVec F S5x21 .f32) (ub : FVec F S5 .f32) (t : IVec S_ 32) (h : FVec F S10000x5 .f32) : FVec F S10000x5 .f32 :=
  put h (endAt dst t) (stateOf (rowAt h (endAt dst t)) (rowAt h (endAt src t)) (attrAt ea t) vw vb ew eb uw ub)

variable (V : Valuation τ sig (Elt F))

/-! ## Loop 0 -/

theorem counter0 : trip0 V main_v4_9 = addi (V main_v4_9) (constantI S_ 32 1#32) := rfl

/-- The edge's source, -/
theorem src0 : trip0 V main_while0b_v29 = endAt (V main_v4_0) (V main_v4_9) :=
  congrArg (fun o => shapeCast S_ (Host.dynamicSlice S1 (V main_v4_0 : IVec S160000 32) o sliceFits_S160000_S1) shapeCasts_S1_S_)
    (funext fun k => match k with | ⟨0, _⟩ => rfl)

/-- its destination, -/
theorem dst0 : trip0 V main_while0b_v30 = endAt (V main_v4_1) (V main_v4_9) :=
  congrArg (fun o => shapeCast S_ (Host.dynamicSlice S1 (V main_v4_1 : IVec S160000 32) o sliceFits_S160000_S1) shapeCasts_S1_S_)
    (funext fun k => match k with | ⟨0, _⟩ => rfl)

/-- its attributes, -/
theorem attr0 : trip0 V main_while0b_v31 = attrAt (V main_v4_2) (V main_v4_9) :=
  congrArg (fun o => shapeCast S11 (Host.dynamicSlice S1x11 (V main_v4_2 : FVec F S160000x11 .f32) o sliceFits_S160000x11_S1x11) shapeCasts_S1x11_S11)
    (funext fun k => match k with | ⟨0, _⟩ => rfl | ⟨1, _⟩ => rfl)

/-- The source's state and -/
theorem srcRow0 (X : Valuation τ sig (Elt F)) : after stepOps0 X main_while0b_v39 = rowAt (X main_v4_10) (X main_while0b_v29) :=
  congrArg (fun o => shapeCast S5 (Host.dynamicSlice S1x5 (X main_v4_10 : FVec F S10000x5 .f32) o sliceFits_S10000x5_S1x5) shapeCasts_S1x5_S5)
    (funext fun k => match k with | ⟨0, _⟩ => rfl | ⟨1, _⟩ => rfl)

/-- the destination's, over what their numbers are read from, -/
theorem dstRow0 (X : Valuation τ sig (Elt F)) : after stepOps0 X main_while0b_v53 = rowAt (X main_v4_10) (X main_while0b_v30) :=
  congrArg (fun o => shapeCast S5 (Host.dynamicSlice S1x5 (X main_v4_10 : FVec F S10000x5 .f32) o sliceFits_S10000x5_S1x5) shapeCasts_S1x5_S5)
    (funext fun k => match k with | ⟨0, _⟩ => rfl | ⟨1, _⟩ => rfl)

/-- and the states after them. -/
theorem put0 (X : Valuation τ sig (Elt F)) : after stepOps0 X main_while0b_v62 = put (X main_v4_10) (X main_while0b_v30)
    (stateOf (after stepOps0 X main_while0b_v53) (after stepOps0 X main_while0b_v39) (X main_while0b_v31) (X main_v4_3) (X main_v4_4) (X main_v4_5) (X main_v4_6) (X main_v4_7) (X main_v4_8)) := by
  chain_rfl

/-- One trip of loop 0 is one edge of its layer. -/
theorem states0 : trip0 V main_v4_10
    = edgeStep (V main_v4_0) (V main_v4_1) (V main_v4_2) (V main_v4_3) (V main_v4_4) (V main_v4_5) (V main_v4_6) (V main_v4_7) (V main_v4_8) (V main_v4_9) (V main_v4_10) := by
  have hb : ∀ Y : Valuation τ sig (Elt F), after backOps0 (after nextOps0 Y) main_v4_10 = Y main_while0b_v62 := fun _ => rfl
  simp only [trip0, StableHlo.afterL_cons, StableHlo.afterL_nil]
  rw [hb, put0, dstRow0, srcRow0]
  have hs : after attrOps0 (after dstOps0 (after srcOps0 (after condOps0 V))) main_while0b_v29 = endAt (V main_v4_0) (V main_v4_9) := src0 V
  have hd : after attrOps0 (after dstOps0 (after srcOps0 (after condOps0 V))) main_while0b_v30 = endAt (V main_v4_1) (V main_v4_9) := dst0 V
  have ha : after attrOps0 (after dstOps0 (after srcOps0 (after condOps0 V))) main_while0b_v31 = attrAt (V main_v4_2) (V main_v4_9) := attr0 V
  rw [hs, hd, ha]
  rfl

/-! ## Loop 1 -/

theorem counter1 : trip1 V main_v5_9 = addi (V main_v5_9) (constantI S_ 32 1#32) := rfl

/-- The edge's source, -/
theorem src1 : trip1 V main_while1b_v29 = endAt (V main_v5_0) (V main_v5_9) :=
  congrArg (fun o => shapeCast S_ (Host.dynamicSlice S1 (V main_v5_0 : IVec S160000 32) o sliceFits_S160000_S1) shapeCasts_S1_S_)
    (funext fun k => match k with | ⟨0, _⟩ => rfl)

/-- its destination, -/
theorem dst1 : trip1 V main_while1b_v30 = endAt (V main_v5_1) (V main_v5_9) :=
  congrArg (fun o => shapeCast S_ (Host.dynamicSlice S1 (V main_v5_1 : IVec S160000 32) o sliceFits_S160000_S1) shapeCasts_S1_S_)
    (funext fun k => match k with | ⟨0, _⟩ => rfl)

/-- its attributes, -/
theorem attr1 : trip1 V main_while1b_v31 = attrAt (V main_v5_2) (V main_v5_9) :=
  congrArg (fun o => shapeCast S11 (Host.dynamicSlice S1x11 (V main_v5_2 : FVec F S160000x11 .f32) o sliceFits_S160000x11_S1x11) shapeCasts_S1x11_S11)
    (funext fun k => match k with | ⟨0, _⟩ => rfl | ⟨1, _⟩ => rfl)

/-- The source's state and -/
theorem srcRow1 (X : Valuation τ sig (Elt F)) : after stepOps1 X main_while1b_v39 = rowAt (X main_v5_10) (X main_while1b_v29) :=
  congrArg (fun o => shapeCast S5 (Host.dynamicSlice S1x5 (X main_v5_10 : FVec F S10000x5 .f32) o sliceFits_S10000x5_S1x5) shapeCasts_S1x5_S5)
    (funext fun k => match k with | ⟨0, _⟩ => rfl | ⟨1, _⟩ => rfl)

/-- the destination's, over what their numbers are read from, -/
theorem dstRow1 (X : Valuation τ sig (Elt F)) : after stepOps1 X main_while1b_v53 = rowAt (X main_v5_10) (X main_while1b_v30) :=
  congrArg (fun o => shapeCast S5 (Host.dynamicSlice S1x5 (X main_v5_10 : FVec F S10000x5 .f32) o sliceFits_S10000x5_S1x5) shapeCasts_S1x5_S5)
    (funext fun k => match k with | ⟨0, _⟩ => rfl | ⟨1, _⟩ => rfl)

/-- and the states after them. -/
theorem put1 (X : Valuation τ sig (Elt F)) : after stepOps1 X main_while1b_v62 = put (X main_v5_10) (X main_while1b_v30)
    (stateOf (after stepOps1 X main_while1b_v53) (after stepOps1 X main_while1b_v39) (X main_while1b_v31) (X main_v5_3) (X main_v5_4) (X main_v5_5) (X main_v5_6) (X main_v5_7) (X main_v5_8)) := by
  chain_rfl

/-- One trip of loop 1 is one edge of its layer. -/
theorem states1 : trip1 V main_v5_10
    = edgeStep (V main_v5_0) (V main_v5_1) (V main_v5_2) (V main_v5_3) (V main_v5_4) (V main_v5_5) (V main_v5_6) (V main_v5_7) (V main_v5_8) (V main_v5_9) (V main_v5_10) := by
  have hb : ∀ Y : Valuation τ sig (Elt F), after backOps1 (after nextOps1 Y) main_v5_10 = Y main_while1b_v62 := fun _ => rfl
  simp only [trip1, StableHlo.afterL_cons, StableHlo.afterL_nil]
  rw [hb, put1, dstRow1, srcRow1]
  have hs : after attrOps1 (after dstOps1 (after srcOps1 (after condOps1 V))) main_while1b_v29 = endAt (V main_v5_0) (V main_v5_9) := src1 V
  have hd : after attrOps1 (after dstOps1 (after srcOps1 (after condOps1 V))) main_while1b_v30 = endAt (V main_v5_1) (V main_v5_9) := dst1 V
  have ha : after attrOps1 (after dstOps1 (after srcOps1 (after condOps1 V))) main_while1b_v31 = attrAt (V main_v5_2) (V main_v5_9) := attr1 V
  rw [hs, hd, ha]
  rfl

end Cert.Proof.RI

end
-- ==== Proof.RI.Fold.lean ====
/-
  The reference's contents at the end: what each stretch writes, the counters, and the states after each trip.
-/
module

public import proofs.«01_k».proof.Proof.RI.Trip
public import Idealize.ShloMosaic.Lib.WordCmp

@[expose] public section

set_option maxRecDepth 16384

noncomputable section

namespace Cert.Proof.RI

open Cert.ReferenceIdeal Cert.ReferenceIdeal.Gen

open Idealize.ShloMosaic
open Idealize.ShloMosaic.TcCoe
open Idealize.SL.Sem
open Idealize.ShloMosaic.StableHlo (after afterL atTrip launchContents)

variable {F : FTy → Type} [FloatOps F]

/-- What the operations before the loops write, -/
def writtenPre : List (Ref sig .tc) :=
  [main_v0, main_v1, main_v2, main_v3, main_c, main_v4_0, main_v4_1, main_v4_2, main_v4_3, main_v4_4, main_v4_5, main_v4_6, main_v4_7,
   main_v4_8, main_v4_9, main_v4_10]
/-- what loop 0 writes, -/
def written0 : List (Ref sig .tc) :=
  [main_while0c_c_12, main_while0c_v29, main_while0b_call0_v0, main_while0b_v29, main_while0b_call1_v0, main_while0b_v30,
   main_while0b_call2_c, main_while0b_call2_v0, main_while0b_v31, main_while0b_c_12, main_while0b_v32, main_while0b_c_13,
   main_while0b_v33, main_while0b_v34, main_while0b_c_14, main_while0b_c_15, main_while0b_v35, main_while0b_c_16, main_while0b_c_17,
   main_while0b_v36, main_while0b_c_18, main_while0b_v37, main_while0b_v38, main_while0b_v39, main_while0b_v40, main_while0b_v41,
   main_while0b_v42, main_while0b_v43, main_while0b_v44, main_while0b_v45, main_while0b_c_19, main_while0b_v46, main_while0b_c_20,
   main_while0b_v47, main_while0b_v48, main_while0b_c_21, main_while0b_c_22, main_while0b_v49, main_while0b_c_23, main_while0b_c_24,
   main_while0b_v50, main_while0b_c_25, main_while0b_v51, main_while0b_v52, main_while0b_v53, main_while0b_v54, main_while0b_v55,
   main_while0b_v56, main_while0b_v57, main_while0b_c_26, main_while0b_v58, main_while0b_c_27, main_while0b_v59, main_while0b_v60,
   main_while0b_v61, main_while0b_v62, main_while0b_c_28, main_while0b_v63, main_v4_9, main_v4_10]
/-- what the operations between the loops write, -/
def writtenMid : List (Ref sig .tc) :=
  [main_c_0, main_v5_0, main_v5_1, main_v5_2, main_v5_3, main_v5_4, main_v5_5, main_v5_6, main_v5_7, main_v5_8, main_v5_9, main_v5_10]
/-- what loop 1 writes, -/
def written1 : List (Ref sig .tc) :=
  [main_while1c_c_12, main_while1c_v29, main_while1b_call3_v0, main_while1b_v29, main_while1b_call4_v0, main_while1b_v30,
   main_while1b_call5_c, main_while1b_call5_v0, main_while1b_v31, main_while1b_c_12, main_while1b_v32, main_while1b_c_13,
   main_while1b_v33, main_while1b_v34, main_while1b_c_14, main_while1b_c_15, main_while1b_v35, main_while1b_c_16, main_while1b_c_17,
   main_while1b_v36, main_while1b_c_18, main_while1b_v37, main_while1b_v38, main_while1b_v39, main_while1b_v40, main_while1b_v41,
   main_while1b_v42, main_while1b_v43, main_while1b_v44, main_while1b_v45, main_while1b_c_19, main_while1b_v46, main_while1b_c_20,
   main_while1b_v47, main_while1b_v48, main_while1b_c_21, main_while1b_c_22, main_while1b_v49, main_while1b_c_23, main_while1b_c_24,
   main_while1b_v50, main_while1b_c_25, main_while1b_v51, main_while1b_v52, main_while1b_v53, main_while1b_v54, main_while1b_v55,
   main_while1b_v56, main_while1b_v57, main_while1b_c_26, main_while1b_v58, main_while1b_c_27, main_while1b_v59, main_while1b_v60,
   main_while1b_v61, main_while1b_v62, main_while1b_c_28, main_while1b_v63, main_v5_9, main_v5_10]
/-- and what the operations after them write. -/
def writtenPost : List (Ref sig .tc) :=
  [main_v6, main_v7, main_v8, main_v9, main_v10, main_v11, main_cst, main_v12, main_cst_1, main_v13, main_v14, main_v15, main_call6_cst,
   main_call6_v0, main_v16, main_v17, main_v18, main_v19, main_call7_cst, main_call7_v0, main_v20, main_v21, main_v22, main_v23,
   main_call8_cst, main_call8_v0, main_v24, main_v25, main_v26, main_v27, main_v28]

/-- The arguments of the program. -/
def args : List (Ref sig .tc) :=
  [main_arg0, main_arg1, main_arg2, main_arg3, main_arg4, main_arg5, main_arg6, main_arg7, main_arg8, main_arg9, main_arg10, main_arg11,
   main_arg12, main_arg13, main_arg14, main_arg15, main_arg16, main_arg17, main_arg18, main_arg19, main_arg20, main_arg21, main_arg22,
   main_arg23, main_arg24]

section Kept

variable (V : Valuation τ sig (Elt F)) {r : Ref sig .tc}

theorem keptPre (h : r ∉ writtenPre) : after preOps V r = V r :=
  StableHlo.after_of_writes_sub (W := writtenPre) preOps V (StableHlo.forall_writes_sub_of_map rfl) h

theorem keptMid (h : r ∉ writtenMid) : after midOps V r = V r :=
  StableHlo.after_of_writes_sub (W := writtenMid) midOps V (StableHlo.forall_writes_sub_of_map rfl) h

theorem keptPost (h : r ∉ writtenPost) : afterL post V r = V r := by
  rw [StableHlo.afterL_eq_after_flatten]
  exact StableHlo.after_of_writes_sub (W := writtenPost) post.flatten V (StableHlo.forall_writes_sub_of_map rfl) h

theorem keptCond0 (h : r ∉ written0) : after condOps0 V r = V r :=
  StableHlo.after_of_writes_sub (W := written0.take 2) condOps0 V (StableHlo.forall_writes_sub_of_map rfl) fun h' => h (List.mem_of_mem_take h')

theorem keptTrip0 (h : r ∉ written0) : trip0 V r = V r := by
  show afterL body0 (after condOps0 V) r = V r
  rw [StableHlo.afterL_eq_after_flatten, ← StableHlo.after_append]
  exact StableHlo.after_of_writes_sub (W := written0) (condOps0 ++ (body0 (F := F)).flatten) V (StableHlo.forall_writes_sub_of_map rfl) h

theorem keptCond1 (h : r ∉ written1) : after condOps1 V r = V r :=
  StableHlo.after_of_writes_sub (W := written1.take 2) condOps1 V (StableHlo.forall_writes_sub_of_map rfl) fun h' => h (List.mem_of_mem_take h')

theorem keptTrip1 (h : r ∉ written1) : trip1 V r = V r := by
  show afterL body1 (after condOps1 V) r = V r
  rw [StableHlo.afterL_eq_after_flatten, ← StableHlo.after_append]
  exact StableHlo.after_of_writes_sub (W := written1) (condOps1 ++ (body1 (F := F)).flatten) V (StableHlo.forall_writes_sub_of_map rfl) h

end Kept

/-! ## The contents, from the memory at the start -/

variable (m : (ℓ : Loc nD τ sig) → Buf (Elt F) ℓ)

/-- Before loop 0, -/
abbrev at0 (c : Dev nD) : Valuation τ sig (Elt F) := after preOps (launchContents m c)
/-- before loop 1, -/
abbrev at1 (c : Dev nD) : Valuation τ sig (Elt F) := after midOps (after condOps0 (atTrip condOps0 body0 (at0 m) 160000 c))
/-- after it, -/
abbrev at2 (c : Dev nD) : Valuation τ sig (Elt F) := after condOps1 (atTrip condOps1 body1 (at1 m) 160000 c)
/-- and at the end. -/
abbrev final (c : Dev nD) : Valuation τ sig (Elt F) := afterL post (at2 m c)

section Trips

variable (W : Dev nD → Valuation τ sig (Elt F)) (c : Dev nD)

/-- What loop 0 does not write stays, -/
theorem atTrip0_kept {r : Ref sig .tc} (h : r ∉ written0) : ∀ k, atTrip condOps0 body0 W k c r = W c r
  | 0 => rfl
  | k + 1 => (keptTrip0 _ h).trans (atTrip0_kept h k)

/-- and its counter counts. -/
theorem atTrip0_counter (h : W c main_v4_9 = fun _ => (0#32 : BitVec 32)) : ∀ k, atTrip condOps0 body0 W k c main_v4_9 = fun _ => (BitVec.ofNat 32 k : BitVec 32)
  | 0 => h
  | k + 1 => by
    refine (counter0 (atTrip condOps0 body0 W k c)).trans ?_
    rw [atTrip0_counter h k]
    funext i
    show BitVec.ofNat 32 k + 1#32 = BitVec.ofNat 32 (k + 1)
    rw [BitVec.ofNat_add]

/-- What loop 1 does not write stays, -/
theorem atTrip1_kept {r : Ref sig .tc} (h : r ∉ written1) : ∀ k, atTrip condOps1 body1 W k c r = W c r
  | 0 => rfl
  | k + 1 => (keptTrip1 _ h).trans (atTrip1_kept h k)

/-- and its counter counts. -/
theorem atTrip1_counter (h : W c main_v5_9 = fun _ => (0#32 : BitVec 32)) : ∀ k, atTrip condOps1 body1 W k c main_v5_9 = fun _ => (BitVec.ofNat 32 k : BitVec 32)
  | 0 => h
  | k + 1 => by
    refine (counter1 (atTrip condOps1 body1 W k c)).trans ?_
    rw [atTrip1_counter h k]
    funext i
    show BitVec.ofNat 32 k + 1#32 = BitVec.ofNat 32 (k + 1)
    rw [BitVec.ofNat_add]

end Trips

/-- The states of a layer after `k` of its edges. -/
def layer (src dst : IVec S160000 32) (ea : FVec F S160000x11 .f32) (vw : FVec F S5x5 .f32) (vb : FVec F S5 .f32) (ew : FVec F S11x11 .f32)
    (eb : FVec F S11 .f32) (uw : FVec F S5x21 .f32) (ub : FVec F S5 .f32) (h : FVec F S10000x5 .f32) : ℕ → FVec F S10000x5 .f32
  | 0 => h
  | k + 1 => edgeStep src dst ea vw vb ew eb uw ub (fun _ => BitVec.ofNat 32 k) (layer src dst ea vw vb ew eb uw ub h k)

/-- Loop 0's states before trip `k` are its layer's after `k` edges. -/
theorem atTrip0_states (W : Dev nD → Valuation τ sig (Elt F)) (c : Dev nD) (h : W c main_v4_9 = fun _ => (0#32 : BitVec 32)) :
    ∀ k, atTrip condOps0 body0 W k c main_v4_10
      = layer (W c main_v4_0) (W c main_v4_1) (W c main_v4_2) (W c main_v4_3) (W c main_v4_4) (W c main_v4_5) (W c main_v4_6) (W c main_v4_7) (W c main_v4_8) (W c main_v4_10) k
  | 0 => rfl
  | k + 1 => by
    refine (states0 (atTrip condOps0 body0 W k c)).trans ?_
    rw [atTrip0_counter W c h k, atTrip0_states W c h k]
    rw [atTrip0_kept (r := main_v4_0) W c (by decide), atTrip0_kept (r := main_v4_1) W c (by decide), atTrip0_kept (r := main_v4_2) W c (by decide),
      atTrip0_kept (r := main_v4_3) W c (by decide), atTrip0_kept (r := main_v4_4) W c (by decide), atTrip0_kept (r := main_v4_5) W c (by decide),
      atTrip0_kept (r := main_v4_6) W c (by decide), atTrip0_kept (r := main_v4_7) W c (by decide), atTrip0_kept (r := main_v4_8) W c (by decide)]
    rfl

/-- Loop 1's states before trip `k` are its layer's after `k` edges. -/
theorem atTrip1_states (W : Dev nD → Valuation τ sig (Elt F)) (c : Dev nD) (h : W c main_v5_9 = fun _ => (0#32 : BitVec 32)) :
    ∀ k, atTrip condOps1 body1 W k c main_v5_10
      = layer (W c main_v5_0) (W c main_v5_1) (W c main_v5_2) (W c main_v5_3) (W c main_v5_4) (W c main_v5_5) (W c main_v5_6) (W c main_v5_7) (W c main_v5_8) (W c main_v5_10) k
  | 0 => rfl
  | k + 1 => by
    refine (states1 (atTrip condOps1 body1 W k c)).trans ?_
    rw [atTrip1_counter W c h k, atTrip1_states W c h k]
    rw [atTrip1_kept (r := main_v5_0) W c (by decide), atTrip1_kept (r := main_v5_1) W c (by decide), atTrip1_kept (r := main_v5_2) W c (by decide),
      atTrip1_kept (r := main_v5_3) W c (by decide), atTrip1_kept (r := main_v5_4) W c (by decide), atTrip1_kept (r := main_v5_5) W c (by decide),
      atTrip1_kept (r := main_v5_6) W c (by decide), atTrip1_kept (r := main_v5_7) W c (by decide), atTrip1_kept (r := main_v5_8) W c (by decide)]
    rfl

/-- A buffer that nothing between the start and the end of the loops writes. -/
theorem at1_kept (c : Dev nD) {r : Ref sig .tc} (hp : r ∉ writtenPre) (h0 : r ∉ written0) (hm : r ∉ writtenMid) :
    at1 m c r = m ((c : Thread nD τ).loc r) := by
  show after midOps _ r = _
  rw [keptMid _ hm, keptCond0 _ h0, atTrip0_kept _ _ h0]
  exact keptPre _ hp

theorem at2_kept (c : Dev nD) {r : Ref sig .tc} (hp : r ∉ writtenPre) (h0 : r ∉ written0) (hm : r ∉ writtenMid) (h1 : r ∉ written1) :
    at2 m c r = m ((c : Thread nD τ).loc r) := by
  show after condOps1 _ r = _
  rw [keptCond1 _ h1, atTrip1_kept _ _ h1, at1_kept m c hp h0 hm]

/-- The program leaves every argument as it was. -/
theorem final_arg (c : Dev nD) {r : Ref sig .tc} (hr : r ∈ args) : final m c r = m ((c : Thread nD τ).loc r) := by
  have hd : r ∉ writtenPre ∧ r ∉ written0 ∧ r ∉ writtenMid ∧ r ∉ written1 ∧ r ∉ writtenPost := by revert r; decide
  show afterL post _ r = _
  rw [keptPost _ hd.2.2.2.2, at2_kept m c hd.1 hd.2.1 hd.2.2.1 hd.2.2.2.1]

end Cert.Proof.RI

end
-- ==== Proof.RI.Run.lean ====
/-
  The reference's run: its two loops and the stretches around them, to the contents they leave.
-/
module

public import proofs.«01_k».proof.Proof.RI.Fold
public import Idealize.ShloMosaic.Lib.StableHlo.RunLoop
public import Idealize.ShloMosaic.Lib.Quiescent

@[expose] public section

set_option maxRecDepth 16384

noncomputable section

namespace Cert.Proof.RI

open Cert.ReferenceIdeal Cert.ReferenceIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg ucRefs sub_ucRefs)

variable {F : FTy → Type} [FloatOps F]

local notation "𝕄" => MT nD τ sig Unit (Elt F) ℕ (Option PUnit) ℕ

/-- The program launches no kernel: nothing is admitted, -/
abbrev adm : (p : Fin 0) → (pcfgs (F := F) p).Adm := fun p => p.elim0
/-- no ticket is drawn, -/
abbrev tk : Fin 0 → Pipeline.Ticket (Ix := Unit) (Name := ℕ) (U := Option PUnit) (Lvl := ℕ) (nD := nD) (τ := τ) (pcfgs (F := F)) adm := fun j => j.elim0
/-- nothing is signalled, -/
abbrev noIx : GSem nD τ sig → Finset Unit := fun _ => ∅
/-- and nothing waits. -/
abbrev noLv : GSem nD τ sig → Unit → ℕ := fun _ _ => 0

theorem cells_injective : Function.Injective (Pipeline.cellOf (nD := nD) (τ := τ) (Pipeline.pin (pcfgs (F := F)) adm)) := fun k => k.1.elim0

/-- A core that owes nothing. -/
abbrev Owe (c : Dev nD) : sProp 𝕄 := iprop(∃ W, owes (c : Thread nD τ) (0 : CellTallies nD τ sig Unit) W)

section Plains

theorem preOps_sub : (preOps (F := F)).Forall fun op => op.bufs ⊆ tcRefs τ sig := by simp only [List.Forall, unary_bufs_sub, reshape_bufs_sub, binary_bufs_sub, nullary_bufs_sub, ternary_bufs_sub, nary_bufs_sub, unaryIndexed_bufs_sub, and_self]

theorem midOps_sub : (midOps (F := F)).Forall fun op => op.bufs ⊆ tcRefs τ sig := by simp only [List.Forall, unary_bufs_sub, reshape_bufs_sub, binary_bufs_sub, nullary_bufs_sub, ternary_bufs_sub, nary_bufs_sub, unaryIndexed_bufs_sub, and_self]

theorem postOps0_sub : (postOps0 (F := F)).Forall fun op => op.bufs ⊆ tcRefs τ sig := by simp only [List.Forall, unary_bufs_sub, reshape_bufs_sub, binary_bufs_sub, nullary_bufs_sub, ternary_bufs_sub, nary_bufs_sub, unaryIndexed_bufs_sub, and_self]

theorem postOps1_sub : (postOps1 (F := F)).Forall fun op => op.bufs ⊆ tcRefs τ sig := by simp only [List.Forall, unary_bufs_sub, reshape_bufs_sub, binary_bufs_sub, nullary_bufs_sub, ternary_bufs_sub, nary_bufs_sub, unaryIndexed_bufs_sub, and_self]

theorem postOps2_sub : (postOps2 (F := F)).Forall fun op => op.bufs ⊆ tcRefs τ sig := by simp only [List.Forall, unary_bufs_sub, reshape_bufs_sub, binary_bufs_sub, nullary_bufs_sub, ternary_bufs_sub, nary_bufs_sub, unaryIndexed_bufs_sub, and_self]

theorem postOps3_sub : (postOps3 (F := F)).Forall fun op => op.bufs ⊆ tcRefs τ sig := by simp only [List.Forall, unary_bufs_sub, reshape_bufs_sub, binary_bufs_sub, nullary_bufs_sub, ternary_bufs_sub, nary_bufs_sub, unaryIndexed_bufs_sub, and_self]

theorem postOps4_sub : (postOps4 (F := F)).Forall fun op => op.bufs ⊆ tcRefs τ sig := by simp only [List.Forall, unary_bufs_sub, reshape_bufs_sub, binary_bufs_sub, nullary_bufs_sub, ternary_bufs_sub, nary_bufs_sub, unaryIndexed_bufs_sub, and_self]

theorem postOps5_sub : (postOps5 (F := F)).Forall fun op => op.bufs ⊆ tcRefs τ sig := by simp only [List.Forall, unary_bufs_sub, reshape_bufs_sub, binary_bufs_sub, nullary_bufs_sub, ternary_bufs_sub, nary_bufs_sub, unaryIndexed_bufs_sub, and_self]

theorem postOps6_sub : (postOps6 (F := F)).Forall fun op => op.bufs ⊆ tcRefs τ sig := by simp only [List.Forall, unary_bufs_sub, reshape_bufs_sub, binary_bufs_sub, nullary_bufs_sub, ternary_bufs_sub, nary_bufs_sub, unaryIndexed_bufs_sub, and_self]

theorem srcOps0_sub : (srcOps0 (F := F)).Forall fun op => op.bufs ⊆ tcRefs τ sig := by simp only [List.Forall, unary_bufs_sub, reshape_bufs_sub, binary_bufs_sub, nullary_bufs_sub, ternary_bufs_sub, nary_bufs_sub, unaryIndexed_bufs_sub, and_self]

theorem dstOps0_sub : (dstOps0 (F := F)).Forall fun op => op.bufs ⊆ tcRefs τ sig := by simp only [List.Forall, unary_bufs_sub, reshape_bufs_sub, binary_bufs_sub, nullary_bufs_sub, ternary_bufs_sub, nary_bufs_sub, unaryIndexed_bufs_sub, and_self]

theorem attrOps0_sub : (attrOps0 (F := F)).Forall fun op => op.bufs ⊆ tcRefs τ sig := by simp only [List.Forall, unary_bufs_sub, reshape_bufs_sub, binary_bufs_sub, nullary_bufs_sub, ternary_bufs_sub, nary_bufs_sub, unaryIndexed_bufs_sub, and_self]

theorem stepOps0_sub : (stepOps0 (F := F)).Forall fun op => op.bufs ⊆ tcRefs τ sig := by simp only [List.Forall, unary_bufs_sub, reshape_bufs_sub, binary_bufs_sub, nullary_bufs_sub, ternary_bufs_sub, nary_bufs_sub, unaryIndexed_bufs_sub, and_self]

theorem nextOps0_sub : (nextOps0 (F := F)).Forall fun op => op.bufs ⊆ tcRefs τ sig := by simp only [List.Forall, unary_bufs_sub, reshape_bufs_sub, binary_bufs_sub, nullary_bufs_sub, ternary_bufs_sub, nary_bufs_sub, unaryIndexed_bufs_sub, and_self]

theorem backOps0_sub : (backOps0 (F := F)).Forall fun op => op.bufs ⊆ tcRefs τ sig := by simp only [List.Forall, unary_bufs_sub, reshape_bufs_sub, binary_bufs_sub, nullary_bufs_sub, ternary_bufs_sub, nary_bufs_sub, unaryIndexed_bufs_sub, and_self]

theorem srcOps1_sub : (srcOps1 (F := F)).Forall fun op => op.bufs ⊆ tcRefs τ sig := by simp only [List.Forall, unary_bufs_sub, reshape_bufs_sub, binary_bufs_sub, nullary_bufs_sub, ternary_bufs_sub, nary_bufs_sub, unaryIndexed_bufs_sub, and_self]

theorem dstOps1_sub : (dstOps1 (F := F)).Forall fun op => op.bufs ⊆ tcRefs τ sig := by simp only [List.Forall, unary_bufs_sub, reshape_bufs_sub, binary_bufs_sub, nullary_bufs_sub, ternary_bufs_sub, nary_bufs_sub, unaryIndexed_bufs_sub, and_self]

theorem attrOps1_sub : (attrOps1 (F := F)).Forall fun op => op.bufs ⊆ tcRefs τ sig := by simp only [List.Forall, unary_bufs_sub, reshape_bufs_sub, binary_bufs_sub, nullary_bufs_sub, ternary_bufs_sub, nary_bufs_sub, unaryIndexed_bufs_sub, and_self]

theorem stepOps1_sub : (stepOps1 (F := F)).Forall fun op => op.bufs ⊆ tcRefs τ sig := by simp only [List.Forall, unary_bufs_sub, reshape_bufs_sub, binary_bufs_sub, nullary_bufs_sub, ternary_bufs_sub, nary_bufs_sub, unaryIndexed_bufs_sub, and_self]

theorem nextOps1_sub : (nextOps1 (F := F)).Forall fun op => op.bufs ⊆ tcRefs τ sig := by simp only [List.Forall, unary_bufs_sub, reshape_bufs_sub, binary_bufs_sub, nullary_bufs_sub, ternary_bufs_sub, nary_bufs_sub, unaryIndexed_bufs_sub, and_self]

theorem backOps1_sub : (backOps1 (F := F)).Forall fun op => op.bufs ⊆ tcRefs τ sig := by simp only [List.Forall, unary_bufs_sub, reshape_bufs_sub, binary_bufs_sub, nullary_bufs_sub, ternary_bufs_sub, nary_bufs_sub, unaryIndexed_bufs_sub, and_self]

theorem pre_plain : Plain ([preOps] : List (List (HloOp τ sig (Elt F)))) := (.cons preOps_sub .nil)

theorem mid_plain : Plain ([midOps] : List (List (HloOp τ sig (Elt F)))) := (.cons midOps_sub .nil)

theorem post_plain : Plain (post : List (List (HloOp τ sig (Elt F)))) := (.cons postOps0_sub (.cons postOps1_sub (.cons postOps2_sub (.cons postOps3_sub (.cons postOps4_sub (.cons postOps5_sub (.cons postOps6_sub .nil)))))))

theorem body0_plain : Plain (body0 : List (List (HloOp τ sig (Elt F)))) := (.cons srcOps0_sub (.cons dstOps0_sub (.cons attrOps0_sub (.cons stepOps0_sub (.cons nextOps0_sub (.cons backOps0_sub .nil))))))

theorem body1_plain : Plain (body1 : List (List (HloOp τ sig (Elt F)))) := (.cons srcOps1_sub (.cons dstOps1_sub (.cons attrOps1_sub (.cons stepOps1_sub (.cons nextOps1_sub (.cons backOps1_sub .nil))))))

end Plains

/-- The loops' test on a counter that has not passed the edges. -/
theorem test {k : ℕ} (hk : k ≤ 160000) : IntOp.cmpi .slt (BitVec.ofNat 32 k) 160000#32 = 1#1 ↔ k < 160000 := by
  rw [WordCmp.cmpi_slt_eq]
  have h1 : (BitVec.ofNat 32 k).toInt = (k : ℤ) := by
    have h2 : (BitVec.ofNat 32 k).toNat = k := by rw [BitVec.toNat_ofNat]; omega
    rw [BitVec.toInt_eq_toNat_of_lt (by omega), h2]
  rw [h1, show (160000#32 : BitVec 32).toInt = (160000 : ℤ) from rfl]
  by_cases h : k < 160000
  · simp [h]
  · simp [h]

set_option backward.isDefEq.respectTransparency.types false in
/-- Loop 0's test, run before trip `k`. -/
theorem cond0 (W : Dev nD → Valuation τ sig (Elt F)) (h0 : ∀ c, W c main_v4_9 = fun _ => (0#32 : BitVec 32)) :
    LoopCond (Ix := Unit) (Name := ℕ) (U := Option PUnit) (Lvl := ℕ) (pcfgs (F := F)) defs₀ Variants.none loops Owe (main_while0_cond (F := F)) condOps0 body0 W 160000 := by
  intro k hk c bd
  have hctr := atTrip0_counter W c (h0 c) k
  unfold main_while0_cond
  rw [wp_bind]
  iintro ⟨Hb, Hh, HR⟩
  iapply (StableHlo.wp_hlo_within (Variants.lift Variants.none) (c : Thread nD τ) bd Set.univ (sub_ucRefs _ (nullary_bufs_sub ..))) $$ [Hb Hh]
  · isplitl [Hb]
    · iexact Hb
    · iexact Hh
  iintro ⟨Hb, Hh⟩
  rw [wp_ret]
  imodintro
  iapply (StableHlo.wp_hlo_within (Variants.lift Variants.none) (c : Thread nD τ) bd Set.univ (sub_ucRefs _ (binary_bufs_sub ..))) $$ [Hb Hh]
  · isplitl [Hb]
    · iexact Hb
    · iexact Hh
  iintro ⟨Hb, Hh⟩
  rw [HostLoop.elt_apply, wp_ret]
  imodintro
  isplitr
  · ipureintro
    show Iff (IntOp.cmpi .slt (HloOp.result _ (atTrip condOps0 body0 W k c) main_v4_9 HostLoop.idx0) (HloOp.result _ (atTrip condOps0 body0 W k c) main_while0c_c_12 HostLoop.idx0) = 1#1) (k < 160000)
    rw [nullary_result_ne _ _ _ _ (by decide), nullary_result, hctr]
    exact test hk
  isplitl [Hb]
  · iexact Hb
  isplitl [Hh]
  · rw [after_cons, after_cons, after_nil]
    iexact Hh
  · iexact HR

set_option backward.isDefEq.respectTransparency.types false in
/-- Loop 1's test, run before trip `k`. -/
theorem cond1 (W : Dev nD → Valuation τ sig (Elt F)) (h0 : ∀ c, W c main_v5_9 = fun _ => (0#32 : BitVec 32)) :
    LoopCond (Ix := Unit) (Name := ℕ) (U := Option PUnit) (Lvl := ℕ) (pcfgs (F := F)) defs₀ Variants.none loops Owe (main_while1_cond (F := F)) condOps1 body1 W 160000 := by
  intro k hk c bd
  have hctr := atTrip1_counter W c (h0 c) k
  unfold main_while1_cond
  rw [wp_bind]
  iintro ⟨Hb, Hh, HR⟩
  iapply (StableHlo.wp_hlo_within (Variants.lift Variants.none) (c : Thread nD τ) bd Set.univ (sub_ucRefs _ (nullary_bufs_sub ..))) $$ [Hb Hh]
  · isplitl [Hb]
    · iexact Hb
    · iexact Hh
  iintro ⟨Hb, Hh⟩
  rw [wp_ret]
  imodintro
  iapply (StableHlo.wp_hlo_within (Variants.lift Variants.none) (c : Thread nD τ) bd Set.univ (sub_ucRefs _ (binary_bufs_sub ..))) $$ [Hb Hh]
  · isplitl [Hb]
    · iexact Hb
    · iexact Hh
  iintro ⟨Hb, Hh⟩
  rw [HostLoop.elt_apply, wp_ret]
  imodintro
  isplitr
  · ipureintro
    show Iff (IntOp.cmpi .slt (HloOp.result _ (atTrip condOps1 body1 W k c) main_v5_9 HostLoop.idx0) (HloOp.result _ (atTrip condOps1 body1 W k c) main_while1c_c_12 HostLoop.idx0) = 1#1) (k < 160000)
    rw [nullary_result_ne _ _ _ _ (by decide), nullary_result, hctr]
    exact test hk
  isplitl [Hb]
  · iexact Hb
  isplitl [Hh]
  · rw [after_cons, after_cons, after_nil]
    iexact Hh
  · iexact HR

/-! ## The whole program -/

variable (m : (ℓ : Loc nD τ sig) → Buf (Elt F) ℓ)

theorem at0_counter (c : Dev nD) : at0 m c main_v4_9 = fun _ => (0#32 : BitVec 32) := rfl

theorem at1_counter (c : Dev nD) : at1 m c main_v5_9 = fun _ => (0#32 : BitVec 32) := rfl

/-- The program, segment by segment. -/
def segs : List (CSeg (pcfgs (F := F)) adm defs₀ Variants.none noIx noLv loops tk) :=
  segsOf _ _ _ _ _ _ _ _ Owe [preOps] pre_plain (launchContents m)
    ++ loopSeg _ _ _ _ _ _ _ _ 0 main_while0_cond main_while0_body rfl condOps0 body0 body0_plain body0_chain 160000 (at0 m) Owe (cond0 (at0 m) (at0_counter m))
      :: (segsOf _ _ _ _ _ _ _ _ Owe [midOps] mid_plain (fun c => after condOps0 (atTrip condOps0 body0 (at0 m) 160000 c))
        ++ loopSeg _ _ _ _ _ _ _ _ 1 main_while1_cond main_while1_body rfl condOps1 body1 body1_plain body1_chain 160000 (at1 m) Owe (cond1 (at1 m) (at1_counter m))
          :: segsOf _ _ _ _ _ _ _ _ Owe post post_plain (at2 m))

theorem segs_prog : (segs m).map CSeg.prog
    = ([preOps].map fun ops => (seq ops : Prog _ PUnit)) ++ HostLoop.enter 0
      :: (([midOps].map fun ops => (seq ops : Prog _ PUnit)) ++ HostLoop.enter 1 :: post.map fun ops => (seq ops : Prog _ PUnit)) := by
  unfold segs
  rw [List.map_append, List.map_cons, List.map_append, List.map_cons, segsOf_prog, segsOf_prog, segsOf_prog]
  rfl

theorem segs_chains : CSeg.Chains (fun c => iprop(held (c : Thread nD τ) (ucRefs τ sig) (launchContents m c) ∗ Owe c)) (segs m)
    (fun c => iprop(iprop(held (c : Thread nD τ) (ucRefs τ sig) (final m c)) ∗ ∃ W, owes (c : Thread nD τ) (0 : CellTallies nD τ sig Unit) W)) := by
  unfold segs
  exact CSeg.Chains.append (segsOf_chains _ _ _ _ _ _ _ _ Owe [preOps] pre_plain _)
    ⟨fun _ => .rfl, CSeg.Chains.append (segsOf_chains _ _ _ _ _ _ _ _ Owe [midOps] mid_plain _)
      ⟨fun _ => .rfl, segsOf_chains _ _ _ _ _ _ _ _ Owe post post_plain _⟩⟩

/-- The run ends, with every array at `final`. -/
theorem run_main [∀ e, Nonempty (Elt F e)] (ρ : Dev nD → PrngReg) :
    θ_run (defs (F := F)) (onTc (τ := τ) main) ⟨m, fun _ => 0, ρ⟩
      (fun r => ∀ (c : Dev nD) (b : Ref sig .tc), (Proc.devRef .tc b : DevRef τ sig).isScoped = false →
        r.2.mem ((c.tc : Thread nD τ).loc b) = final m c (Proc.devRef .tc b)) :=
  Pipeline.θ_run_regions_loop_kit (Ix := Unit) (Name := ℕ) (U := Option PUnit) (Lvl := ℕ) (J := Fin 0) (P := Fin 0) (Val := Elt F)
    pcfgs adm cells_injective defs₀ Variants.none noIx noLv loops tk m ρ main (segs m)
    (fun c Q => by
      rw [main_chain c]
      show wp _ _ _ (Pipeline.chain _) Q ⊢ wp _ _ _ (Pipeline.chain ((segs m).map CSeg.prog)) Q
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Owe c))
    (Tₙ := fun c => iprop(held (c : Thread nD τ) (ucRefs τ sig) (final m c)))
    (hch := segs_chains m)
    (hinit := by
      refine Pipeline.initEach noIx noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]
      · iexact Hh
      iexists ∅
      iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr
      · ipureintro; exact h
      iexact HSI)
    (hQ := fun _ h c b hb => h c _ (devRef_mem_ucRefs b hb))

end Cert.Proof.RI

end
-- ==== Proof.RI.Result.lean ====
/-
  The reference's result as one function of its arguments, and its frame.
-/
module

public import proofs.«01_k».proof.Proof.RI.Run

@[expose] public section

set_option maxRecDepth 16384

noncomputable section

namespace Cert.Proof.RI

open Cert.ReferenceIdeal Cert.ReferenceIdeal.Gen

open Idealize.ShloMosaic
open Idealize.ShloMosaic.TcCoe
open Idealize.SL.Sem
open Idealize.ShloMosaic.StableHlo (after afterL atTrip launchContents)

variable {F : FTy → Type} [FloatOps F]

/-- The mean of the read-out of the states beside the second states. -/
def meanOf (h h2 : FVec F S10000x5 .f32) (rw : FVec F S32x10 .f32) (rb : FVec F S32 .f32) : FVec F S32 .f32 :=
  Host.divf
    (Host.reduceAdd
      (addf (Host.dotGeneral dot_S10000x10_S10x32_S10000x32_1_0_0_1_n_n none
          (concatenate S10000x10 1 [⟨S10000x5, h⟩, ⟨S10000x5, h2⟩] concatenates_S10000x5_S10000x5_S10000x10_d1)
          (transpose S10x32 [1, 0] rw transposes_S32x10_S10x32_1_0))
        (broadcastInDim S10000x32 ![0, 1] bcast_S1x32_S10000x32_0_1 (broadcastInDim S1x32 ![1] bcast_S32_S1x32_1 rb)))
      (constant S_ .f32 0x00000000#32) reducesTo_S10000x32_S32_d0 h_S_)
    (broadcastInDim S32 ![] bcast_S_S32 (constant S_ .f32 0x461C4000#32))

/-- The dense layers on the mean and the molecule's features. -/
def denseOf (g : FVec F S32 .f32) (mol : FVec F S202 .f32) (w1 : FVec F S128x234 .f32) (b1 : FVec F S128 .f32) (w2 : FVec F S32x128 .f32)
    (b2 : FVec F S32 .f32) (w3 : FVec F S1x32 .f32) (b3 : FVec F S1 .f32) : FVec F S1x1 .f32 :=
  let x0 := maximumf (concatenate S234 0 [⟨S32, g⟩, ⟨S202, mol⟩] concatenates_S32_S202_S234_d0) (broadcastInDim S234 ![] bcast_S_S234 (constant S_ .f32 0x00000000#32))
  let x1 := maximumf (addf (Host.dotGeneral dot_S234_S234x128_S128_0_0_n_1_n_n none x0 (transpose S234x128 [1, 0] w1 transposes_S128x234_S234x128_1_0)) b1)
    (broadcastInDim S128 ![] bcast_S_S128 (constant S_ .f32 0x00000000#32))
  let x2 := maximumf (addf (Host.dotGeneral dot_S128_S128x32_S32_0_0_n_1_n_n none x1 (transpose S128x32 [1, 0] w2 transposes_S32x128_S128x32_1_0)) b2)
    (broadcastInDim S32 ![] bcast_S_S32 (constant S_ .f32 0x00000000#32))
  shapeCast S1x1 (addf (Host.dotGeneral dot_S32_S32x1_S1_0_0_n_1_n_n none x2 (transpose S32x1 [1, 0] w3 transposes_S1x32_S32x1_1_0)) b3) shapeCasts_S1_S1x1

/-- The lines after the loops, from any contents. -/
theorem post_result (V : Valuation τ sig (Elt F)) : afterL post V main_v28
    = denseOf (meanOf (V main_v5_10) (V main_arg4) (V main_arg17) (V main_arg18)) (V main_arg0) (V main_arg19) (V main_arg20) (V main_arg21)
        (V main_arg22) (V main_arg23) (V main_arg24) := by
  chain_rfl

variable (m : (ℓ : Loc nD τ sig) → Buf (Elt F) ℓ)

/-- The edges' sources and -/
def srcs (e : IVec S2x160000 32) : IVec S160000 32 :=
  shapeCast S160000 (extractStridedSlice S1x160000 ![0, 0] e slices_S2x160000_S1x160000_0_0) shapeCasts_S1x160000_S160000
/-- their destinations. -/
def dsts (e : IVec S2x160000 32) : IVec S160000 32 :=
  shapeCast S160000 (extractStridedSlice S1x160000 ![1, 0] e slices_S2x160000_S1x160000_1_0) shapeCasts_S1x160000_S160000

/-- The states after the first layer, -/
def layer0 (c : Dev nD) : FVec F S10000x5 .f32 :=
  layer (srcs (m ((c : Thread nD τ).loc main_arg1))) (dsts (m ((c : Thread nD τ).loc main_arg1))) (m ((c : Thread nD τ).loc main_arg2))
    (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg3)) 160000

/-- and after the second. -/
def layer1 (c : Dev nD) : FVec F S10000x5 .f32 :=
  layer (srcs (m ((c : Thread nD τ).loc main_arg1))) (dsts (m ((c : Thread nD τ).loc main_arg1))) (m ((c : Thread nD τ).loc main_arg2))
    (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16)) (layer0 m c) 160000

section Between

variable (W : Valuation τ sig (Elt F))

theorem cond0_states : after condOps0 W main_v4_10 = W main_v4_10 := rfl
theorem cond1_states : after condOps1 W main_v5_10 = W main_v5_10 := rfl
theorem mid_src : after midOps W main_v5_0 = W main_v1 := rfl
theorem mid_dst : after midOps W main_v5_1 = W main_v3 := rfl
theorem mid_attr : after midOps W main_v5_2 = W main_arg2 := rfl
theorem mid_vw : after midOps W main_v5_3 = W main_arg11 := rfl
theorem mid_vb : after midOps W main_v5_4 = W main_arg12 := rfl
theorem mid_ew : after midOps W main_v5_5 = W main_arg13 := rfl
theorem mid_eb : after midOps W main_v5_6 = W main_arg14 := rfl
theorem mid_uw : after midOps W main_v5_7 = W main_arg15 := rfl
theorem mid_ub : after midOps W main_v5_8 = W main_arg16 := rfl
theorem mid_states : after midOps W main_v5_10 = W main_v4_10 := rfl

end Between

/-- Before loop 1 the states are the first layer's, -/
theorem states_mid (c : Dev nD) : at1 m c main_v5_10 = layer0 m c := by
  refine (mid_states _).trans ((cond0_states _).trans ?_)
  exact atTrip0_states (at0 m) c (at0_counter m c) 160000

/-- and what else was ready before loop 0 is as it was. -/
theorem kept_mid (c : Dev nD) {r : Ref sig .tc} (h : r ∉ written0) : after condOps0 (atTrip condOps0 body0 (at0 m) 160000 c) r = at0 m c r :=
  (keptCond0 _ h).trans (atTrip0_kept (at0 m) c h 160000)

theorem at0_src (c : Dev nD) : at0 m c main_v1 = srcs (m ((c : Thread nD τ).loc main_arg1)) := rfl
theorem at0_dst (c : Dev nD) : at0 m c main_v3 = dsts (m ((c : Thread nD τ).loc main_arg1)) := rfl

/-- After loop 1 the states are the second layer's. -/
theorem states_end (c : Dev nD) : at2 m c main_v5_10 = layer1 m c := by
  refine (cond1_states _).trans ((atTrip1_states (at1 m) c (at1_counter m c) 160000).trans ?_)
  rw [states_mid]
  rw [show at1 m c main_v5_0 = srcs (m ((c : Thread nD τ).loc main_arg1)) from (mid_src _).trans ((kept_mid m c (by decide)).trans (at0_src m c)),
    show at1 m c main_v5_1 = dsts (m ((c : Thread nD τ).loc main_arg1)) from (mid_dst _).trans ((kept_mid m c (by decide)).trans (at0_dst m c)),
    show at1 m c main_v5_2 = m ((c : Thread nD τ).loc main_arg2) from (mid_attr _).trans (kept_mid m c (by decide)),
    show at1 m c main_v5_3 = m ((c : Thread nD τ).loc main_arg11) from (mid_vw _).trans (kept_mid m c (by decide)),
    show at1 m c main_v5_4 = m ((c : Thread nD τ).loc main_arg12) from (mid_vb _).trans (kept_mid m c (by decide)),
    show at1 m c main_v5_5 = m ((c : Thread nD τ).loc main_arg13) from (mid_ew _).trans (kept_mid m c (by decide)),
    show at1 m c main_v5_6 = m ((c : Thread nD τ).loc main_arg14) from (mid_eb _).trans (kept_mid m c (by decide)),
    show at1 m c main_v5_7 = m ((c : Thread nD τ).loc main_arg15) from (mid_uw _).trans (kept_mid m c (by decide)),
    show at1 m c main_v5_8 = m ((c : Thread nD τ).loc main_arg16) from (mid_ub _).trans (kept_mid m c (by decide))]
  rfl

/-- The reference's result. -/
def resultR (c : Dev nD) : FVec F S1x1 .f32 :=
  denseOf (meanOf (layer1 m c) (m ((c : Thread nD τ).loc main_arg4)) (m ((c : Thread nD τ).loc main_arg17)) (m ((c : Thread nD τ).loc main_arg18)))
    (m ((c : Thread nD τ).loc main_arg0)) (m ((c : Thread nD τ).loc main_arg19)) (m ((c : Thread nD τ).loc main_arg20)) (m ((c : Thread nD τ).loc main_arg21))
    (m ((c : Thread nD τ).loc main_arg22)) (m ((c : Thread nD τ).loc main_arg23)) (m ((c : Thread nD τ).loc main_arg24))

theorem final_result (c : Dev nD) : final m c main_v28 = resultR m c := by
  refine (post_result _).trans ?_
  rw [states_end, at2_kept (r := main_arg4) m c (by decide) (by decide) (by decide) (by decide),
    at2_kept (r := main_arg17) m c (by decide) (by decide) (by decide) (by decide), at2_kept (r := main_arg18) m c (by decide) (by decide) (by decide) (by decide),
    at2_kept (r := main_arg0) m c (by decide) (by decide) (by decide) (by decide), at2_kept (r := main_arg19) m c (by decide) (by decide) (by decide) (by decide),
    at2_kept (r := main_arg20) m c (by decide) (by decide) (by decide) (by decide), at2_kept (r := main_arg21) m c (by decide) (by decide) (by decide) (by decide),
    at2_kept (r := main_arg22) m c (by decide) (by decide) (by decide) (by decide), at2_kept (r := main_arg23) m c (by decide) (by decide) (by decide) (by decide),
    at2_kept (r := main_arg24) m c (by decide) (by decide) (by decide) (by decide)]
  rfl

/-- Every argument as it was, one by one. -/
def Kept (s : MemSt nD τ sig (Elt F)) (c : Dev nD) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)
  ∧ s.mem ((c : Thread nD τ).loc main_arg7) = m ((c : Thread nD τ).loc main_arg7)
  ∧ s.mem ((c : Thread nD τ).loc main_arg8) = m ((c : Thread nD τ).loc main_arg8)
  ∧ s.mem ((c : Thread nD τ).loc main_arg9) = m ((c : Thread nD τ).loc main_arg9)
  ∧ s.mem ((c : Thread nD τ).loc main_arg10) = m ((c : Thread nD τ).loc main_arg10)
  ∧ s.mem ((c : Thread nD τ).loc main_arg11) = m ((c : Thread nD τ).loc main_arg11)
  ∧ s.mem ((c : Thread nD τ).loc main_arg12) = m ((c : Thread nD τ).loc main_arg12)
  ∧ s.mem ((c : Thread nD τ).loc main_arg13) = m ((c : Thread nD τ).loc main_arg13)
  ∧ s.mem ((c : Thread nD τ).loc main_arg14) = m ((c : Thread nD τ).loc main_arg14)
  ∧ s.mem ((c : Thread nD τ).loc main_arg15) = m ((c : Thread nD τ).loc main_arg15)
  ∧ s.mem ((c : Thread nD τ).loc main_arg16) = m ((c : Thread nD τ).loc main_arg16)
  ∧ s.mem ((c : Thread nD τ).loc main_arg17) = m ((c : Thread nD τ).loc main_arg17)
  ∧ s.mem ((c : Thread nD τ).loc main_arg18) = m ((c : Thread nD τ).loc main_arg18)
  ∧ s.mem ((c : Thread nD τ).loc main_arg19) = m ((c : Thread nD τ).loc main_arg19)
  ∧ s.mem ((c : Thread nD τ).loc main_arg20) = m ((c : Thread nD τ).loc main_arg20)
  ∧ s.mem ((c : Thread nD τ).loc main_arg21) = m ((c : Thread nD τ).loc main_arg21)
  ∧ s.mem ((c : Thread nD τ).loc main_arg22) = m ((c : Thread nD τ).loc main_arg22)
  ∧ s.mem ((c : Thread nD τ).loc main_arg23) = m ((c : Thread nD τ).loc main_arg23)
  ∧ s.mem ((c : Thread nD τ).loc main_arg24) = m ((c : Thread nD τ).loc main_arg24)

theorem kept_of (s : MemSt nD τ sig (Elt F)) (c : Dev nD)
    (h : ∀ b ∈ args, s.mem ((c : Thread nD τ).loc b) = m ((c : Thread nD τ).loc b)) : Kept m s c :=
  have a : args.Forall fun b => s.mem ((c : Thread nD τ).loc b) = m ((c : Thread nD τ).loc b) := List.forall_iff_forall_mem.mpr h
  a

theorem args_unscoped : ∀ b ∈ args, (Proc.devRef .tc b : DevRef τ sig).isScoped = false := by decide

/-- The run ends at the result, with the arguments as they were and nothing in flight. -/
theorem run [∀ e, Nonempty (Elt F e)] (g : Dev nD → PrngReg) :
    θ_run (defs (F := F)) (onTc (τ := τ) main) ⟨m, fun _ => 0, g⟩
      (fun r => (∀ c : Dev nD, r.2.mem ((c : Thread nD τ).loc main_v28) = resultR m c ∧ Kept m r.2 c) ∧ r.2.sem = fun _ => 0) :=
  (θ_run defs _ _).mono (fun r h =>
    ⟨fun c => ⟨(h c main_v28 rfl).trans (final_result m c),
      kept_of m _ c fun b hb => (h c b (args_unscoped b hb)).trans (final_arg m c hb)⟩,
     sem_eq_zero_of_no_sems (by decide) r.2⟩) (run_main m g)

end Cert.Proof.RI

end
-- ==== Proof.KI.Host.lean ====
/-
  The arrays the host prepares for the kernel, read at an entry.
-/
module

public import proofs.«01_k».proof.Proof.KI.Run
public import Idealize.ShloMosaic.Lib.Pointwise

@[expose] public section

set_option maxRecDepth 16384

noncomputable section

namespace Cert.Proof.KI

open Cert.KernelIdeal Cert.KernelIdeal.Gen
open Idealize.ShloMosaic
open Idealize.ShloMosaic.TcCoe
open Idealize.SL.Sem

section Prepared

variable {F : FTy → Type} [FloatOps F] [Named F]

/-- A layer's weights of the two nodes. -/
def nodeW (u : FVec F S5x21 .f32) (v : FVec F S5x5 .f32) : FVec F S10x5 .f32 :=
  concatenate S10x5 0
    [⟨S5x5, transpose S5x5 [1, 0] (extractStridedSlice S5x5 ![0, 0] u slices_S5x21_S5x5_0_0) transposes_S5x5_S5x5_1_0⟩,
     ⟨S5x5, transpose S5x5 [1, 0] (Host.dotGeneral dot_S5x5_S5x5_S5x5_1_0_0_1_n_n none (extractStridedSlice S5x5 ![0, 5] u slices_S5x21_S5x5_0_5) v)
       transposes_S5x5_S5x5_1_0⟩] concatenates_S5x5_S5x5_S10x5_d0

/-- A layer's weights of the edge. -/
def edgeW (u : FVec F S5x21 .f32) (e : FVec F S11x11 .f32) : FVec F S11x5 .f32 :=
  transpose S11x5 [1, 0] (Host.dotGeneral dot_S5x11_S11x11_S5x11_1_0_0_1_n_n none (extractStridedSlice S5x11 ![0, 10] u slices_S5x21_S5x11_0_10) e)
    transposes_S5x11_S11x5_1_0

/-- A layer's constant. -/
def constW (u : FVec F S5x21 .f32) (vb : FVec F S5 .f32) (eb : FVec F S11 .f32) (ub : FVec F S5 .f32) : FVec F S1x5 .f32 :=
  shapeCast S1x5 (addf (addf (Host.dotGeneral dot_S5x5_S5_S5_1_0_0_n_n_n none (extractStridedSlice S5x5 ![0, 5] u slices_S5x21_S5x5_0_5) vb)
    (Host.dotGeneral dot_S5x11_S11_S5_1_0_0_n_n_n none (extractStridedSlice S5x11 ![0, 10] u slices_S5x21_S5x11_0_10) eb)) ub) shapeCasts_S5_S1x5

/-- The two layers' arrays, one above the other. -/
def nodes2 (x y : FVec F S10x5 .f32) : FVec F S2x10x5 .f32 :=
  concatenate S2x10x5 0 [⟨S1x10x5, broadcastInDim S1x10x5 ![1, 2] bcast_S10x5_S1x10x5_1_2 x⟩,
    ⟨S1x10x5, broadcastInDim S1x10x5 ![1, 2] bcast_S10x5_S1x10x5_1_2 y⟩] concatenates_S1x10x5_S1x10x5_S2x10x5_d0
def edges2 (x y : FVec F S11x5 .f32) : FVec F S2x11x5 .f32 :=
  concatenate S2x11x5 0 [⟨S1x11x5, broadcastInDim S1x11x5 ![1, 2] bcast_S11x5_S1x11x5_1_2 x⟩,
    ⟨S1x11x5, broadcastInDim S1x11x5 ![1, 2] bcast_S11x5_S1x11x5_1_2 y⟩] concatenates_S1x11x5_S1x11x5_S2x11x5_d0
def consts2 (x y : FVec F S1x5 .f32) : FVec F S2x1x5 .f32 :=
  concatenate S2x1x5 0 [⟨S1x1x5, broadcastInDim S1x1x5 ![1, 2] bcast_S1x5_S1x1x5_1_2 x⟩,
    ⟨S1x1x5, broadcastInDim S1x1x5 ![1, 2] bcast_S1x5_S1x1x5_1_2 y⟩] concatenates_S1x1x5_S1x1x5_S2x1x5_d0

variable (m : (ℓ : Loc nD τ sig) → Buf (Elt F) ℓ) (c : Dev nD)

/-- The buffers after the lines that compute the two layers' weights. -/
def mid : Valuation τ sig (Elt F) := StableHlo.after ((hostOps0 (F := F)).take 32) (fun b => m (c, b))

theorem V_mid (b : Ref sig .tc) : V m c b = StableHlo.after ((hostOps0 (F := F)).drop 32) (mid m c) b := by
  unfold V mid
  rw [← StableHlo.after_append, List.take_append_drop]

theorem mid_v10 : mid m c (Proc.devRef .tc main_v10) = nodeW (m ((c : Thread nD τ).loc main_arg9)) (m ((c : Thread nD τ).loc main_arg5)) := rfl
theorem mid_v24 : mid m c (Proc.devRef .tc main_v24) = nodeW (m ((c : Thread nD τ).loc main_arg15)) (m ((c : Thread nD τ).loc main_arg11)) := rfl
theorem mid_v12 : mid m c (Proc.devRef .tc main_v12) = edgeW (m ((c : Thread nD τ).loc main_arg9)) (m ((c : Thread nD τ).loc main_arg7)) := rfl
theorem mid_v26 : mid m c (Proc.devRef .tc main_v26) = edgeW (m ((c : Thread nD τ).loc main_arg15)) (m ((c : Thread nD τ).loc main_arg13)) := rfl
theorem mid_v17 : mid m c (Proc.devRef .tc main_v17) = constW (m ((c : Thread nD τ).loc main_arg9)) (m ((c : Thread nD τ).loc main_arg6)) (m ((c : Thread nD τ).loc main_arg8)) (m ((c : Thread nD τ).loc main_arg10)) := rfl
theorem mid_v31 : mid m c (Proc.devRef .tc main_v31) = constW (m ((c : Thread nD τ).loc main_arg15)) (m ((c : Thread nD τ).loc main_arg12)) (m ((c : Thread nD τ).loc main_arg14)) (m ((c : Thread nD τ).loc main_arg16)) := rfl

theorem after_v34 (σ : Valuation τ sig (Elt F)) : StableHlo.after ((hostOps0 (F := F)).drop 32) σ (Proc.devRef .tc main_v34) = nodes2 (σ (Proc.devRef .tc main_v10)) (σ (Proc.devRef .tc main_v24)) := rfl
theorem after_v37 (σ : Valuation τ sig (Elt F)) : StableHlo.after ((hostOps0 (F := F)).drop 32) σ (Proc.devRef .tc main_v37) = edges2 (σ (Proc.devRef .tc main_v12)) (σ (Proc.devRef .tc main_v26)) := rfl
theorem after_v40 (σ : Valuation τ sig (Elt F)) : StableHlo.after ((hostOps0 (F := F)).drop 32) σ (Proc.devRef .tc main_v40) = consts2 (σ (Proc.devRef .tc main_v17)) (σ (Proc.devRef .tc main_v31)) := rfl

theorem V_v34 : V m c main_v34 = nodes2 (nodeW (m ((c : Thread nD τ).loc main_arg9)) (m ((c : Thread nD τ).loc main_arg5))) (nodeW (m ((c : Thread nD τ).loc main_arg15)) (m ((c : Thread nD τ).loc main_arg11))) :=
  (V_mid m c main_v34).trans ((after_v34 _).trans (congrArg₂ nodes2 (mid_v10 m c) (mid_v24 m c)))
theorem V_v37 : V m c main_v37 = edges2 (edgeW (m ((c : Thread nD τ).loc main_arg9)) (m ((c : Thread nD τ).loc main_arg7))) (edgeW (m ((c : Thread nD τ).loc main_arg15)) (m ((c : Thread nD τ).loc main_arg13))) :=
  (V_mid m c main_v37).trans ((after_v37 _).trans (congrArg₂ edges2 (mid_v12 m c) (mid_v26 m c)))
theorem V_v40 : V m c main_v40 = consts2 (constW (m ((c : Thread nD τ).loc main_arg9)) (m ((c : Thread nD τ).loc main_arg6)) (m ((c : Thread nD τ).loc main_arg8)) (m ((c : Thread nD τ).loc main_arg10))) (constW (m ((c : Thread nD τ).loc main_arg15)) (m ((c : Thread nD τ).loc main_arg12)) (m ((c : Thread nD τ).loc main_arg14)) (m ((c : Thread nD τ).loc main_arg16))) :=
  (V_mid m c main_v40).trans ((after_v40 _).trans (congrArg₂ consts2 (mid_v17 m c) (mid_v31 m c)))
theorem V_v43 : V m c main_v43 = shapeCast S80x2000x11 (m ((c : Thread nD τ).loc main_arg2)) shapeCasts_S160000x11_S80x2000x11 := rfl
theorem V_v44 : V m c main_v44 = shapeCast S1x202 (m ((c : Thread nD τ).loc main_arg0)) shapeCasts_S202_S1x202 := rfl
theorem V_v46 : V m c main_v46 =
    extractStridedSlice S5x32 ![0, 0] (transpose S10x32 [1, 0] (m ((c : Thread nD τ).loc main_arg17)) transposes_S32x10_S10x32_1_0) slices_S10x32_S5x32_0_0 := rfl
theorem V_v47 : V m c main_v47 =
    extractStridedSlice S5x32 ![5, 0] (transpose S10x32 [1, 0] (m ((c : Thread nD τ).loc main_arg17)) transposes_S32x10_S10x32_1_0) slices_S10x32_S5x32_5_0 := rfl
theorem V_v48 : V m c main_v48 = shapeCast S1x32 (m ((c : Thread nD τ).loc main_arg18)) shapeCasts_S32_S1x32 := rfl
theorem V_v49 : V m c main_v49 = transpose S234x128 [1, 0] (m ((c : Thread nD τ).loc main_arg19)) transposes_S128x234_S234x128_1_0 := rfl
theorem V_v50 : V m c main_v50 = shapeCast S1x128 (m ((c : Thread nD τ).loc main_arg20)) shapeCasts_S128_S1x128 := rfl
theorem V_v51 : V m c main_v51 = transpose S128x32 [1, 0] (m ((c : Thread nD τ).loc main_arg21)) transposes_S32x128_S128x32_1_0 := rfl
theorem V_v52 : V m c main_v52 = shapeCast S1x32 (m ((c : Thread nD τ).loc main_arg22)) shapeCasts_S32_S1x32 := rfl
theorem V_v53 : V m c main_v53 = transpose S32x1 [1, 0] (m ((c : Thread nD τ).loc main_arg23)) transposes_S1x32_S32x1_1_0 := rfl
theorem V_v54 : V m c main_v54 = shapeCast S1x1 (m ((c : Thread nD τ).loc main_arg24)) shapeCasts_S1_S1x1 := rfl

end Prepared

section Stack

variable {F : FTy → Type} [FloatOps F] [Named F]

theorem nodes2_0 (x y : FVec F S10x5 .f32) (k : Fin 2) (hk : k.val = 0) (i : Fin 10) (j : Fin 5) : nodes2 x y (ix3 k i j) = x (ix2 i j) := by
  unfold nodes2
  generalize hx : broadcastInDim S1x10x5 ![1, 2] _ x = x'
  have e : x' (ix3 0 i j) = x (ix2 i j) := by rw [← hx]; simp only [pointwise]; rfl
  refine Eq.trans ?_ e
  simp only [pointwise]
  refine (dif_pos (by omega : k.val < 1)).trans ?_
  exact congrArg (fun q => x' (ix3 q i j)) (Fin.ext hk)

theorem nodes2_1 (x y : FVec F S10x5 .f32) (k : Fin 2) (hk : k.val ≠ 0) (i : Fin 10) (j : Fin 5) : nodes2 x y (ix3 k i j) = y (ix2 i j) := by
  unfold nodes2
  generalize hy : broadcastInDim S1x10x5 ![1, 2] _ y = y'
  have e : y' (ix3 0 i j) = y (ix2 i j) := by rw [← hy]; simp only [pointwise]; rfl
  refine Eq.trans ?_ e
  simp only [pointwise]
  refine (dif_neg (by omega : ¬ k.val < 1)).trans ?_
  exact congrArg (fun q => y' (ix3 q i j)) (Fin.ext (Nat.sub_eq_zero_of_le (Nat.le_of_lt_succ k.isLt)))

theorem edges2_0 (x y : FVec F S11x5 .f32) (k : Fin 2) (hk : k.val = 0) (i : Fin 11) (j : Fin 5) : edges2 x y (ix3 k i j) = x (ix2 i j) := by
  unfold edges2
  generalize hx : broadcastInDim S1x11x5 ![1, 2] _ x = x'
  have e : x' (ix3 0 i j) = x (ix2 i j) := by rw [← hx]; simp only [pointwise]; rfl
  refine Eq.trans ?_ e
  simp only [pointwise]
  refine (dif_pos (by omega : k.val < 1)).trans ?_
  exact congrArg (fun q => x' (ix3 q i j)) (Fin.ext hk)

theorem edges2_1 (x y : FVec F S11x5 .f32) (k : Fin 2) (hk : k.val ≠ 0) (i : Fin 11) (j : Fin 5) : edges2 x y (ix3 k i j) = y (ix2 i j) := by
  unfold edges2
  generalize hy : broadcastInDim S1x11x5 ![1, 2] _ y = y'
  have e : y' (ix3 0 i j) = y (ix2 i j) := by rw [← hy]; simp only [pointwise]; rfl
  refine Eq.trans ?_ e
  simp only [pointwise]
  refine (dif_neg (by omega : ¬ k.val < 1)).trans ?_
  exact congrArg (fun q => y' (ix3 q i j)) (Fin.ext (Nat.sub_eq_zero_of_le (Nat.le_of_lt_succ k.isLt)))

theorem consts2_0 (x y : FVec F S1x5 .f32) (k : Fin 2) (hk : k.val = 0) (i : Fin 1) (j : Fin 5) : consts2 x y (ix3 k i j) = x (ix2 i j) := by
  have hi : i = 0 := Fin.eq_zero i
  subst hi
  unfold consts2
  generalize hx : broadcastInDim S1x1x5 ![1, 2] _ x = x'
  have e : x' (ix3 0 0 j) = x (ix2 0 j) := by rw [← hx]; simp only [pointwise]; rfl
  refine Eq.trans ?_ e
  simp only [pointwise]
  refine (dif_pos (by omega : k.val < 1)).trans ?_
  exact congrArg (fun q => x' (ix3 q 0 j)) (Fin.ext hk)

theorem consts2_1 (x y : FVec F S1x5 .f32) (k : Fin 2) (hk : k.val ≠ 0) (i : Fin 1) (j : Fin 5) : consts2 x y (ix3 k i j) = y (ix2 i j) := by
  have hi : i = 0 := Fin.eq_zero i
  subst hi
  unfold consts2
  generalize hy : broadcastInDim S1x1x5 ![1, 2] _ y = y'
  have e : y' (ix3 0 0 j) = y (ix2 0 j) := by rw [← hy]; simp only [pointwise]; rfl
  refine Eq.trans ?_ e
  simp only [pointwise]
  refine (dif_neg (by omega : ¬ k.val < 1)).trans ?_
  exact congrArg (fun q => y' (ix3 q 0 j)) (Fin.ext (Nat.sub_eq_zero_of_le (Nat.le_of_lt_succ k.isLt)))

end Stack

end Cert.Proof.KI

end
-- ==== Proof.RI.Read.lean ====
/-
  What the reference reads and writes on one edge, element by element.
-/
module

public import proofs.«01_k».proof.Proof.RI.Result
public import Idealize.ShloMosaic.Lib.Pointwise
public import Idealize.ShloMosaic.Lib.DynamicIndex
public import Idealize.ShloMosaic.Lib.Routing.OpsSet

@[expose] public section

set_option maxRecDepth 16384

noncomputable section

namespace Cert.Proof.RI

open Cert.ReferenceIdeal Cert.ReferenceIdeal.Gen
open Idealize.ShloMosaic

variable {α : Type}

theorem toInt_ofNat {k : ℕ} (hk : k < 2 ^ 31) : (BitVec.ofNat 32 k).toInt = (k : ℤ) := by
  have h2 : (BitVec.ofNat 32 k).toNat = k := by rw [BitVec.toNat_ofNat]; omega
  rw [BitVec.toInt_eq_toNat_of_lt (by omega), h2]

theorem toInt_small {w : BitVec 32} (h : w.toNat < 10000) : w.toInt = (w.toNat : ℤ) := BitVec.toInt_eq_toNat_of_lt (by omega)

/-- An edge's end is the list's entry. -/
theorem endAt_read (x : IVec S160000 32) {k : ℕ} (hk : k < 160000) (i : S_.Idx) : endAt x (fun _ => BitVec.ofNat 32 k) i = x (ix1 ⟨k, hk⟩) := by
  unfold endAt
  rw [Host.dynamicSlice_eq_extractStridedSlice S1 x _ ![k] sliceFits_S160000_S1 ⟨rfl, fun a => by
    match a with
    | ⟨0, _⟩ => exact Nat.succ_le_of_lt hk⟩ (fun a => by
      match a with
      | ⟨0, _⟩ => exact toInt_ofNat (by omega))]
  simp only [pointwise]
  refine congrArg x (funext fun a => Fin.ext ?_)
  match a with
  | ⟨0, _⟩ => rfl

/-- An edge's attributes are its row. -/
theorem attrAt_read (x : FVec Ideal S160000x11 .f32) {k : ℕ} (hk : k < 160000) (j : Fin 11) :
    attrAt x (fun _ => BitVec.ofNat 32 k) (ix1 j) = x (ix2 ⟨k, hk⟩ j) := by
  unfold attrAt
  rw [Host.dynamicSlice_eq_extractStridedSlice S1x11 x _ ![k, 0] sliceFits_S160000x11_S1x11 ⟨rfl, fun a => by
    match a with
    | ⟨0, _⟩ => exact Nat.succ_le_of_lt hk
    | ⟨1, _⟩ => exact le_refl 11⟩ (fun a => by
      match a with
      | ⟨0, _⟩ => exact toInt_ofNat (by omega)
      | ⟨1, _⟩ => rfl)]
  simp only [pointwise]
  refine congrArg x (funext fun a => Fin.ext ?_)
  match a with
  | ⟨0, _⟩ => rfl
  | ⟨1, _⟩ => exact Nat.zero_add j.val

/-- A node's number is not negative. -/
theorem wrap_read (w : IVec S_ 32) {n : ℕ} (hn : n < 10000) (hw : ∀ i, (w i).toNat = n) (i : S_.Idx) : wrap w i = w i :=
  select_slt_zero_of_nonneg w _ _ i (by rw [toInt_small (by rw [hw]; exact hn)]; omega)

/-- A node's state is its row. -/
theorem rowAt_read (x : FVec Ideal S10000x5 .f32) (w : IVec S_ 32) {n : ℕ} (hn : n < 10000) (hw : ∀ i, (w i).toNat = n) (j : Fin 5) :
    rowAt x w (ix1 j) = x (ix2 ⟨n, hn⟩ j) := by
  unfold rowAt
  rw [Host.dynamicSlice_eq_extractStridedSlice S1x5 x _ ![n, 0] sliceFits_S10000x5_S1x5 ⟨rfl, fun a => by
    match a with
    | ⟨0, _⟩ => exact Nat.succ_le_of_lt hn
    | ⟨1, _⟩ => exact le_refl 5⟩ (fun a => by
      match a with
      | ⟨0, _⟩ =>
        show (wrap w (Shape.Idx.first h_S_)).toInt = (n : ℤ)
        rw [wrap_read w hn hw, toInt_small (by rw [hw]; exact hn), hw]
      | ⟨1, _⟩ => rfl)]
  simp only [pointwise]
  refine congrArg x (funext fun a => Fin.ext ?_)
  match a with
  | ⟨0, _⟩ => rfl
  | ⟨1, _⟩ => exact Nat.zero_add j.val

/-- Where the update of a row lands. -/
theorem lands (w : IVec S_ 32) {n : ℕ} (hn : n < 10000) (hw : ∀ i, (w i).toNat = n) (k : Fin 5) (r : Fin 10000) (j : Fin 5) :
    scatter_S10000x5_S1_S5_0_0_0_0.resultIdx? (ix1 k) (broadcastInDim S1 ![] bcast_S_S1 (wrap w)) = some (ix2 r j) ↔ n = r.val ∧ k = j := by
  refine (Routing.resultIdx?_eq_some _ _ _ _).trans ?_
  have h0 : scatter_S10000x5_S1_S5_0_0_0_0.start (ix1 k) (broadcastInDim S1 ![] bcast_S_S1 (wrap w)) 0 = (n : ℤ) := by
    refine Eq.trans (b := (wrap w (Shape.Idx.first h_S_)).toInt) ?_ ?_
    · show (broadcastInDim S1 ![] bcast_S_S1 (wrap w) _).toInt = _
      simp only [pointwise]
      exact congrArg (fun q => (wrap w q).toInt) (funext fun a => a.elim0)
    · rw [wrap_read w hn hw, toInt_small (by rw [hw]; exact hn), hw]
  have h1 : scatter_S10000x5_S1_S5_0_0_0_0.start (ix1 k) (broadcastInDim S1 ![] bcast_S_S1 (wrap w)) 1 = 0 := rfl
  have w0 : scatter_S10000x5_S1_S5_0_0_0_0.window (ix1 k) 0 = 0 := rfl
  have w1 : scatter_S10000x5_S1_S5_0_0_0_0.window (ix1 k) 1 = k.val := rfl
  constructor
  · intro h
    have e0 : (n : ℤ) + ((0 : ℕ) : ℤ) = (r.val : ℤ) := by have := h 0; rw [h0, w0] at this; exact this
    have e1 : (0 : ℤ) + (k.val : ℤ) = (j.val : ℤ) := by have := h 1; rw [h1, w1] at this; exact this
    exact ⟨by omega, Fin.ext (by omega)⟩
  · rintro ⟨e0, rfl⟩ a
    match a with
    | ⟨0, _⟩ =>
      refine (congrArg₂ (fun p (q : ℕ) => p + (q : ℤ)) h0 w0).trans ?_
      show (n : ℤ) + ((0 : ℕ) : ℤ) = (r.val : ℤ)
      omega
    | ⟨1, _⟩ =>
      refine (congrArg₂ (fun p (q : ℕ) => p + (q : ℤ)) h1 w1).trans ?_
      exact Int.zero_add _

/-- The states with a row written. -/
theorem put_read (x : FVec Ideal S10000x5 .f32) (w : IVec S_ 32) {n : ℕ} (hn : n < 10000) (hw : ∀ i, (w i).toNat = n) (u : FVec Ideal S5 .f32)
    (r : Fin 10000) (j : Fin 5) : put x w u (ix2 r j) = if r.val = n then u (ix1 j) else x (ix2 r j) := by
  unfold put
  by_cases h : r.val = n
  · rw [if_pos h]
    refine Routing.scatter_set_hit _ x _ u (ix2 r j) (u (ix1 j)) (fun k hk => ?_) (ix1 j) ((lands w hn hw j r j).2 ⟨h.symm, rfl⟩)
    obtain ⟨k, rfl⟩ : ∃ k', k = ix1 k' := ⟨k 0, by funext a; match a with | ⟨0, _⟩ => rfl⟩
    rw [((lands w hn hw k r j).1 hk).2]
  · rw [if_neg h]
    refine Routing.scatter_set_miss _ x _ u (ix2 r j) (fun k hk => ?_)
    obtain ⟨k, rfl⟩ : ∃ k', k = ix1 k' := ⟨k 0, by funext a; match a with | ⟨0, _⟩ => rfl⟩
    exact h ((lands w hn hw k r j).1 hk).1.symm

end Cert.Proof.RI

end
-- ==== Proof.Eq.Weights.lean ====
/-
  One layer's edge update over the reals: as the network states it, and as the kernel groups it.
-/
module

public import proofs.«01_k».proof.Proof.Chain
public import Mathlib.Data.Real.Basic
public import Mathlib.Algebra.BigOperators.Fin
public import Mathlib.Tactic.Ring

@[expose] public section

noncomputable section

namespace Cert.Proof.Eq

open Idealize.ShloMosaic Cert.Proof.Chain

/-- One layer's weights: of the messages, of the edges, of the update. -/
structure Weights where
  v : Fin 5 → Fin 5 → ℝ
  vb : Fin 5 → ℝ
  e : Fin 11 → Fin 11 → ℝ
  eb : Fin 11 → ℝ
  u : Fin 5 → Fin 21 → ℝ
  ub : Fin 5 → ℝ

namespace Weights

variable (w : Weights)

/-- The update's weights of the destination, -/
abbrev uh (i j : Fin 5) : ℝ := w.u i ⟨j.val, by omega⟩
/-- of the message, -/
abbrev um (i j : Fin 5) : ℝ := w.u i ⟨5 + j.val, by omega⟩
/-- and of the edge. -/
abbrev ue (i : Fin 5) (k : Fin 11) : ℝ := w.u i ⟨10 + k.val, by omega⟩

/-- The update as the network states it. -/
def step (hd hs : Fin 5 → ℝ) (a : Fin 11 → ℝ) (i : Fin 5) : ℝ :=
  (∑ j, hd j * w.uh i j) + (∑ k, ((∑ j, hs j * w.v k j) + w.vb k) * w.um i k) + (∑ k, ((∑ j, a j * w.e k j) + w.eb k) * w.ue i k) + w.ub i

/-- The kernel's weights of the source, -/
def ms (j i : Fin 5) : ℝ := ∑ k, w.um i k * w.v k j
/-- of the edge, -/
def be (j : Fin 11) (i : Fin 5) : ℝ := ∑ k, w.ue i k * w.e k j
/-- and its constant. -/
def cb (i : Fin 5) : ℝ := (∑ k, w.um i k * w.vb k) + (∑ k, w.ue i k * w.eb k) + w.ub i

/-- The update as the kernel adds it up. -/
def kstep (hd hs : Fin 5 → ℝ) (b : Fin 5 → ℝ) (i : Fin 5) : ℝ :=
  b i + hd 0 * w.uh i 0 + hs 0 * w.ms 0 i + hd 1 * w.uh i 1 + hs 1 * w.ms 1 i + hd 2 * w.uh i 2 + hs 2 * w.ms 2 i
    + hd 3 * w.uh i 3 + hs 3 * w.ms 3 i + hd 4 * w.uh i 4 + hs 4 * w.ms 4 i

/-- A linear map after an affine one. -/
theorem lin {n k : ℕ} (x : Fin n → ℝ) (a : Fin k → Fin n → ℝ) (b u : Fin k → ℝ) :
    ∑ p, ((∑ j, x j * a p j) + b p) * u p = (∑ j, x j * ∑ p, u p * a p j) + ∑ p, u p * b p := by
  simp only [add_mul, Finset.sum_add_distrib, Finset.sum_mul, Finset.mul_sum]
  rw [Finset.sum_comm]
  congr 1
  · exact Finset.sum_congr rfl fun _ _ => Finset.sum_congr rfl fun _ _ => by ring
  · exact Finset.sum_congr rfl fun _ _ => by ring

/-- The two are one. -/
theorem kstep_eq (hd hs : Fin 5 → ℝ) (a : Fin 11 → ℝ) (i : Fin 5) :
    w.kstep hd hs (fun i => (∑ j, a j * w.be j i) + w.cb i) i = w.step hd hs a i := by
  unfold step
  rw [lin hs w.v w.vb (w.um i), lin a w.e w.eb (w.ue i)]
  show (∑ j, a j * w.be j i) + ((∑ k, w.um i k * w.vb k) + (∑ k, w.ue i k * w.eb k) + w.ub i) + _ + _ + _ + _ + _ + _ + _ + _ + _ + _
    = (∑ j, hd j * w.uh i j) + ((∑ j, hs j * w.ms j i) + _) + ((∑ j, a j * w.be j i) + _) + w.ub i
  rw [Fin.sum_univ_five (fun j => hd j * w.uh i j), Fin.sum_univ_five (fun j => hs j * w.ms j i)]
  ring

/-- The update on rows. -/
def row (hd hs : Row ℝ) (a : Fin 11 → ℝ) : Row ℝ := fun x => w.step (fun j => hd (ix2 0 j)) (fun j => hs (ix2 0 j)) a (x 1)

/-- The node states after the first `k` edges of a layer. -/
def states (src dst : ℕ → ℕ) (a : ℕ → Fin 11 → ℝ) (f : State ℝ) : ℕ → State ℝ
  | 0 => f
  | k + 1 => setRow (states src dst a f k) (dst k) (w.row (Chain.row (states src dst a f k) (dst k)) (Chain.row (states src dst a f k) (src k)) (a k))

end Weights

end Cert.Proof.Eq

end
-- ==== Proof.Eq.Lift.lean ====
/-
  Sums and products of finite extended reals are the reals'.
-/
module

public import Mathlib.Data.EReal.Operations
public import Mathlib.Algebra.BigOperators.Fin

@[expose] public section

namespace Cert.Proof.Eq

/-- A sum of finite numbers is finite. -/
theorem coe_sum {ι : Type} [Fintype ι] (f : ι → ℝ) : ∑ i, (f i : EReal) = ((∑ i, f i : ℝ) : EReal) :=
  (map_sum (⟨⟨Real.toEReal, EReal.coe_zero⟩, EReal.coe_add⟩ : ℝ →+ EReal) f Finset.univ).symm

/-- A sum over 21 is one over 5, 5 and 11. -/
theorem sum_21 {M : Type} [AddCommMonoid M] (f : Fin 21 → M) :
    ∑ i, f i = (∑ j : Fin 5, f ⟨j.val, by omega⟩) + (∑ j : Fin 5, f ⟨5 + j.val, by omega⟩) + ∑ j : Fin 11, f ⟨10 + j.val, by omega⟩ := by
  show ∑ i : Fin (5 + 5 + 11), f i = _
  rw [Fin.sum_univ_add, Fin.sum_univ_add]
  rfl

/-- A sum over 10 is two over 5. -/
theorem sum_10 {M : Type} [AddCommMonoid M] (f : Fin 10 → M) :
    ∑ i, f i = (∑ j : Fin 5, f ⟨j.val, by omega⟩) + ∑ j : Fin 5, f ⟨5 + j.val, by omega⟩ := by
  show ∑ i : Fin (5 + 5), f i = _
  rw [Fin.sum_univ_add]
  rfl

end Cert.Proof.Eq
-- ==== Proof.RI.Step.lean ====
/-
  The reference's layer over finite numbers is the layer over the reals.
-/
module

public import proofs.«01_k».proof.Proof.RI.Read
public import proofs.«01_k».proof.Proof.Eq.Weights
public import proofs.«01_k».proof.Proof.Eq.Lift

@[expose] public section

set_option maxRecDepth 16384

noncomputable section

namespace Cert.Proof.RI

open Cert.ReferenceIdeal Cert.ReferenceIdeal.Gen Cert.Proof.Eq
open Idealize.ShloMosaic

/-- A layer's arrays hold these weights. -/
structure Holds (vw : FVec Ideal S5x5 .f32) (vb : FVec Ideal S5 .f32) (ew : FVec Ideal S11x11 .f32) (eb : FVec Ideal S11 .f32)
    (uw : FVec Ideal S5x21 .f32) (ub : FVec Ideal S5 .f32) (w : Weights) : Prop where
  v : ∀ i j, vw (ix2 i j) = (w.v i j : EReal)
  vb : ∀ i, vb (ix1 i) = (w.vb i : EReal)
  e : ∀ i j, ew (ix2 i j) = (w.e i j : EReal)
  eb : ∀ i, eb (ix1 i) = (w.eb i : EReal)
  u : ∀ i j, uw (ix2 i j) = (w.u i j : EReal)
  ub : ∀ i, ub (ix1 i) = (w.ub i : EReal)

section Cat

variable (x y : FVec Ideal S5 .f32) (z : FVec Ideal S11 .f32)

theorem cat_0 (j : Fin 5) : concatenate S21 0 [⟨S5, x⟩, ⟨S5, y⟩, ⟨S11, z⟩] concatenates_S5_S5_S11_S21_d0 (ix1 ⟨j.val, by omega⟩) = x (ix1 j) := by
  simp only [pointwise]
  exact dif_pos trivial

theorem cat_1 (j : Fin 5) : concatenate S21 0 [⟨S5, x⟩, ⟨S5, y⟩, ⟨S11, z⟩] concatenates_S5_S5_S11_S21_d0 (ix1 ⟨5 + j.val, by omega⟩) = y (ix1 j) := by
  simp only [pointwise]
  refine (dif_neg (show ¬ 5 + j.val < (![5] : Fin 1 → ℕ) 0 from (by omega : ¬ 5 + j.val < 5))).trans ?_
  refine (dif_pos (show 5 + j.val - (![5] : Fin 1 → ℕ) 0 < (![5] : Fin 1 → ℕ) 0 from (by omega : 5 + j.val - 5 < 5))).trans ?_
  exact congrArg (fun q => y (ix1 q)) (Fin.ext (Nat.add_sub_cancel_left (n := 5) (m := j.val)))

theorem cat_2 (j : Fin 11) : concatenate S21 0 [⟨S5, x⟩, ⟨S5, y⟩, ⟨S11, z⟩] concatenates_S5_S5_S11_S21_d0 (ix1 ⟨10 + j.val, by omega⟩) = z (ix1 j) := by
  simp only [pointwise]
  refine (dif_neg (show ¬ 10 + j.val < (![5] : Fin 1 → ℕ) 0 from (by omega : ¬ 10 + j.val < 5))).trans ?_
  refine (dif_neg (show ¬ 10 + j.val - (![5] : Fin 1 → ℕ) 0 < (![5] : Fin 1 → ℕ) 0 from (by omega : ¬ 10 + j.val - 5 < 5))).trans ?_
  exact congrArg (fun q => z (ix1 q)) (Fin.ext (show 10 + j.val - 5 - 5 = j.val by omega))

end Cat

section Step

variable {vw : FVec Ideal S5x5 .f32} {vb : FVec Ideal S5 .f32} {ew : FVec Ideal S11x11 .f32} {eb : FVec Ideal S11 .f32}
  {uw : FVec Ideal S5x21 .f32} {ub : FVec Ideal S5 .f32} {w : Weights}

/-- One node's new state over finite numbers. -/
theorem stateOf_lift (H : Holds vw vb ew eb uw ub w) {hd hs : FVec Ideal S5 .f32} {a : FVec Ideal S11 .f32} {hd' hs' : Fin 5 → ℝ} {a' : Fin 11 → ℝ}
    (h1 : ∀ j, hd (ix1 j) = (hd' j : EReal)) (h2 : ∀ j, hs (ix1 j) = (hs' j : EReal)) (h3 : ∀ j, a (ix1 j) = (a' j : EReal)) (i : Fin 5) :
    stateOf hd hs a vw vb ew eb uw ub (ix1 i) = (w.step hd' hs' a' i : EReal) := by
  unfold stateOf
  generalize hc : concatenate S21 0 _ _ = cat
  have c0 : ∀ j : Fin 5, cat (ix1 ⟨j.val, by omega⟩) = (hd' j : EReal) := fun j => by rw [← hc, cat_0, h1]
  have c1 : ∀ j : Fin 5, cat (ix1 ⟨5 + j.val, by omega⟩) = (((∑ p, hs' p * w.v j p) + w.vb j : ℝ) : EReal) := fun j => by
    rw [← hc, cat_1]
    simp only [pointwise, h2, H.v, H.vb, ← EReal.coe_mul, coe_sum, zero_add, ← EReal.coe_add]
  have c2 : ∀ j : Fin 11, cat (ix1 ⟨10 + j.val, by omega⟩) = (((∑ p, a' p * w.e j p) + w.eb j : ℝ) : EReal) := fun j => by
    rw [← hc, cat_2]
    simp only [pointwise, h3, H.e, H.eb, ← EReal.coe_mul, coe_sum, zero_add, ← EReal.coe_add]
  simp only [pointwise]
  rw [sum_21]
  simp only [c0, c1, c2, H.u, H.ub, ← EReal.coe_mul, coe_sum, zero_add, ← EReal.coe_add]
  rfl

/-- The edges' two ends and their attributes, of a layer. -/
structure Edges (src dst : IVec S160000 32) (ea : FVec Ideal S160000x11 .f32) (s d : ℕ → ℕ) (a : ℕ → Fin 11 → ℝ) : Prop where
  src_eq : ∀ k : Fin 160000, (src (ix1 k)).toNat = s k.val
  dst_eq : ∀ k : Fin 160000, (dst (ix1 k)).toNat = d k.val
  src_lt : ∀ k : Fin 160000, s k.val < 10000
  dst_lt : ∀ k : Fin 160000, d k.val < 10000
  attr : ∀ (k : Fin 160000) j, ea (ix2 k j) = (a k.val j : EReal)

/-- The states of the layer over finite numbers. -/
theorem layer_lift (H : Holds vw vb ew eb uw ub w) {src dst : IVec S160000 32} {ea : FVec Ideal S160000x11 .f32} {s d : ℕ → ℕ} {a : ℕ → Fin 11 → ℝ}
    (E : Edges src dst ea s d a) {h : FVec Ideal S10000x5 .f32} {f : Chain.State ℝ} (hf : ∀ r j, h (ix2 r j) = (f (ix2 r j) : EReal)) :
    ∀ k, k ≤ 160000 → ∀ r j, layer src dst ea vw vb ew eb uw ub h k (ix2 r j) = (w.states s d a f k (ix2 r j) : EReal)
  | 0, _, r, j => hf r j
  | k + 1, hk, r, j => by
    have ih := layer_lift H E hf k (by omega)
    have hk' : k < 160000 := by omega
    have es : ∀ i, (endAt src (fun _ => BitVec.ofNat 32 k) i).toNat = s k := fun i => by rw [endAt_read src hk']; exact E.src_eq ⟨k, hk'⟩
    have ed : ∀ i, (endAt dst (fun _ => BitVec.ofNat 32 k) i).toNat = d k := fun i => by rw [endAt_read dst hk']; exact E.dst_eq ⟨k, hk'⟩
    have ls : s k < 10000 := E.src_lt ⟨k, hk'⟩
    have ld : d k < 10000 := E.dst_lt ⟨k, hk'⟩
    show edgeStep src dst ea vw vb ew eb uw ub (fun _ => BitVec.ofNat 32 k) (layer src dst ea vw vb ew eb uw ub h k) (ix2 r j) = _
    unfold edgeStep
    rw [put_read _ _ ld ed]
    show _ = ((if r.val = d k then w.row (Chain.row (w.states s d a f k) (d k)) (Chain.row (w.states s d a f k) (s k)) (a k) (ix2 0 j)
      else w.states s d a f k (ix2 r j) : ℝ) : EReal)
    by_cases hr : r.val = d k
    · rw [if_pos hr, if_pos hr]
      refine stateOf_lift H (fun j => ?_) (fun j => ?_) (fun j => ?_) j
      · rw [rowAt_read _ _ ld ed, ih]
        exact congrArg (fun q => ((w.states s d a f k (ix2 q j) : ℝ) : EReal)) (Fin.ext (Nat.mod_eq_of_lt ld).symm)
      · rw [rowAt_read _ _ ls es, ih]
        exact congrArg (fun q => ((w.states s d a f k (ix2 q j) : ℝ) : EReal)) (Fin.ext (Nat.mod_eq_of_lt ls).symm)
      · rw [attrAt_read _ hk']
        exact E.attr ⟨k, hk'⟩ j
    · rw [if_neg hr, if_neg hr, ih]

end Step

end Cert.Proof.RI

end
-- ==== Proof.KI.Step.lean ====
/-
  The kernel's edge update over finite numbers is the update over the reals.
-/
module

public import proofs.«01_k».proof.Proof.KI.Host
public import proofs.«01_k».proof.Proof.RI.Step

@[expose] public section

set_option maxRecDepth 16384

noncomputable section

namespace Cert.Proof.KI

open Cert.KernelIdeal Cert.KernelIdeal.Gen Cert.Proof.Chain Cert.Proof.Eq
open Idealize.ShloMosaic

/-- The kernel's weights of the two nodes, over the reals. -/
structure NodeHolds (v4 : FVec Ideal S10x5 .f32) (w : Weights) : Prop where
  dst : ∀ j i : Fin 5, v4 (ix2 (⟨j.val, by omega⟩ : Fin 10) i) = (w.uh i j : EReal)
  src : ∀ j i : Fin 5, v4 (ix2 (⟨5 + j.val, by omega⟩ : Fin 10) i) = (w.ms j i : EReal)

/-- The source row looked at holds the source's numbers. -/
theorem pay8_lift (d s : BitVec 32) {hc hs : FVec Ideal S1x5 .f32} {hd' hs' : Fin 5 → ℝ} (h1 : ∀ j, hc (ix2 0 j) = (hd' j : EReal))
    (h2 : ∀ j, hs (ix2 0 j) = (hs' j : EReal)) (h3 : s = d → hd' = hs') (j : Fin 5) : k0_pay8 d hc s hs (ix2 0 j) = (hs' j : EReal) := by
  by_cases h : s = d
  · subst h
    rw [pay8_same, ← h3 rfl]; exact h1 j
  · have : k0_pay8 d hc s hs = hs := by
      show Scalar.select (Scalar.cmpi .eq s d) hc hs = hs
      have e : Scalar.cmpi .eq s d ≠ 1#1 := fun h' => h ((Bits.eq_iff s d).mp h')
      unfold Scalar.select
      exact if_neg e
    rw [this]; exact h2 j

/-- The update of one edge. -/
theorem upd_lift {v4 : FVec Ideal S10x5 .f32} {w : Weights} (H : NodeHolds v4 w) (d s : BitVec 32) {hc hs br : FVec Ideal S1x5 .f32} {hd' hs' b' : Fin 5 → ℝ}
    (h1 : ∀ j, hc (ix2 0 j) = (hd' j : EReal)) (h2 : ∀ j, hs (ix2 0 j) = (hs' j : EReal)) (h3 : s = d → hd' = hs')
    (h4 : ∀ j, br (ix2 0 j) = (b' j : EReal)) (i : Fin 5) : upd v4 d hc s hs br (ix2 0 i) = (w.kstep hd' hs' b' i : EReal) := by
  have h5 := pay8_lift d s h1 h2 h3
  unfold upd k0_pay6 k0_pay9 k0_pay10
  generalize k0_pay8 d hc s hs = x at h5
  have hz : ∀ (o : ℕ) (h : (![o, 0] : Fin 2 → ℕ) 1 + i.val < 5), (⟨(![o, 0] : Fin 2 → ℕ) 1 + i.val, h⟩ : Fin 5) = i := fun _ _ => Fin.ext (Nat.zero_add _)
  have d0 : v4 (ix2 0 i) = _ := H.dst 0 i
  have d1 : v4 (ix2 1 i) = _ := H.dst 1 i
  have d2 : v4 (ix2 2 i) = _ := H.dst 2 i
  have d3 : v4 (ix2 3 i) = _ := H.dst 3 i
  have d4 : v4 (ix2 4 i) = _ := H.dst 4 i
  have s0 : v4 (ix2 5 i) = _ := H.src 0 i
  have s1 : v4 (ix2 6 i) = _ := H.src 1 i
  have s2 : v4 (ix2 7 i) = _ := H.src 2 i
  have s3 : v4 (ix2 8 i) = _ := H.src 3 i
  have s4 : v4 (ix2 9 i) = _ := H.src 4 i
  simp only [pointwise, hz, d0, d1, d2, d3, d4, s0, s1, s2, s3, s4, h1, h4, h5, ← EReal.coe_mul, ← EReal.coe_add]
  rfl

/-- The row an edge starts from. -/
theorem pay3_lift {be : FVec Ideal S1x11x5 .f32} {cb : FVec Ideal S1x1x5 .f32} {ea : FVec Ideal S1x2000x11 .f32} {be' : Fin 11 → Fin 5 → ℝ} {cb' : Fin 5 → ℝ}
    {a : Fin 2000 → Fin 11 → ℝ} (h1 : ∀ j i, be (ix3 0 j i) = (be' j i : EReal)) (h2 : ∀ i, cb (ix3 0 0 i) = (cb' i : EReal))
    (h3 : ∀ n j, ea (ix3 0 n j) = (a n j : EReal)) (n : Fin 2000) (i : Fin 5) : (k0_pay3 (F := Ideal) be cb ea (ix2 n i) : EReal) = (((∑ j, a n j * be' j i) + cb' i : ℝ) : EReal) := by
  unfold k0_pay3
  have e : cb (ix3 0 0 (if h1 : 5 = 1 then 0 else i)) = (cb' i : EReal) := h2 i
  simp only [pointwise, h1, h3, ← EReal.coe_mul, coe_sum, zero_add]
  exact (congrArg (_ + ·) e).trans (EReal.coe_add _ _).symm

theorem nodeW_lift {vw : FVec Ideal S5x5 .f32} {vb : FVec Ideal S5 .f32} {ew : FVec Ideal S11x11 .f32} {eb : FVec Ideal S11 .f32}
    {uw : FVec Ideal S5x21 .f32} {ub : FVec Ideal S5 .f32} {w : Weights} (H : RI.Holds vw vb ew eb uw ub w) : NodeHolds (nodeW uw vw) w where
  dst j i := by
    unfold nodeW
    generalize hb : transpose S5x5 [1, 0] (Host.dotGeneral (F := Ideal) dot_S5x5_S5x5_S5x5_1_0_0_1_n_n none _ _) _ = y
    generalize ha : transpose S5x5 [1, 0] (extractStridedSlice (s := S5x21) S5x5 ![0, 0] _ _) _ = x
    have e : x (ix2 j i) = (w.uh i j : EReal) := by
      rw [← ha]
      simp only [pointwise, H.u]
      exact congrArg Real.toEReal (congrArg₂ w.u (Fin.ext (Nat.zero_add _)) (Fin.ext (Nat.zero_add _)))
    simp only [pointwise]
    exact (dif_pos trivial).trans e
  src j i := by
    unfold nodeW
    generalize hb : transpose S5x5 [1, 0] (Host.dotGeneral (F := Ideal) dot_S5x5_S5x5_S5x5_1_0_0_1_n_n none _ _) _ = y
    generalize ha : transpose S5x5 [1, 0] (extractStridedSlice (s := S5x21) S5x5 ![0, 0] _ _) _ = x
    have hu : ∀ (k : Fin 5) (h1 : (![0, 5] : Fin 2 → ℕ) 0 + i.val < 5) (h2 : (![0, 5] : Fin 2 → ℕ) 1 + k.val < 21),
      w.u ⟨_, h1⟩ ⟨_, h2⟩ = w.um i k := fun k _ _ => congrArg₂ w.u (Fin.ext (Nat.zero_add _)) rfl
    have e : y (ix2 j i) = (w.ms j i : EReal) := by
      rw [← hb]
      simp only [pointwise, H.u, H.v, hu, ← EReal.coe_mul, coe_sum, zero_add]
      rfl
    simp only [pointwise]
    exact (dif_neg not_false).trans ((congrArg (fun q => y (ix2 q i)) (Fin.ext (Nat.add_sub_cancel_left (n := 5) (m := j.val)))).trans e)

theorem edgeW_lift {vw : FVec Ideal S5x5 .f32} {vb : FVec Ideal S5 .f32} {ew : FVec Ideal S11x11 .f32} {eb : FVec Ideal S11 .f32}
    {uw : FVec Ideal S5x21 .f32} {ub : FVec Ideal S5 .f32} {w : Weights} (H : RI.Holds vw vb ew eb uw ub w) (j : Fin 11) (i : Fin 5) :
    edgeW uw ew (ix2 j i) = (w.be j i : EReal) := by
  unfold edgeW
  have hu : ∀ (k : Fin 11) (h1 : (![0, 10] : Fin 2 → ℕ) 0 + i.val < 5) (h2 : (![0, 10] : Fin 2 → ℕ) 1 + k.val < 21),
    w.u ⟨_, h1⟩ ⟨_, h2⟩ = w.ue i k := fun k _ _ => congrArg₂ w.u (Fin.ext (Nat.zero_add _)) rfl
  simp only [pointwise, H.u, H.e, hu, ← EReal.coe_mul, coe_sum, zero_add]
  rfl

theorem constW_lift {vw : FVec Ideal S5x5 .f32} {vb : FVec Ideal S5 .f32} {ew : FVec Ideal S11x11 .f32} {eb : FVec Ideal S11 .f32}
    {uw : FVec Ideal S5x21 .f32} {ub : FVec Ideal S5 .f32} {w : Weights} (H : RI.Holds vw vb ew eb uw ub w) (i : Fin 5) :
    constW uw vb eb ub (ix2 0 i) = (w.cb i : EReal) := by
  unfold constW
  have hm : ∀ (k : Fin 5) (h1 : (![0, 5] : Fin 2 → ℕ) 0 + i.val < 5) (h2 : (![0, 5] : Fin 2 → ℕ) 1 + k.val < 21),
    w.u ⟨_, h1⟩ ⟨_, h2⟩ = w.um i k := fun k _ _ => congrArg₂ w.u (Fin.ext (Nat.zero_add _)) rfl
  have he : ∀ (k : Fin 11) (h1 : (![0, 10] : Fin 2 → ℕ) 0 + i.val < 5) (h2 : (![0, 10] : Fin 2 → ℕ) 1 + k.val < 21),
    w.u ⟨_, h1⟩ ⟨_, h2⟩ = w.ue i k := fun k _ _ => congrArg₂ w.u (Fin.ext (Nat.zero_add _)) rfl
  simp only [pointwise, H.u, H.vb, H.eb, H.ub, hm, he, ← EReal.coe_mul, coe_sum, zero_add, ← EReal.coe_add]
  rfl

end Cert.Proof.KI

end
-- ==== Proof.KI.Windows.lean ====
/-
  What each window of the launch shows at a point: the whole of its prepared array, or its part for the point's chunk or layer.
-/
module

public import proofs.«01_k».proof.Proof.KI.Words

@[expose] public section

set_option maxRecDepth 16384

noncomputable section

namespace Cert.Proof.KI

open Cert.KernelIdeal Cert.KernelIdeal.Gen Cert.Proof.Chain Cert.Proof.Own Cert.Proof.Held
open Idealize.ShloMosaic
open Idealize.ShloMosaic.TcCoe
open Idealize.SL.Sem
open Idealize.ShloMosaic.Pipeline (Dat Cfg Window heldIn)

variable {F : FTy → Type} [FloatOps F] [Named F]

variable (m : (ℓ : Loc nD τ sig) → Buf (Elt F) ℓ) (c : Dev nD) (t : Fin (cfg0 (F := F)).N)

/-- A window that never moves shows its array. -/
theorem whole_at (w : Fin 19) (hin : ((cfg0 (F := F)).win w).isOut = false) (hclip : ∀ (i : grid0.Coords) a, ((cfg0 (F := F)).win w).clip i a = none)
    (h0 : ∀ a, ((cfg0 (F := F)).win w).kind.off (((cfg0 (F := F)).win w).index t a) (((cfg0 (F := F)).win w).size a) = 0)
    (j : ((cfg0 (F := F)).win w).block.Idx) (i : ((cfg0 (F := F)).win w).shape.Idx) (e : ∀ a, (i a).val = (j a).val) :
    heldIn (cfg0 (F := F)) (A0 m c) w t.val t.isLt j = ((cfg0 (F := F)).win w).arr.view.read (Elt F) (A0 m c w) i :=
  heldIn_at (A0 m c) w hin hclip t.val t.isLt j i fun a => (e a).trans ((congrArg (· + (j a).val) (h0 a)).trans (Nat.zero_add _)).symm

theorem hAt_eq : hAt m c t = V m c main_arg3 :=
  funext fun j => whole_at m c t 3 rfl (fun _ _ => rfl) (fun a => match a with | ⟨0, _⟩ => Nat.zero_mul _ | ⟨1, _⟩ => Nat.zero_mul _) j j fun _ => rfl

theorem h2At_eq : h2At m c t = V m c main_arg4 :=
  funext fun j => whole_at m c t 4 rfl (fun _ _ => rfl) (fun a => match a with | ⟨0, _⟩ => Nat.zero_mul _ | ⟨1, _⟩ => Nat.zero_mul _) j j fun _ => rfl

theorem molAt_eq : molAt m c t = V m c main_v44 :=
  funext fun j => whole_at m c t 5 rfl (fun _ _ => rfl) (fun a => match a with | ⟨0, _⟩ => Nat.zero_mul _ | ⟨1, _⟩ => Nat.zero_mul _) j j fun _ => rfl

theorem r1At_eq : r1At m c t = V m c main_v46 :=
  funext fun j => whole_at m c t 9 rfl (fun _ _ => rfl) (fun a => match a with | ⟨0, _⟩ => Nat.zero_mul _ | ⟨1, _⟩ => Nat.zero_mul _) j j fun _ => rfl

theorem r2At_eq : r2At m c t = V m c main_v47 :=
  funext fun j => whole_at m c t 10 rfl (fun _ _ => rfl) (fun a => match a with | ⟨0, _⟩ => Nat.zero_mul _ | ⟨1, _⟩ => Nat.zero_mul _) j j fun _ => rfl

theorem rbAt_eq : rbAt m c t = V m c main_v48 :=
  funext fun j => whole_at m c t 11 rfl (fun _ _ => rfl) (fun a => match a with | ⟨0, _⟩ => Nat.zero_mul _ | ⟨1, _⟩ => Nat.zero_mul _) j j fun _ => rfl

theorem w1At_eq : w1At m c t = V m c main_v49 :=
  funext fun j => whole_at m c t 12 rfl (fun _ _ => rfl) (fun a => match a with | ⟨0, _⟩ => Nat.zero_mul _ | ⟨1, _⟩ => Nat.zero_mul _) j j fun _ => rfl

theorem b1At_eq : b1At m c t = V m c main_v50 :=
  funext fun j => whole_at m c t 13 rfl (fun _ _ => rfl) (fun a => match a with | ⟨0, _⟩ => Nat.zero_mul _ | ⟨1, _⟩ => Nat.zero_mul _) j j fun _ => rfl

theorem w2At_eq : w2At m c t = V m c main_v51 :=
  funext fun j => whole_at m c t 14 rfl (fun _ _ => rfl) (fun a => match a with | ⟨0, _⟩ => Nat.zero_mul _ | ⟨1, _⟩ => Nat.zero_mul _) j j fun _ => rfl

theorem b2At_eq : b2At m c t = V m c main_v52 :=
  funext fun j => whole_at m c t 15 rfl (fun _ _ => rfl) (fun a => match a with | ⟨0, _⟩ => Nat.zero_mul _ | ⟨1, _⟩ => Nat.zero_mul _) j j fun _ => rfl

theorem w3At_eq : w3At m c t = V m c main_v53 :=
  funext fun j => whole_at m c t 16 rfl (fun _ _ => rfl) (fun a => match a with | ⟨0, _⟩ => Nat.zero_mul _ | ⟨1, _⟩ => Nat.zero_mul _) j j fun _ => rfl

theorem b3At_eq : b3At m c t = V m c main_v54 :=
  funext fun j => whole_at m c t 17 rfl (fun _ _ => rfl) (fun a => match a with | ⟨0, _⟩ => Nat.zero_mul _ | ⟨1, _⟩ => Nat.zero_mul _) j j fun _ => rfl

/-- The edges' attributes go round the 80 chunks; the layers' weights change after the first 80 points. -/
theorem index_2 : ∀ t : Fin grid0.N, win0_2.index t = ![t.val % 80, 0, 0] := by decide +kernel
theorem index_6 : ∀ t : Fin grid0.N, win0_6.index t = ![t.val / 80, 0, 0] := by decide +kernel
theorem index_7 : ∀ t : Fin grid0.N, win0_7.index t = ![t.val / 80, 0, 0] := by decide +kernel
theorem index_8 : ∀ t : Fin grid0.N, win0_8.index t = ![t.val / 80, 0, 0] := by decide +kernel

theorem layer_lt : t.val / 80 < 2 := by have := point_lt t; omega

theorem eaAt_eq (i : Fin 2000) (j : Fin 11) : eaAt m c t (ix3 (0 : Fin 1) i j) = V m c main_v43 (ix3 (⟨t.val % 80, Nat.mod_lt _ (by decide)⟩ : Fin 80) i j) := by
  refine heldIn_at (A0 m c) (2 : Fin 19) rfl (fun _ _ => rfl) t.val t.isLt _ _ fun a => ?_
  have hix := index_2 t
  match a with
  | ⟨0, _⟩ => show t.val % 80 = win0_2.index t 0 * 1 + 0; rw [hix]; simp
  | ⟨1, _⟩ => show i.val = win0_2.index t 1 * 2000 + i.val; rw [hix]; simp
  | ⟨2, _⟩ => show j.val = win0_2.index t 2 * 11 + j.val; rw [hix]; simp

theorem mmAt_eq (i : Fin 10) (j : Fin 5) : mmAt m c t (ix3 (0 : Fin 1) i j) = V m c main_v34 (ix3 (⟨t.val / 80, layer_lt t⟩ : Fin 2) i j) := by
  refine heldIn_at (A0 m c) (6 : Fin 19) rfl (fun _ _ => rfl) t.val t.isLt _ _ fun a => ?_
  have hix := index_6 t
  match a with
  | ⟨0, _⟩ => show t.val / 80 = win0_6.index t 0 * 1 + 0; rw [hix]; simp
  | ⟨1, _⟩ => show i.val = win0_6.index t 1 * 10 + i.val; rw [hix]; simp
  | ⟨2, _⟩ => show j.val = win0_6.index t 2 * 5 + j.val; rw [hix]; simp

theorem beAt_eq (i : Fin 11) (j : Fin 5) : beAt m c t (ix3 (0 : Fin 1) i j) = V m c main_v37 (ix3 (⟨t.val / 80, layer_lt t⟩ : Fin 2) i j) := by
  refine heldIn_at (A0 m c) (7 : Fin 19) rfl (fun _ _ => rfl) t.val t.isLt _ _ fun a => ?_
  have hix := index_7 t
  match a with
  | ⟨0, _⟩ => show t.val / 80 = win0_7.index t 0 * 1 + 0; rw [hix]; simp
  | ⟨1, _⟩ => show i.val = win0_7.index t 1 * 11 + i.val; rw [hix]; simp
  | ⟨2, _⟩ => show j.val = win0_7.index t 2 * 5 + j.val; rw [hix]; simp

theorem cbAt_eq (i : Fin 1) (j : Fin 5) : cbAt m c t (ix3 (0 : Fin 1) i j) = V m c main_v40 (ix3 (⟨t.val / 80, layer_lt t⟩ : Fin 2) i j) := by
  refine heldIn_at (A0 m c) (8 : Fin 19) rfl (fun _ _ => rfl) t.val t.isLt _ _ fun a => ?_
  have hix := index_8 t
  match a with
  | ⟨0, _⟩ => show t.val / 80 = win0_8.index t 0 * 1 + 0; rw [hix]; simp
  | ⟨1, _⟩ => show i.val = win0_8.index t 1 * 1 + i.val; rw [hix]; simp
  | ⟨2, _⟩ => show j.val = win0_8.index t 2 * 5 + j.val; rw [hix]; simp

end Cert.Proof.KI

end
-- ==== Proof.KI.States.lean ====
/-
  The kernel's node states over finite numbers: after each point, the states over the reals.
-/
module

public import proofs.«01_k».proof.Proof.KI.Step
public import proofs.«01_k».proof.Proof.KI.Windows

@[expose] public section

set_option maxRecDepth 16384

noncomputable section

namespace Cert.Proof.KI

open Cert.KernelIdeal Cert.KernelIdeal.Gen Cert.Proof.Chain Cert.Proof.Eq
open Idealize.ShloMosaic
open Idealize.ShloMosaic.TcCoe
open Idealize.SL.Sem

/-- A chunk of edges, from the states before its first edge to the states after its last. -/
theorem chunk_lift {v4 : FVec Ideal S10x5 .f32} {w : Weights} (H : NodeHolds v4 w) {src dst : Words} {b : FVec Ideal S2000x5 .f32} {x : State (Ideal .f32)}
    {s d : ℕ → ℕ} {a : ℕ → Fin 11 → ℝ} {f : State ℝ} (base : ℕ) (hs : ∀ n, n < 2000 → (word src n).toNat = s (base + n))
    (hd : ∀ n, n < 2000 → (word dst n).toNat = d (base + n)) (ls : ∀ n, n < 2000 → s (base + n) < 10000) (ld : ∀ n, n < 2000 → d (base + n) < 10000)
    (hb : ∀ (n : Fin 2000) i, b (ix2 n i) = (((∑ j, a (base + n.val) j * w.be j i) + w.cb i : ℝ) : EReal))
    (hx : ∀ r j, x (ix2 r j) = (w.states s d a f base (ix2 r j) : EReal)) :
    ∀ n, n ≤ 2000 → ∀ r j, chunk (upd v4) src dst b x n (ix2 r j) = (w.states s d a f (base + n) (ix2 r j) : EReal)
  | 0, _, r, j => hx r j
  | n + 1, hn, r, j => by
    have hn' : n < 2000 := by omega
    have ih := chunk_lift H base hs hd ls ld hb hx n (by omega)
    generalize hX : chunk (upd v4) src dst b x n = X at ih
    show estep (upd v4) (word dst n) (word src n) (brow b n) (chunk (upd v4) src dst b x n) (ix2 r j) = _
    rw [hX]
    show (if r.val = (word dst n).toNat then upd v4 (word dst n) (Chain.row X (word dst n).toNat) (word src n) (Chain.row X (word src n).toNat) (brow b n) (ix2 0 j)
        else X (ix2 r j)) = ((if r.val = d (base + n) then
          w.row (Chain.row (w.states s d a f (base + n)) (d (base + n))) (Chain.row (w.states s d a f (base + n)) (s (base + n))) (a (base + n)) (ix2 0 j)
        else w.states s d a f (base + n) (ix2 r j) : ℝ) : EReal)
    rw [hd n hn', hs n hn']
    by_cases hr : r.val = d (base + n)
    · rw [if_pos hr, if_pos hr]
      refine (upd_lift H _ _ (b' := fun i => (∑ j, a (base + n) j * w.be j i) + w.cb i)
        (hd' := fun i => Chain.row (w.states s d a f (base + n)) (d (base + n)) (ix2 0 i))
        (hs' := fun i => Chain.row (w.states s d a f (base + n)) (s (base + n)) (ix2 0 i)) (fun i => ih _ i) (fun i => ih _ i) (fun h => ?_) (fun i => ?_) j).trans ?_
      · have e : s (base + n) = d (base + n) := by rw [← hs n hn', ← hd n hn', h]
        rw [e]
      · refine (hb ⟨n % 2000, Nat.mod_lt _ (by decide)⟩ i).trans ?_
        show (((∑ j, a (base + n % 2000) j * w.be j i) + w.cb i : ℝ) : EReal) = _
        rw [Nat.mod_eq_of_lt hn']
      · rw [w.kstep_eq]; rfl
    · rw [if_neg hr, if_neg hr]; exact ih r j

/-- The arguments hold finite numbers and nodes. -/
structure Lifted (m : (ℓ : Loc nD τ sig) → Buf (Elt Ideal) ℓ) (c : Dev nD) (w1 w2 : Weights) (s d : ℕ → ℕ) (a : ℕ → Fin 11 → ℝ) (f : State ℝ) : Prop where
  one : RI.Holds (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) w1
  two : RI.Holds (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16)) w2
  src : ∀ k : Fin 160000, BitVec.toNat (w := 32) (m ((c : Thread nD τ).loc main_arg1) (ix2 (0 : Fin 2) k)) = s k.val
  dst : ∀ k : Fin 160000, BitVec.toNat (w := 32) (m ((c : Thread nD τ).loc main_arg1) (ix2 (1 : Fin 2) k)) = d k.val
  src_lt : ∀ k : Fin 160000, s k.val < 10000
  dst_lt : ∀ k : Fin 160000, d k.val < 10000
  attr : ∀ (k : Fin 160000) (j : Fin 11), m ((c : Thread nD τ).loc main_arg2) (ix2 k j) = (a k.val j : EReal)
  start : ∀ (r : Fin 10000) (j : Fin 5), m ((c : Thread nD τ).loc main_arg3) (ix2 r j) = (f (ix2 r j) : EReal)

variable {m : (ℓ : Loc nD τ sig) → Buf (Elt Ideal) ℓ} {c : Dev nD} {w1 w2 : Weights} {s d : ℕ → ℕ} {a : ℕ → Fin 11 → ℝ} {f : State ℝ}

theorem node_lift (L : Lifted m c w1 w2 s d a f) (t : Fin (cfg0 (F := Ideal)).N) : NodeHolds (k0_pay2 (mmAt m c t)) (if t.val / 80 = 0 then w1 else w2) := by
  have e : ∀ (i : Fin 10) (j : Fin 5), k0_pay2 (mmAt m c t) (ix2 i j) = V m c main_v34 (ix3 ⟨t.val / 80, layer_lt t⟩ i j) := fun i j => by
    rw [← mmAt_eq]; unfold k0_pay2; simp only [pointwise]
  rw [V_v34] at e
  by_cases h : t.val / 80 = 0
  · rw [if_pos h]
    exact ⟨fun j i => (e _ i).trans ((nodes2_0 _ _ _ h _ i).trans ((nodeW_lift L.one).dst j i)),
      fun j i => (e _ i).trans ((nodes2_0 _ _ _ h _ i).trans ((nodeW_lift L.one).src j i))⟩
  · rw [if_neg h]
    exact ⟨fun j i => (e _ i).trans ((nodes2_1 _ _ _ h _ i).trans ((nodeW_lift L.two).dst j i)),
      fun j i => (e _ i).trans ((nodes2_1 _ _ _ h _ i).trans ((nodeW_lift L.two).src j i))⟩

theorem edge_lift (L : Lifted m c w1 w2 s d a f) (t : Fin (cfg0 (F := Ideal)).N) (j : Fin 11) (i : Fin 5) :
    beAt m c t (ix3 0 j i) = ((if t.val / 80 = 0 then w1 else w2).be j i : EReal) := by
  rw [beAt_eq, V_v37]
  by_cases h : t.val / 80 = 0
  · rw [if_pos h]; exact (edges2_0 _ _ _ h j i).trans (edgeW_lift L.one j i)
  · rw [if_neg h]; exact (edges2_1 _ _ _ h j i).trans (edgeW_lift L.two j i)

theorem const_lift (L : Lifted m c w1 w2 s d a f) (t : Fin (cfg0 (F := Ideal)).N) (i : Fin 5) :
    cbAt m c t (ix3 0 0 i) = ((if t.val / 80 = 0 then w1 else w2).cb i : EReal) := by
  rw [cbAt_eq, V_v40]
  by_cases h : t.val / 80 = 0
  · rw [if_pos h]; exact (consts2_0 _ _ _ h 0 i).trans (constW_lift L.one i)
  · rw [if_neg h]; exact (consts2_1 _ _ _ h 0 i).trans (constW_lift L.two i)

theorem attr_lift (L : Lifted m c w1 w2 s d a f) (t : Fin (cfg0 (F := Ideal)).N) (n : Fin 2000) (j : Fin 11) :
    eaAt m c t (ix3 0 n j) = (a (t.val % 80 * 2000 + n.val) j : EReal) := by
  rw [eaAt_eq, V_v43]
  simp only [pointwise]
  exact L.attr _ j

/-- A point's chunk. -/
theorem point_lift (L : Lifted m c w1 w2 s d a f) (t : Fin (cfg0 (F := Ideal)).N) {x : State (Ideal .f32)} {g : State ℝ}
    (hx : ∀ r j, startOf (grid0.coords t) (hAt m c t) x (ix2 r j) = ((if t.val / 80 = 0 then w1 else w2).states s d a g (t.val % 80 * 2000) (ix2 r j) : EReal)) (r : Fin 10000) (j : Fin 5) :
    endOf (grid0.coords t) (srcAt m c t) (dstAt m c t) (eaAt m c t) (hAt m c t) (mmAt m c t) (beAt m c t) (cbAt m c t) x (ix2 r j)
      = ((if t.val / 80 = 0 then w1 else w2).states s d a g (t.val % 80 * 2000 + 2000) (ix2 r j) : EReal) := by
  have he : ∀ n, n < 2000 → (edgeOf t.val n).val = t.val % 80 * 2000 + n := fun n hn => congrArg (t.val % 80 * 2000 + ·) (Nat.mod_eq_of_lt hn)
  refine chunk_lift (node_lift L t) (t.val % 80 * 2000) (fun n hn => ?_) (fun n hn => ?_) (fun n hn => ?_) (fun n hn => ?_)
    (fun n i => pay3_lift (edge_lift L t) (const_lift L t) (attr_lift L t) n i) hx 2000 le_rfl r j
  · rw [word_src, ← he n hn]; exact L.src _
  · rw [word_dst, ← he n hn]; exact L.dst _
  · rw [← he n hn]; exact L.src_lt _
  · rw [← he n hn]; exact L.dst_lt _

theorem startOf_first (t : Fin (cfg0 (F := Ideal)).N) (h : t.val = 0) (y x : State (Ideal .f32)) : startOf (F := Ideal) (grid0.coords t) y x = y :=
  if_pos ((isFirst_iff t).mpr h)

theorem startOf_next (t : Fin (cfg0 (F := Ideal)).N) (h : t.val ≠ 0) (y x : State (Ideal .f32)) : startOf (F := Ideal) (grid0.coords t) y x = x :=
  if_neg fun h' => h ((isFirst_iff t).mp h')

/-- A point of the first layer. -/
theorem point_one (L : Lifted m c w1 w2 s d a f) (t : Fin (cfg0 (F := Ideal)).N) (hl : t.val < 80) {x : State (Ideal .f32)} {g : State ℝ}
    (hx : ∀ r j, startOf (grid0.coords t) (hAt m c t) x (ix2 r j) = (w1.states s d a g (t.val * 2000) (ix2 r j) : EReal)) (r : Fin 10000) (j : Fin 5) :
    endOf (grid0.coords t) (srcAt m c t) (dstAt m c t) (eaAt m c t) (hAt m c t) (mmAt m c t) (beAt m c t) (cbAt m c t) x (ix2 r j)
      = (w1.states s d a g ((t.val + 1) * 2000) (ix2 r j) : EReal) := by
  have := point_lift L t (x := x) (g := g)
  rw [if_pos (Nat.div_eq_of_lt hl), Nat.mod_eq_of_lt hl] at this
  rw [Nat.succ_mul]
  exact this hx r j

/-- A point of the second layer. -/
theorem point_two (L : Lifted m c w1 w2 s d a f) (t : Fin (cfg0 (F := Ideal)).N) (n : ℕ) (hn : t.val = 80 + n) {x : State (Ideal .f32)} {g : State ℝ}
    (hx : ∀ r j, x (ix2 r j) = (w2.states s d a g (n * 2000) (ix2 r j) : EReal)) (r : Fin 10000) (j : Fin 5) :
    endOf (grid0.coords t) (srcAt m c t) (dstAt m c t) (eaAt m c t) (hAt m c t) (mmAt m c t) (beAt m c t) (cbAt m c t) x (ix2 r j)
      = (w2.states s d a g ((n + 1) * 2000) (ix2 r j) : EReal) := by
  have ht : t.val < 160 := lt_of_lt_of_eq t.isLt N_0
  have hm : t.val % 80 = n := by omega
  have := point_lift L t (x := x) (g := g)
  rw [if_neg (by omega), hm, startOf_next t (by omega)] at this
  rw [Nat.succ_mul]
  exact this hx r j

/-- The first layer's states. -/
theorem states_one (L : Lifted m c w1 w2 s d a f) : ∀ n (h : n ≤ (cfg0 (F := Ideal)).N), n ≤ 80 → n ≠ 0 → ∀ r j,
    stateAt m c n h (ix2 r j) = (w1.states s d a f (n * 2000) (ix2 r j) : EReal)
  | 0, _, _, h0, _, _ => absurd rfl h0
  | n + 1, h, hn, _, r, j => by
    refine point_one L ⟨n, h⟩ (Nat.lt_of_succ_le hn) (x := stateAt m c n (Nat.le_of_succ_le h)) (g := f) (fun r j => ?_) r j
    by_cases h0 : n = 0
    · rw [startOf_first _ h0, hAt_eq]
      subst h0
      exact L.start r j
    · rw [startOf_next _ h0]
      exact states_one L n (Nat.le_of_succ_le h) (Nat.le_of_succ_le hn) h0 r j

/-- The second layer's states. -/
theorem states_two (L : Lifted m c w1 w2 s d a f) : ∀ n (h : 80 + n ≤ (cfg0 (F := Ideal)).N), ∀ r j,
    stateAt m c (80 + n) h (ix2 r j) = (w2.states s d a (w1.states s d a f 160000) (n * 2000) (ix2 r j) : EReal)
  | 0, h, r, j => (states_one L 80 h le_rfl (by decide) r j).trans rfl
  | n + 1, h, r, j => point_two L ⟨80 + n, h⟩ n rfl (x := stateAt m c (80 + n) (Nat.le_of_succ_le h)) (states_two L n (Nat.le_of_succ_le h)) r j

/-- The states the last point leaves. -/
theorem states_end (L : Lifted m c w1 w2 s d a f) (h : (lastPoint (F := Ideal)).val + 1 ≤ (cfg0 (F := Ideal)).N) (r : Fin 10000) (j : Fin 5) :
    stateAt m c ((lastPoint (F := Ideal)).val + 1) h (ix2 r j) = (w2.states s d a (w1.states s d a f 160000) 160000 (ix2 r j) : EReal) :=
  states_two L 80 h r j

end Cert.Proof.KI

end
-- ==== Proof.Eq.Mean.lean ====
/-
  The mean of a linear read-out is the read-out of the means, whatever its bias.
-/
module

public import proofs.«01_k».proof.Proof.Eq.Lift
public import Mathlib.Tactic.Ring
public import Mathlib.Tactic.NormNum
public import Mathlib.Data.EReal.Inv

@[expose] public section

namespace Cert.Proof.Eq

theorem sum_top : ∀ n : ℕ, ∑ _i : Fin (n + 1), (⊤ : EReal) = ⊤
  | 0 => by simp
  | n + 1 => by rw [Fin.sum_univ_succ, sum_top n]; rfl

theorem sum_bot : ∀ n : ℕ, ∑ _i : Fin (n + 1), (⊥ : EReal) = ⊥
  | 0 => by simp
  | n + 1 => by rw [Fin.sum_univ_succ, sum_bot n]; rfl

/-- The mean over the nodes of a read-out of two rows, and the read-out of the two means. -/
theorem mean_eq (f g : Fin 10000 → Fin 5 → ℝ) (a b : Fin 5 → ℝ) (r : EReal) :
    (∑ k, ((((∑ j, f k j * a j) + ∑ j, g k j * b j : ℝ) : EReal) + r)) * ((1 / 10000 : ℝ) : EReal)
      = (((∑ j, (∑ k, f k j) * (1 / 10000) * a j) + ∑ j, (∑ k, g k j) * (1 / 10000) * b j : ℝ) : EReal) + r := by
  have lin : ∀ (f : Fin 10000 → Fin 5 → ℝ) (a : Fin 5 → ℝ), (∑ k, ∑ j, f k j * a j) * (1 / 10000) = ∑ j, (∑ k, f k j) * (1 / 10000) * a j := fun f a => by
    rw [Finset.sum_comm, Finset.sum_mul]
    refine Finset.sum_congr rfl fun j _ => ?_
    rw [← Finset.sum_mul]; ring
  induction r using EReal.rec with
  | bot =>
    rw [Finset.sum_congr rfl (fun k _ => EReal.add_bot _), sum_bot 9999, EReal.add_bot]
    exact EReal.bot_mul_coe_of_pos (by norm_num)
  | top =>
    rw [Finset.sum_congr rfl (fun k _ => EReal.coe_add_top _), sum_top 9999, EReal.coe_add_top]
    exact EReal.top_mul_coe_of_pos (by norm_num)
  | coe r =>
    simp only [← EReal.coe_add, coe_sum, ← EReal.coe_mul]
    refine congrArg Real.toEReal ?_
    rw [Finset.sum_add_distrib, Finset.sum_add_distrib, add_mul, add_mul, lin, lin, Finset.sum_const, Finset.card_univ, Fintype.card_fin]
    rw [nsmul_eq_mul, show ((10000 : ℕ) : ℝ) * r * (1 / 10000) = r by push_cast; ring]

end Cert.Proof.Eq
-- ==== Proof.KI.Tail.lean ====
/-
  The kernel's last lines compute what the reference's last lines compute.
-/
module

public import proofs.«01_k».proof.Proof.KI.Host
public import proofs.«01_k».proof.Proof.KI.Body
public import proofs.«01_k».proof.Proof.RI.Result
public import proofs.«01_k».proof.Proof.Eq.Mean
public import proofs.«01_k».proof.Proof.RI.Step

@[expose] public section

set_option maxRecDepth 16384

noncomputable section

namespace Cert.Proof.KI

open Cert.KernelIdeal Cert.KernelIdeal.Gen Cert.Proof.Chain Cert.Proof.Eq
open Idealize.ShloMosaic

/-- The read-out's mean, as the kernel groups it. -/
def gOf (f h2 : FVec Ideal S10000x5 .f32) (r1 r2 : FVec Ideal S5x32 .f32) (rb : FVec Ideal S1x32 .f32) : FVec Ideal S1x32 .f32 :=
  addf (addf
    (matmul dot_S1x5_S5x32_S1x32_1_0_0_1_n_n (some .fp32)
      (mulf (shapeCast S1x5 (multiReduction .add [0] S5 f 0x00000000#32 reduces_S10000x5_S5 (.inl rfl) rfl) shapeCasts_S5_S1x5)
        (broadcast S1x5 (Named.named κ "inv_n" 0x38D1B717#32))) r1 (constant S1x32 .f32 0x00000000#32))
    (matmul dot_S1x5_S5x32_S1x32_1_0_0_1_n_n (some .fp32)
      (mulf (shapeCast S1x5 (multiReduction .add [0] S5 h2 0x00000000#32 reduces_S10000x5_S5 (.inl rfl) rfl) shapeCasts_S5_S1x5)
        (broadcast S1x5 (Named.named κ "inv_n" 0x38D1B717#32))) r2 (constant S1x32 .f32 0x00000000#32))) rb

/-- The first dense layer on the mean beside the molecule's features. -/
def oneOf (g : FVec Ideal S1x32 .f32) (mol : FVec Ideal S1x202 .f32) (w1 : FVec Ideal S234x128 .f32) (b1 : FVec Ideal S1x128 .f32) : FVec Ideal S1x128 .f32 :=
  maximumf (addf (matmul dot_S1x234_S234x128_S1x128_1_0_0_1_n_n (some .fp32)
    (maximumf (concatenate S1x234 1 [⟨S1x32, g⟩, ⟨S1x202, mol⟩] concatenates_S1x32_S1x202_S1x234_d1) (broadcast S1x234 (Scalar.ofBits .f32 0x00000000#32)))
    w1 (constant S1x128 .f32 0x00000000#32)) b1) (broadcast S1x128 (Scalar.ofBits .f32 0x00000000#32))

theorem pay7_eq (f h2 : FVec Ideal S10000x5 .f32) (r1 r2 : FVec Ideal S5x32 .f32) (rb : FVec Ideal S1x32 .f32) (mol : FVec Ideal S1x202 .f32)
    (w1 : FVec Ideal S234x128 .f32) (b1 : FVec Ideal S1x128 .f32) : k0_pay7 f h2 r1 r2 rb mol w1 b1 = oneOf (gOf f h2 r1 r2 rb) mol w1 b1 := by
  have e : k0_pay7 f h2 r1 r2 rb mol w1 b1 = oneOf (gOf f h2 (shapeCast S5x32 r1 shapeCasts_S5x32_S5x32) (shapeCast S5x32 r2 shapeCasts_S5x32_S5x32)
    (shapeCast S1x32 rb shapeCasts_S1x32_S1x32)) (shapeCast S1x202 mol shapeCasts_S1x202_S1x202) (shapeCast S234x128 w1 shapeCasts_S234x128_S234x128)
    (shapeCast S1x128 b1 shapeCasts_S1x128_S1x128) := rfl
  rw [e, shapeCast_self, shapeCast_self, shapeCast_self, shapeCast_self, shapeCast_self, shapeCast_self]

theorem ofBits_10000 : Ideal.ofBits .f32 0x461C4000#32 = ((10000 : ℝ) : EReal) := by
  simp [Ideal.ofBits, Ideal.ieee, -EReal.coe_mul]; norm_num

theorem inv_n : (Named.named κ "inv_n" 0x38D1B717#32 : Ideal .f32) = ((1 / 10000 : ℝ) : EReal) := IdealRules.named_const.ideal_named_scalar _ _ _ _ rfl

section Mean

variable {f h2 : FVec Ideal S10000x5 .f32} {rw' : FVec Ideal S32x10 .f32} {F H : Fin 10000 → Fin 5 → ℝ} {R : Fin 32 → Fin 10 → ℝ}
  (hf : ∀ k j, f (ix2 k j) = (F k j : EReal)) (hh : ∀ k j, h2 (ix2 k j) = (H k j : EReal)) (hr : ∀ i j, rw' (ix2 i j) = (R i j : EReal))
  (rb : FVec Ideal S32 .f32) (i : Fin 32)

include hf hh hr

/-- The kernel's read-out of the means, -/
theorem g_read :
    gOf f h2 (extractStridedSlice S5x32 ![0, 0] (transpose S10x32 [1, 0] rw' transposes_S32x10_S10x32_1_0) slices_S10x32_S5x32_0_0)
      (extractStridedSlice S5x32 ![5, 0] (transpose S10x32 [1, 0] rw' transposes_S32x10_S10x32_1_0) slices_S10x32_S5x32_5_0)
      (shapeCast S1x32 rb shapeCasts_S32_S1x32) (ix2 0 i)
      = (((∑ j, (∑ k, F k j) * (1 / 10000) * R i ⟨j.val, by omega⟩) + ∑ j, (∑ k, H k j) * (1 / 10000) * R i ⟨5 + j.val, by omega⟩ : ℝ) : EReal) + rb (ix1 i) := by
  have r0 : ∀ (j : Fin 5) (h1 : (![0, 0] : Fin 2 → ℕ) 1 + i.val < 32) (h2 : (![0, 0] : Fin 2 → ℕ) 0 + j.val < 10),
    R ⟨_, h1⟩ ⟨_, h2⟩ = R i ⟨j.val, by omega⟩ := fun j _ _ => congrArg₂ R (Fin.ext (Nat.zero_add _)) (Fin.ext (Nat.zero_add _))
  have r5 : ∀ (j : Fin 5) (h1 : (![5, 0] : Fin 2 → ℕ) 1 + i.val < 32) (h2 : (![5, 0] : Fin 2 → ℕ) 0 + j.val < 10),
    R ⟨_, h1⟩ ⟨_, h2⟩ = R i ⟨5 + j.val, by omega⟩ := fun j _ _ => congrArg₂ R (Fin.ext (Nat.zero_add _)) rfl
  unfold gOf
  simp only [pointwise, hf, hh, hr, inv_n, coe_sum, ← EReal.coe_mul, zero_add, ← EReal.coe_add, r0, r5]

/-- and the reference's mean of the read-outs. -/
theorem mean_read : RI.meanOf f h2 rw' rb (ix1 i)
    = (∑ k, ((((∑ j, F k j * R i ⟨j.val, by omega⟩) + ∑ j, H k j * R i ⟨5 + j.val, by omega⟩ : ℝ) : EReal) + rb (ix1 i))) * ((1 / 10000 : ℝ) : EReal) := by
  unfold RI.meanOf
  generalize hc : concatenate _ _ _ _ = cat
  have c0 : ∀ (k : Fin 10000) (j : Fin 5), cat (ix2 k (⟨j.val, by omega⟩ : Fin 10)) = (F k j : EReal) := fun k j => by
    rw [← hc, ← hf]
    simp only [pointwise]
    exact dif_pos trivial
  have c5 : ∀ (k : Fin 10000) (j : Fin 5), cat (ix2 k (⟨5 + j.val, by omega⟩ : Fin 10)) = (H k j : EReal) := fun k j => by
    rw [← hc, ← hh]
    simp only [pointwise]
    refine (dif_neg not_false).trans ?_
    exact congrArg (fun q => h2 (ix2 k q)) (Fin.ext (Nat.add_sub_cancel_left (n := 5) (m := j.val)))
  simp only [pointwise, sum_10, c0, c5, hr, coe_sum, ← EReal.coe_mul, zero_add, ← EReal.coe_add]
  rw [ofBits_10000, Ideal.div_coe (by norm_num)]
  rfl

/-- They are one. -/
theorem mean_same :
    gOf f h2 (extractStridedSlice S5x32 ![0, 0] (transpose S10x32 [1, 0] rw' transposes_S32x10_S10x32_1_0) slices_S10x32_S5x32_0_0)
      (extractStridedSlice S5x32 ![5, 0] (transpose S10x32 [1, 0] rw' transposes_S32x10_S10x32_1_0) slices_S10x32_S5x32_5_0)
      (shapeCast S1x32 rb shapeCasts_S32_S1x32) (ix2 0 i) = RI.meanOf f h2 rw' rb (ix1 i) :=
  (g_read hf hh hr rb i).trans ((mean_read hf hh hr rb i).trans (mean_eq F H _ _ _)).symm

end Mean

/-- The features both put together: the mean's, then the molecule's. -/
theorem cat_same {g : FVec Ideal S1x32 .f32} {g' : FVec Ideal S32 .f32} (hg : ∀ i, g (ix2 0 i) = g' (ix1 i)) (mol : FVec Ideal S202 .f32) (k : Fin 234) :
    concatenate S1x234 1 [⟨S1x32, g⟩, ⟨S1x202, shapeCast S1x202 mol shapeCasts_S202_S1x202⟩] concatenates_S1x32_S1x202_S1x234_d1 (ix2 0 k)
      = concatenate ReferenceIdeal.S234 0 [⟨S32, g'⟩, ⟨S202, mol⟩] ReferenceIdeal.Gen.concatenates_S32_S202_S234_d0 (ix1 k) := by
  simp only [pointwise, hg]
  rfl

/-- The dense layers. -/
theorem dense_same {g : FVec Ideal S1x32 .f32} {g' : FVec Ideal S32 .f32} (hg : ∀ i, g (ix2 0 i) = g' (ix1 i)) (mol : FVec Ideal S202 .f32) (w1 : FVec Ideal S128x234 .f32)
    (b1 : FVec Ideal S128 .f32) (w2 : FVec Ideal S32x128 .f32) (b2 : FVec Ideal S32 .f32) (w3 : FVec Ideal S1x32 .f32) (b3 : FVec Ideal S1 .f32) :
    k0_pay4 (oneOf g (shapeCast S1x202 mol shapeCasts_S202_S1x202) (transpose S234x128 [1, 0] w1 transposes_S128x234_S234x128_1_0) (shapeCast S1x128 b1 shapeCasts_S128_S1x128))
      (transpose S128x32 [1, 0] w2 transposes_S32x128_S128x32_1_0) (shapeCast S1x32 b2 shapeCasts_S32_S1x32) (transpose S32x1 [1, 0] w3 transposes_S1x32_S32x1_1_0)
      (shapeCast S1x1 b3 shapeCasts_S1_S1x1) = RI.denseOf g' mol w1 b1 w2 b2 w3 b3 := by
  have hc := cat_same hg mol
  unfold k0_pay4 oneOf RI.denseOf
  generalize concatenate S1x234 _ _ _ = x at hc
  generalize concatenate ReferenceIdeal.S234 _ _ _ = y at hc
  funext q
  have hq : q = ix2 0 0 := by
    funext a
    match a with
    | ⟨0, _⟩ => exact Fin.eq_zero (q 0)
    | ⟨1, _⟩ => exact Fin.eq_zero (q 1)
  rw [hq]
  simp only [pointwise, hc]

end Cert.Proof.KI

end
-- ==== Proof.Eq.Finite.lean ====
/-
  An entry whose absolute value compares below infinity is a real number.
-/
module

public import Idealize.ShloMosaic.Lib.Pointwise

@[expose] public section

noncomputable section

namespace Cert.Proof.Eq

open Idealize.ShloMosaic

/-- The test of finiteness. -/
def below {s : Shape} (hb : (⟨0, ![]⟩ : Shape).BroadcastsInDim s ![]) (x : FVec Ideal s .f32) : IVec s 1 :=
  cmpf .olt (Host.absf x) (broadcastInDim s ![] hb (constant ⟨0, ![]⟩ .f32 0x7F800000#32))

theorem and_split {s : Shape} {a b : IVec s 1} (h : andi a b = fun _ => 1#1) : (a = fun _ => 1#1) ∧ b = fun _ => 1#1 := by
  have e : ∀ u v : BitVec 1, u &&& v = 1#1 → u = 1#1 ∧ v = 1#1 := by decide
  exact ⟨funext fun i => (e _ _ (congrFun h i)).1, funext fun i => (e _ _ (congrFun h i)).2⟩

theorem ofBits_top : Ideal.ofBits .f32 0x7F800000#32 = ⊤ := by
  simp [Ideal.ofBits, Ideal.ieee]

/-- Entries that pass are real. -/
theorem real_of_below {s : Shape} {hb : (⟨0, ![]⟩ : Shape).BroadcastsInDim s ![]} {x : FVec Ideal s .f32} (h : below hb x = fun _ => 1#1) (i : s.Idx) :
    x i = ((x i).toReal : EReal) := by
  have h : Ideal.cmp .olt (max (x i) (-(x i))) (Ideal.ofBits .f32 0x7F800000#32) = 1#1 := congrFun h i
  rw [ofBits_top] at h
  have lt : max (x i) (-(x i)) < ⊤ := by
    by_contra hn
    have : Ideal.cmp .olt (max (x i) (-(x i))) ⊤ = 0#1 := by
      show BitVec.ofBool (decide _) = _
      rw [decide_eq_false hn]; rfl
    rw [this] at h
    exact absurd h (by decide)
  have h1 : x i ≠ ⊤ := fun e => by rw [e] at lt; exact absurd lt (not_lt_of_ge (le_max_left _ _))
  have h2 : x i ≠ ⊥ := fun e => by rw [e, EReal.neg_bot] at lt; exact absurd lt (not_lt_of_ge (le_max_right _ _))
  exact (EReal.coe_toReal h1 h2).symm

end Cert.Proof.Eq

end
-- ==== Proof.KI.Value.lean ====
/-
  From nodes in range and finite numbers, the kernel and the reference reach one result.
-/
module

public import proofs.«01_k».proof.Proof.KI.States
public import proofs.«01_k».proof.Proof.KI.Tail
public import proofs.«01_k».proof.Proof.Eq.Finite
public import proofs.«01_k».proof.Proof.Nodes

@[expose] public section

set_option maxRecDepth 16384

noncomputable section

namespace Cert.Proof.KI

open Cert.KernelIdeal Cert.KernelIdeal.Gen Cert.Proof.Chain Cert.Proof.Eq
open Idealize.ShloMosaic
open Idealize.ShloMosaic.TcCoe
open Idealize.SL.Sem

/-- Two arrays of node states that agree at every pair are one. -/
theorem ext2 {x y : FVec Ideal S10000x5 .f32} (h : ∀ (r : Fin 10000) (j : Fin 5), x (ix2 r j) = y (ix2 r j)) : x = y := by
  funext q
  have e : q = ix2 (n0 := 10000) (n1 := 5) (q 0) (q 1) := by
    funext a
    match a with
    | ⟨0, _⟩ => rfl
    | ⟨1, _⟩ => rfl
  rw [e]
  exact h _ _

theorem srcs_read (e : IVec S2x160000 32) (k : Fin 160000) : RI.srcs e (ix1 k) = e (ix2 0 k) := by
  unfold RI.srcs
  simp only [pointwise]
  exact congrArg (fun q => e (ix2 0 q)) (Fin.ext (Nat.zero_add _))

theorem dsts_read (e : IVec S2x160000 32) (k : Fin 160000) : RI.dsts e (ix1 k) = e (ix2 1 k) := by
  unfold RI.dsts
  simp only [pointwise]
  exact congrArg (fun q => e (ix2 1 q)) (Fin.ext (Nat.zero_add _))

/-- The real weights in a layer's arrays. -/
def realW (vw : FVec Ideal S5x5 .f32) (vb : FVec Ideal S5 .f32) (ew : FVec Ideal S11x11 .f32) (eb : FVec Ideal S11 .f32) (uw : FVec Ideal S5x21 .f32)
    (ub : FVec Ideal S5 .f32) : Weights where
  v i j := EReal.toReal (vw (ix2 i j))
  vb i := EReal.toReal (vb (ix1 i))
  e i j := EReal.toReal (ew (ix2 i j))
  eb i := EReal.toReal (eb (ix1 i))
  u i j := EReal.toReal (uw (ix2 i j))
  ub i := EReal.toReal (ub (ix1 i))

theorem realW_holds {vw : FVec Ideal S5x5 .f32} {vb : FVec Ideal S5 .f32} {ew : FVec Ideal S11x11 .f32} {eb : FVec Ideal S11 .f32} {uw : FVec Ideal S5x21 .f32}
    {ub : FVec Ideal S5 .f32} (h1 : ∀ i, vw i = (EReal.toReal (vw i) : EReal)) (h2 : ∀ i, vb i = (EReal.toReal (vb i) : EReal))
    (h3 : ∀ i, ew i = (EReal.toReal (ew i) : EReal)) (h4 : ∀ i, eb i = (EReal.toReal (eb i) : EReal)) (h5 : ∀ i, uw i = (EReal.toReal (uw i) : EReal))
    (h6 : ∀ i, ub i = (EReal.toReal (ub i) : EReal)) : RI.Holds vw vb ew eb uw ub (realW vw vb ew eb uw ub) :=
  ⟨fun _ _ => h1 _, fun _ => h2 _, fun _ _ => h3 _, fun _ => h4 _, fun _ _ => h5 _, fun _ => h6 _⟩

variable (m : (ℓ : Loc nD τ sig) → Buf (Elt Ideal) ℓ) (c : Dev nD)

/-- Both layers' weights, over the reals; -/
def w1R : Weights := realW (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10))
def w2R : Weights := realW (m ((c : Thread nD τ).loc main_arg11)) (m ((c : Thread nD τ).loc main_arg12)) (m ((c : Thread nD τ).loc main_arg13))
  (m ((c : Thread nD τ).loc main_arg14)) (m ((c : Thread nD τ).loc main_arg15)) (m ((c : Thread nD τ).loc main_arg16))
/-- the edges' ends, -/
def srcR (k : ℕ) : ℕ := BitVec.toNat (w := 32) (m ((c : Thread nD τ).loc main_arg1) (ix2 (0 : Fin 2) (⟨k % 160000, Nat.mod_lt _ (by decide)⟩ : Fin 160000)))
def dstR (k : ℕ) : ℕ := BitVec.toNat (w := 32) (m ((c : Thread nD τ).loc main_arg1) (ix2 (1 : Fin 2) (⟨k % 160000, Nat.mod_lt _ (by decide)⟩ : Fin 160000)))
/-- their attributes, -/
def attrR (k : ℕ) (j : Fin 11) : ℝ := EReal.toReal (m ((c : Thread nD τ).loc main_arg2) (ix2 (⟨k % 160000, Nat.mod_lt _ (by decide)⟩ : Fin 160000) j))
/-- and the states at the start. -/
def startR : State ℝ := fun x => EReal.toReal (m ((c : Thread nD τ).loc main_arg3) x)

theorem edge_fin (k : Fin 160000) : (⟨k.val % 160000, Nat.mod_lt _ (by decide)⟩ : Fin 160000) = k := Fin.ext (Nat.mod_eq_of_lt k.isLt)

variable {m}

/-- What the precondition says of the numbers. -/
theorem lifted_of (h : Cert.Pre_KernelIdeal_nodes_in_range_and_finite m) :
    Lifted m c (w1R m c) (w2R m c) (srcR m c) (dstR m c) (attrR m c) (startR m c)
      ∧ (∀ i, m ((c : Thread nD τ).loc main_arg4) i = (EReal.toReal (m ((c : Thread nD τ).loc main_arg4) i) : EReal))
      ∧ ∀ i, m ((c : Thread nD τ).loc main_arg17) i = (EReal.toReal (m ((c : Thread nD τ).loc main_arg17) i) : EReal) := by
  obtain ⟨_, hea, hh, hv, he, heb, hu, hb, hr⟩ := h c
  obtain ⟨h3, h4⟩ := and_split hh
  obtain ⟨h5, h11⟩ := and_split hv
  obtain ⟨h7, h13⟩ := and_split he
  obtain ⟨h8, h14⟩ := and_split heb
  obtain ⟨h9, h15⟩ := and_split hu
  obtain ⟨hvb, hub⟩ := and_split hb
  obtain ⟨h6, h12⟩ := and_split hvb
  obtain ⟨h10, h16⟩ := and_split hub
  have e2 := real_of_below (hb := Cert.Pre_nodes_in_range_and_finite.Gen.facts.bcast_S_S160000x11) hea
  refine ⟨⟨realW_holds (real_of_below h5) (real_of_below h6) (real_of_below h7) (real_of_below h8) (real_of_below h9) (real_of_below h10),
    realW_holds (real_of_below h11) (real_of_below h12) (real_of_below h13) (real_of_below h14) (real_of_below h15) (real_of_below h16),
    fun k => ?_, fun k => ?_, fun k => ?_, fun k => ?_, fun k j => ?_, fun r j => real_of_below h3 _⟩, real_of_below h4, real_of_below hr⟩
  · unfold srcR; rw [edge_fin]
  · unfold dstR; rw [edge_fin]
  · exact Nodes.pre_finite m h c _
  · exact Nodes.pre_finite m h c _
  · unfold attrR; rw [edge_fin]; exact e2 _

variable {w1 w2 : Weights} {s d : ℕ → ℕ} {a : ℕ → Fin 11 → ℝ} {f : State ℝ} {c}

/-- The reference's states at the end. -/
theorem layers_lift (L : Lifted m c w1 w2 s d a f) (r : Fin 10000) (j : Fin 5) :
    RI.layer (F := Ideal) (RI.srcs (m ((c : Thread nD τ).loc main_arg1))) (RI.dsts (m ((c : Thread nD τ).loc main_arg1))) (m ((c : Thread nD τ).loc main_arg2))
      (m ((c : Thread nD τ).loc main_arg11)) (m ((c : Thread nD τ).loc main_arg12)) (m ((c : Thread nD τ).loc main_arg13)) (m ((c : Thread nD τ).loc main_arg14))
      (m ((c : Thread nD τ).loc main_arg15)) (m ((c : Thread nD τ).loc main_arg16))
      (RI.layer (RI.srcs (m ((c : Thread nD τ).loc main_arg1))) (RI.dsts (m ((c : Thread nD τ).loc main_arg1))) (m ((c : Thread nD τ).loc main_arg2))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg3)) 160000) 160000 (ix2 r j)
      = (w2.states s d a (w1.states s d a f 160000) 160000 (ix2 r j) : EReal) := by
  have E : RI.Edges (RI.srcs (m ((c : Thread nD τ).loc main_arg1))) (RI.dsts (m ((c : Thread nD τ).loc main_arg1))) (m ((c : Thread nD τ).loc main_arg2)) s d a :=
    ⟨fun k => by rw [srcs_read]; exact L.src k, fun k => by rw [dsts_read]; exact L.dst k, L.src_lt, L.dst_lt, L.attr⟩
  exact RI.layer_lift L.two E (RI.layer_lift L.one E L.start 160000 le_rfl) 160000 le_rfl r j

/-- The kernel's result is the reference's last lines on any states that agree with its own. -/
theorem result_lift (L : Lifted m c w1 w2 s d a f) (h4 : ∀ i, m ((c : Thread nD τ).loc main_arg4) i = (EReal.toReal (m ((c : Thread nD τ).loc main_arg4) i) : EReal))
    (h17 : ∀ i, m ((c : Thread nD τ).loc main_arg17) i = (EReal.toReal (m ((c : Thread nD τ).loc main_arg17) i) : EReal)) {x : FVec Ideal S10000x5 .f32}
    (hx : ∀ r j, x (ix2 r j) = (w2.states s d a (w1.states s d a f 160000) 160000 (ix2 r j) : EReal)) :
    resultAt m c lastPoint = RI.denseOf (RI.meanOf x (m ((c : Thread nD τ).loc main_arg4)) (m ((c : Thread nD τ).loc main_arg17)) (m ((c : Thread nD τ).loc main_arg18)))
      (m ((c : Thread nD τ).loc main_arg0)) (m ((c : Thread nD τ).loc main_arg19)) (m ((c : Thread nD τ).loc main_arg20)) (m ((c : Thread nD τ).loc main_arg21))
      (m ((c : Thread nD τ).loc main_arg22)) (m ((c : Thread nD τ).loc main_arg23)) (m ((c : Thread nD τ).loc main_arg24)) := by
  have es : stateAt m c ((lastPoint (F := Ideal)).val + 1) (lastPoint (F := Ideal)).isLt = x :=
    ext2 fun r j => (states_end L _ r j).trans (hx r j).symm
  unfold resultAt tailOf
  rw [es, h2At_eq, molAt_eq, r1At_eq, r2At_eq, rbAt_eq, w1At_eq, b1At_eq, w2At_eq, b2At_eq, w3At_eq, b3At_eq, V_v44, V_v46, V_v47, V_v48, V_v49, V_v50, V_v51, V_v52, V_v53, V_v54,
    V_arg m c (r := main_arg4) (by decide), pay7_eq]
  exact dense_same (fun i => mean_same (F := fun k j => w2.states s d a (w1.states s d a f 160000) 160000 (ix2 k j)) (H := fun k j => EReal.toReal (m ((c : Thread nD τ).loc main_arg4) (ix2 k j)))
    (R := fun i j => EReal.toReal (m ((c : Thread nD τ).loc main_arg17) (ix2 i j))) hx (fun _ _ => h4 _) (fun _ _ => h17 _) _ i) _ _ _ _ _ _ _

end Cert.Proof.KI

end
-- ==== Proof.Same.lean ====
/-
  One result, from memories that agree on the arguments.
-/
module

public import proofs.«01_k».proof.Proof.KI.Value
public import proofs.«01_k».proof.Proof.KI.Frame

@[expose] public section

set_option maxRecDepth 16384

noncomputable section

namespace Cert.Proof

open Cert.KernelIdeal Cert.KernelIdeal.Gen
open Idealize.ShloMosaic
open Idealize.ShloMosaic.TcCoe
open Idealize.SL.Sem

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The reference's arguments are the kernel's. -/
def Fed (c : Dev nD) : Prop :=
  m' ((c : Thread Cert.ReferenceIdeal.nD Cert.ReferenceIdeal.τ).loc Cert.ReferenceIdeal.main_arg0) = m ((c : Thread nD τ).loc main_arg0)
  ∧ m' ((c : Thread Cert.ReferenceIdeal.nD Cert.ReferenceIdeal.τ).loc Cert.ReferenceIdeal.main_arg1) = m ((c : Thread nD τ).loc main_arg1)
  ∧ m' ((c : Thread Cert.ReferenceIdeal.nD Cert.ReferenceIdeal.τ).loc Cert.ReferenceIdeal.main_arg2) = m ((c : Thread nD τ).loc main_arg2)
  ∧ m' ((c : Thread Cert.ReferenceIdeal.nD Cert.ReferenceIdeal.τ).loc Cert.ReferenceIdeal.main_arg3) = m ((c : Thread nD τ).loc main_arg3)
  ∧ m' ((c : Thread Cert.ReferenceIdeal.nD Cert.ReferenceIdeal.τ).loc Cert.ReferenceIdeal.main_arg4) = m ((c : Thread nD τ).loc main_arg4)
  ∧ m' ((c : Thread Cert.ReferenceIdeal.nD Cert.ReferenceIdeal.τ).loc Cert.ReferenceIdeal.main_arg5) = m ((c : Thread nD τ).loc main_arg5)
  ∧ m' ((c : Thread Cert.ReferenceIdeal.nD Cert.ReferenceIdeal.τ).loc Cert.ReferenceIdeal.main_arg6) = m ((c : Thread nD τ).loc main_arg6)
  ∧ m' ((c : Thread Cert.ReferenceIdeal.nD Cert.ReferenceIdeal.τ).loc Cert.ReferenceIdeal.main_arg7) = m ((c : Thread nD τ).loc main_arg7)
  ∧ m' ((c : Thread Cert.ReferenceIdeal.nD Cert.ReferenceIdeal.τ).loc Cert.ReferenceIdeal.main_arg8) = m ((c : Thread nD τ).loc main_arg8)
  ∧ m' ((c : Thread Cert.ReferenceIdeal.nD Cert.ReferenceIdeal.τ).loc Cert.ReferenceIdeal.main_arg9) = m ((c : Thread nD τ).loc main_arg9)
  ∧ m' ((c : Thread Cert.ReferenceIdeal.nD Cert.ReferenceIdeal.τ).loc Cert.ReferenceIdeal.main_arg10) = m ((c : Thread nD τ).loc main_arg10)
  ∧ m' ((c : Thread Cert.ReferenceIdeal.nD Cert.ReferenceIdeal.τ).loc Cert.ReferenceIdeal.main_arg11) = m ((c : Thread nD τ).loc main_arg11)
  ∧ m' ((c : Thread Cert.ReferenceIdeal.nD Cert.ReferenceIdeal.τ).loc Cert.ReferenceIdeal.main_arg12) = m ((c : Thread nD τ).loc main_arg12)
  ∧ m' ((c : Thread Cert.ReferenceIdeal.nD Cert.ReferenceIdeal.τ).loc Cert.ReferenceIdeal.main_arg13) = m ((c : Thread nD τ).loc main_arg13)
  ∧ m' ((c : Thread Cert.ReferenceIdeal.nD Cert.ReferenceIdeal.τ).loc Cert.ReferenceIdeal.main_arg14) = m ((c : Thread nD τ).loc main_arg14)
  ∧ m' ((c : Thread Cert.ReferenceIdeal.nD Cert.ReferenceIdeal.τ).loc Cert.ReferenceIdeal.main_arg15) = m ((c : Thread nD τ).loc main_arg15)
  ∧ m' ((c : Thread Cert.ReferenceIdeal.nD Cert.ReferenceIdeal.τ).loc Cert.ReferenceIdeal.main_arg16) = m ((c : Thread nD τ).loc main_arg16)
  ∧ m' ((c : Thread Cert.ReferenceIdeal.nD Cert.ReferenceIdeal.τ).loc Cert.ReferenceIdeal.main_arg17) = m ((c : Thread nD τ).loc main_arg17)
  ∧ m' ((c : Thread Cert.ReferenceIdeal.nD Cert.ReferenceIdeal.τ).loc Cert.ReferenceIdeal.main_arg18) = m ((c : Thread nD τ).loc main_arg18)
  ∧ m' ((c : Thread Cert.ReferenceIdeal.nD Cert.ReferenceIdeal.τ).loc Cert.ReferenceIdeal.main_arg19) = m ((c : Thread nD τ).loc main_arg19)
  ∧ m' ((c : Thread Cert.ReferenceIdeal.nD Cert.ReferenceIdeal.τ).loc Cert.ReferenceIdeal.main_arg20) = m ((c : Thread nD τ).loc main_arg20)
  ∧ m' ((c : Thread Cert.ReferenceIdeal.nD Cert.ReferenceIdeal.τ).loc Cert.ReferenceIdeal.main_arg21) = m ((c : Thread nD τ).loc main_arg21)
  ∧ m' ((c : Thread Cert.ReferenceIdeal.nD Cert.ReferenceIdeal.τ).loc Cert.ReferenceIdeal.main_arg22) = m ((c : Thread nD τ).loc main_arg22)
  ∧ m' ((c : Thread Cert.ReferenceIdeal.nD Cert.ReferenceIdeal.τ).loc Cert.ReferenceIdeal.main_arg23) = m ((c : Thread nD τ).loc main_arg23)
  ∧ m' ((c : Thread Cert.ReferenceIdeal.nD Cert.ReferenceIdeal.τ).loc Cert.ReferenceIdeal.main_arg24) = m ((c : Thread nD τ).loc main_arg24)

variable {m m'}

/-- The result of the kernel is the result of the reference. -/
theorem result_same (h : Cert.Pre_KernelIdeal_nodes_in_range_and_finite m) (c : Dev nD) (e : Fed m m' c) :
    KI.resultAt m c KI.lastPoint = RI.resultR m' c := by
  obtain ⟨L, h4, h17⟩ := KI.lifted_of c h
  obtain ⟨e0, e1, e2, e3, e4, e5, e6, e7, e8, e9, e10, e11, e12, e13, e14, e15, e16, e17, e18, e19, e20, e21, e22, e23, e24⟩ := e
  refine (KI.result_lift L h4 h17 (KI.layers_lift L)).trans ?_
  unfold RI.resultR RI.layer1 RI.layer0
  rw [e0, e1, e2, e3, e4, e5, e6, e7, e8, e9, e10, e11, e12, e13, e14, e15, e16, e17, e18, e19, e20, e21, e22, e23, e24]

/-- Both programs run, end at one result and leave their arguments. -/
theorem algebraic : Cert.algebraic_KernelIdeal_ReferenceIdeal_pre_nodes_in_range_and_finite :=
  fun m g m' g' h e => ⟨fun c => KI.resultAt m c KI.lastPoint,
    (θ_run _ _ _).mono (fun r k c => ⟨(k.1 c).2, KI.kept_of m _ c (k.1 c).1⟩) (KI.run_main m g (KI.small_of m (Nodes.pre_finite m h))),
    (θ_run _ _ _).mono (fun r k c => ⟨(k.1 c).1.trans (result_same h c (e c)).symm, (k.1 c).2⟩) (RI.run m' g')⟩

end Cert.Proof

end
-- ==== Proof.lean ====
/-
  The claims, assembled.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_nodes_in_range
public import proofs.«01_k».proof.Proof.Gen.Pre_nodes_in_range_and_finite
public import proofs.«01_k».proof.Proof.K.Frame
public import proofs.«01_k».proof.Proof.KI.Frame
public import proofs.«01_k».proof.Proof.RI.Result
public import proofs.«01_k».proof.Proof.Same
public import Idealize.ShloMosaic.Adequacy
public import Idealize.ShloMosaic.Init

@[expose] public section

noncomputable section

namespace Cert.Proof

open Idealize.ShloMosaic Idealize.SL.Sem

/-- The literal of the mean over the nodes is the constant the idealised program names. -/
theorem preserves : Cert.preserves_Kernel_KernelIdeal :=
  IdealRules.named_const.statement Cert.KernelIdeal.κ "inv_n" .f32 0x38D1B717#32 ((1 / 10000 : ℝ) : EReal) rfl

/-- The reference runs from any memory. -/
theorem frame_reference : Cert.quiescent_ReferenceIdeal := fun m g _ =>
  (θ_run _ _ _).mono (fun _ h => ⟨fun c => (h.1 c).2, h.2⟩) (RI.run m g)

theorem claim : Cert.Claim :=
  ⟨Cert.Kernel.Gen.facts, Cert.KernelIdeal.Gen.facts, Cert.ReferenceIdeal.Gen.facts, Cert.Pre_nodes_in_range.Gen.facts,
    Cert.Pre_nodes_in_range_and_finite.Gen.facts,
    fun m g h => K.frame m g (K.small_of m (Nodes.pre_kernel m h)),
    fun m g h => KI.frame m g (KI.small_of m (Nodes.pre_kernelIdeal m h)),
    fun m g h => KI.frame m g (KI.small_of m (Nodes.pre_finite m h)),
    frame_reference,
    fun m g _ => frame_reference m g trivial,
    preserves, algebraic⟩

end Cert.Proof

end
